-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)) (v2 : (c : Dev Cert.Kernel6Ideal.nD) → Buf (Elt Ideal) ((c.tc : Thread Cert.Kernel6Ideal.nD Cert.Kernel6Ideal.τ).loc Cert.Kernel6Ideal.main_v14_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_v14_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_routed.lean ====
abbrev S164 : Shape := ⟨1, ![164]⟩
abbrev S1 : Shape := ⟨1, ![1]⟩
abbrev S83968x1024 : Shape := ⟨2, ![83968, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel
  shapeCasts_S1_S_ : S1.ShapeCasts S_

variable [Facts]

def fn {F : FTy → Type} [FloatOps F] (main_arg0 : IVec S164 32) (main_arg1 : IVec S1 32) (main_arg2 : FVec F S83968x1024 .f32) (main_arg3 : FVec F S4x32x1024x2048 .bf16) (main_arg4 : FVec F S4x32x2048 .f32) (main_arg5 : FVec F S4x32x1024x1024 .bf16) (main_arg6 : FVec F S4x32x1024 .f32) : IVec S_ 1 :=
  let main_c : IVec S_ 32 := constantI S_ 32 0#32
  let main_v0 : IVec S164 32 := broadcastInDim S164 ![] bcast_S_S164 main_c
  let main_v1 : IVec S164 1 := cmpi .sge main_arg0 main_v0
  let main_c_0 : IVec S_ 32 := constantI S_ 32 32#32
  let main_v2 : IVec S164 32 := broadcastInDim S164 ![] bcast_S_S164 main_c_0
  let main_v3 : IVec S164 1 := cmpi .slt main_arg0 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 164#32
  let main_v10 : IVec S_ 1 := cmpi .sle main_v9 main_c_3
  let main_v11 : IVec S_ 1 := andi main_v8 main_v10
  main_v11
-- ==== Kernel.lean ====
abbrev S8x2048x256 : Shape := ⟨3, ![8, 2048, 256]⟩
abbrev S8x16x64 : Shape := ⟨3, ![8, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S16x16 : Shape := ⟨2, ![16, 16]⟩
abbrev S_ : Shape := ⟨0, ![]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x1x1024 : Shape := ⟨3, ![256, 1, 1024]⟩
abbrev S256x2x1024 : Shape := ⟨3, ![256, 2, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x1024 : Shape := ⟨2, ![1, 1024]⟩
abbrev S2x1024 : Shape := ⟨2, ![2, 1024]⟩
abbrev S8x1024 : Shape := ⟨2, ![8, 1024]⟩
abbrev S1x8x1024 : Shape := ⟨3, ![1, 8, 1024]⟩
abbrev S1x8x2048 : Shape := ⟨3, ![1, 8, 2048]⟩
abbrev S16384x256 : Shape := ⟨2, ![16384, 256]⟩
abbrev S1x8x2048x256 : Shape := ⟨4, ![1, 8, 2048, 256]⟩
abbrev S1x2048x8x256 : Shape := ⟨4, ![1, 2048, 8, 256]⟩
abbrev S1x16384x256 : Shape := ⟨3, ![1, 16384, 256]⟩
abbrev S1x16384x2x128 : Shape := ⟨4, ![1, 16384, 2, 128]⟩
abbrev S1x2x16384x128 : Shape := ⟨4, ![1, 2, 16384, 128]⟩
abbrev S1x256 : Shape := ⟨2, ![1, 256]⟩
abbrev S1x2x512x128 : Shape := ⟨4, ![1, 2, 512, 128]⟩
abbrev S8x2048 : Shape := ⟨2, ![8, 2048]⟩
abbrev S512x2048 : Shape := ⟨2, ![512, 2048]⟩
abbrev S1x1x512x128 : Shape := ⟨4, ![1, 1, 512, 128]⟩
abbrev S512x128 : Shape := ⟨2, ![512, 128]⟩
abbrev S512x256 : Shape := ⟨2, ![512, 256]⟩

abbrev nBuf : Space → Nat
  | .hbm => 73
  | .vmem => 14
  | .smem => 0
  | _ => 0

abbrev bufTy : (tb : Table) → Fin (tcTables nBuf tb) → BufTy
  | .hbm, ⟨0, _⟩ => ⟨S8x2048x256, .f32⟩
  | .hbm, ⟨1, _⟩ => ⟨S8x16x64, .f32⟩
  | .hbm, ⟨2, _⟩ => ⟨S8x16x64, .f32⟩
  | .hbm, ⟨3, _⟩ => ⟨S16x64, .f32⟩
  | .hbm, ⟨4, _⟩ => ⟨S16x64, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S256, .f32⟩
  | .hbm, ⟨10, _⟩ => ⟨S256x256, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x16x64, .f32⟩
  | .hbm, ⟨19, _⟩ => ⟨S16x16x1x64, .f32⟩
  | .hbm, ⟨20, _⟩ => ⟨S16x1x16x1, .f32⟩
  | .hbm, ⟨21, _⟩ => ⟨S16x16x16x64, .f32⟩
  | .hbm, ⟨22, _⟩ => ⟨S16x16x16x64, .f32⟩
  | .hbm, ⟨23, _⟩ => ⟨S16x16x16x64, .f32⟩
  | .hbm, ⟨24, _⟩ => ⟨S256x1024, .f32⟩
  | .hbm, ⟨25, _⟩ => ⟨S16x16x64, .f32⟩
  | .hbm, ⟨26, _⟩ => ⟨S16x16x1x64, .f32⟩
  | .hbm, ⟨27, _⟩ => ⟨S16x1x16x1, .f32⟩
  | .hbm, ⟨28, _⟩ => ⟨S16x16x16x64, .f32⟩
  | .hbm, ⟨29, _⟩ => ⟨S16x16x16x64, .f32⟩
  | .hbm, ⟨30, _⟩ => ⟨S16x16x16x64, .f32⟩
  | .hbm, ⟨31, _⟩ => ⟨S256x1024, .f32⟩
  | .hbm, ⟨32, _⟩ => ⟨S256x1x1024, .f32⟩
  | .hbm, ⟨33, _⟩ => ⟨S256x1x1024, .f32⟩
  | .hbm, ⟨34, _⟩ => ⟨S256x2x1024, .f32⟩
  | .hbm, ⟨35, _⟩ => ⟨S256x2048, .f32⟩
  | .hbm, ⟨36, _⟩ => ⟨S256x2048, .bf16⟩
  | .hbm, ⟨37, _⟩ => ⟨S16x16x64, .f32⟩
  | .hbm, ⟨38, _⟩ => ⟨S16x64x16, .f32⟩
  | .hbm, ⟨39, _⟩ => ⟨S16x64x1x16, .f32⟩
  | .hbm, ⟨40, _⟩ => ⟨S16x1x16x1, .f32⟩
  | .hbm, ⟨41, _⟩ => ⟨S16x64x16x16, .f32⟩
  | .hbm, ⟨42, _⟩ => ⟨S16x64x16x16, .f32⟩
  | .hbm, ⟨43, _⟩ => ⟨S16x64x16x16, .f32⟩
  | .hbm, ⟨44, _⟩ => ⟨S1024x256, .f32⟩
  | .hbm, ⟨45, _⟩ => ⟨S16x64x16, .f32⟩
  | .hbm, ⟨46, _⟩ => ⟨S16x64x1x16, .f32⟩
  | .hbm, ⟨47, _⟩ => ⟨S16x1x16x1, .f32⟩
  | .hbm, ⟨48, _⟩ => ⟨S16x64x16x16, .f32⟩
  | .hbm, ⟨49, _⟩ => ⟨S16x64x16x16, .f32⟩
  | .hbm, ⟨50, _⟩ => ⟨S16x64x16x16, .f32⟩
  | .hbm, ⟨51, _⟩ => ⟨S1024x256, .f32⟩
  | .hbm, ⟨52, _⟩ => ⟨S2048x256, .f32⟩
  | .hbm, ⟨53, _⟩ => ⟨S2048x256, .bf16⟩
  | .hbm, ⟨54, _⟩ => ⟨S1x1024, .f32⟩
  | .hbm, ⟨55, _⟩ => ⟨S1x1024, .f32⟩
  | .hbm, ⟨56, _⟩ => ⟨S2x1024, .f32⟩
  | .hbm, ⟨57, _⟩ => ⟨S_, .i32⟩
  | .hbm, ⟨58, _⟩ => ⟨S_, .f32⟩
  | .hbm, ⟨59, _⟩ => ⟨S8x1024, .f32⟩
  | .hbm, ⟨60, _⟩ => ⟨S1x8x1024, .f32⟩
  | .hbm, ⟨61, _⟩ => ⟨S1x8x1024, .f32⟩
  | .hbm, ⟨62, _⟩ => ⟨S1x8x2048, .f32⟩
  | .hbm, ⟨63, _⟩ => ⟨S16384x256, .f32⟩
  | .hbm, ⟨64, _⟩ => ⟨S1x8x2048x256, .f32⟩
  | .hbm, ⟨65, _⟩ => ⟨S1x2048x8x256, .f32⟩
  | .hbm, ⟨66, _⟩ => ⟨S1x16384x256, .f32⟩
  | .hbm, ⟨67, _⟩ => ⟨S1x16384x2x128, .f32⟩
  | .hbm, ⟨68, _⟩ => ⟨S1x2x16384x128, .f32⟩
  | .hbm, ⟨69, _⟩ => ⟨S1x256, .f32⟩
  | .hbm, ⟨70, _⟩ => ⟨S256x256, .bf16⟩
  | .hbm, ⟨71, _⟩ => ⟨S1x2x16384x128, .f32⟩
  | .hbm, ⟨72, _⟩ => ⟨S1x8x2048, .f32⟩
  | .local _ .vmem, ⟨0, _⟩ => ⟨S1x2x512x128, .f32⟩
  | .local _ .vmem, ⟨1, _⟩ => ⟨S1x2x512x128, .f32⟩
  | .local _ .vmem, ⟨2, _⟩ => ⟨S1x8x2048, .f32⟩
  | .local _ .vmem, ⟨3, _⟩ => ⟨S8x1024, .f32⟩
  | .local _ .vmem, ⟨4, _⟩ => ⟨S256x2048, .bf16⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S1x2x512x128, .f32⟩
  | .local _ .vmem, ⟨9, _⟩ => ⟨S1x2x512x128, .f32⟩
  | .local _ .vmem, ⟨10, _⟩ => ⟨S1x8x2048, .f32⟩
  | .local _ .vmem, ⟨11, _⟩ => ⟨S8x2048, .f32⟩
  | .local _ .vmem, ⟨12, _⟩ => ⟨S512x2048, .f32⟩
  | .local _ .vmem, ⟨13, _⟩ => ⟨S512x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_0 : Ref sig .tc := ⟨.hbm, 57, rfl⟩
abbrev main_call0_v0 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_18 : BitVec 32 := 0#32
  let c64_i32 : BitVec 32 := 64#32
  let v25 : BitVec 32 := Scalar.addi c0_i32_18 c64_i32
  let c1_i32 : BitVec 32 := 1#32
  ⟨c0_i32_18, v25, c1_i32⟩
def k0_mult1 (k0_t1 : Fin k0_t1_loop.trips) : BitVec 32 :=
  let c0_i32_18 : BitVec 32 := 0#32
  let c1_i32 : BitVec 32 := 1#32
  let arg14 : BitVec 32 := Scf.iv c0_i32_18 c1_i32 k0_t1
  let c8_i32 : BitVec 32 := 8#32
  let v80 : BitVec 32 := Scalar.muli arg14 c8_i32
  v80
def k0_off1 (k0_t1 : Fin k0_t1_loop.trips) : Fin 2 → Nat :=
  let c0_i32_18 : BitVec 32 := 0#32
  let c1_i32 : BitVec 32 := 1#32
  let arg14 : BitVec 32 := Scf.iv c0_i32_18 c1_i32 k0_t1
  let c8_i32 : BitVec 32 := 8#32
  let v80 : BitVec 32 := Scalar.muli arg14 c8_i32
  let v81 : BitVec 32 := v80
  let v85 : Index := Scalar.indexCast v81
  let c0_54 : Index := 0#32
  ![v85.toNat, 0]
def k0_off2 (k0_t1 : Fin k0_t1_loop.trips) : Fin 2 → Nat :=
  let c0_i32_18 : BitVec 32 := 0#32
  let c1_i32 : BitVec 32 := 1#32
  let arg14 : BitVec 32 := Scf.iv c0_i32_18 c1_i32 k0_t1
  let c8_i32 : BitVec 32 := 8#32
  let v80 : BitVec 32 := Scalar.muli arg14 c8_i32
  let v81 : BitVec 32 := v80
  let v91 : Index := Scalar.indexCast v81
  let c1024_55 : Index := 1024#32
  ![v91.toNat, 1024]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S8x2048x256 : Shape := ⟨3, ![8, 2048, 256]⟩
abbrev S8x16x64 : Shape := ⟨3, ![8, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S8x2048x16x16 : Shape := ⟨4, ![8, 2048, 16, 16]⟩
abbrev S16x8x2048x64 : Shape := ⟨4, ![16, 8, 2048, 64]⟩
abbrev S8x2048x16x64 : Shape := ⟨4, ![8, 2048, 16, 64]⟩
abbrev S2048x8x16x64 : Shape := ⟨4, ![2048, 8, 16, 64]⟩
abbrev S_ : Shape := ⟨0, ![]⟩
abbrev S1x8x16x64 : Shape := ⟨4, ![1, 8, 16, 64]⟩
abbrev S1x16x64 : Shape := ⟨3, ![1, 16, 64]⟩
abbrev S16x8x2048x16 : Shape := ⟨4, ![16, 8, 2048, 16]⟩
abbrev S1x1x256 : Shape := ⟨3, ![1, 1, 256]⟩
abbrev S1x8x2048x2x128 : Shape := ⟨5, ![1, 8, 2048, 2, 128]⟩
abbrev S1x2x2048x8x128 : Shape := ⟨5, ![1, 2, 2048, 8, 128]⟩
abbrev S1x2x16384x128 : Shape := ⟨4, ![1, 2, 16384, 128]⟩
abbrev S1x8x1024 : Shape := ⟨3, ![1, 8, 1024]⟩
abbrev S1x8x2048 : Shape := ⟨3, ![1, 8, 2048]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x16x64, .f32⟩
  | .hbm, ⟨2, _⟩ => ⟨S8x16x64, .f32⟩
  | .hbm, ⟨3, _⟩ => ⟨S16x64, .f32⟩
  | .hbm, ⟨4, _⟩ => ⟨S16x64, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S256, .f32⟩
  | .hbm, ⟨10, _⟩ => ⟨S256x256, .f32⟩
  | .hbm, ⟨11, _⟩ => ⟨S8x2048x16x16, .f32⟩
  | .hbm, ⟨12, _⟩ => ⟨S16x8x2048x64, .f32⟩
  | .hbm, ⟨13, _⟩ => ⟨S8x2048x16x64, .f32⟩
  | .hbm, ⟨14, _⟩ => ⟨S16x8x2048x64, .f32⟩
  | .hbm, ⟨15, _⟩ => ⟨S8x2048x16x64, .f32⟩
  | .hbm, ⟨16, _⟩ => ⟨S2048x8x16x64, .f32⟩
  | .hbm, ⟨17, _⟩ => ⟨S2048x8x16x64, .f32⟩
  | .hbm, ⟨18, _⟩ => ⟨S_, .f32⟩
  | .hbm, ⟨19, _⟩ => ⟨S2048x8x16x64, .f32⟩
  | .hbm, ⟨20, _⟩ => ⟨S_, .f32⟩
  | .hbm, ⟨21, _⟩ => ⟨S2048x8x16x64, .f32⟩
  | .hbm, ⟨22, _⟩ => ⟨S_, .i32⟩
  | .hbm, ⟨23, _⟩ => ⟨S2048x8x16x64, .f32⟩
  | .hbm, ⟨24, _⟩ => ⟨S2048x8x16x64, .f32⟩
  | .hbm, ⟨25, _⟩ => ⟨S16x64, .f32⟩
  | .hbm, ⟨26, _⟩ => ⟨S16x64, .f32⟩
  | .hbm, ⟨27, _⟩ => ⟨S_, .i32⟩
  | .hbm, ⟨28, _⟩ => ⟨S8x16x64, .f32⟩
  | .hbm, ⟨29, _⟩ => ⟨S8x16x64, .f32⟩
  | .hbm, ⟨30, _⟩ => ⟨S2048x8x16x64, .f32⟩
  | .hbm, ⟨31, _⟩ => ⟨S2048x8x16x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x8x16x64, .f32⟩
  | .hbm, ⟨38, _⟩ => ⟨S8x16x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x8x16x64, .f32⟩
  | .hbm, ⟨43, _⟩ => ⟨S8x16x64, .f32⟩
  | .hbm, ⟨44, _⟩ => ⟨S1x16x64, .f32⟩
  | .hbm, ⟨45, _⟩ => ⟨S8x16x64, .f32⟩
  | .hbm, ⟨46, _⟩ => ⟨S8x16x64, .f32⟩
  | .hbm, ⟨47, _⟩ => ⟨S1x16x64, .f32⟩
  | .hbm, ⟨48, _⟩ => ⟨S8x16x64, .f32⟩
  | .hbm, ⟨49, _⟩ => ⟨S8x16x64, .f32⟩
  | .hbm, ⟨50, _⟩ => ⟨S8x16x64, .f32⟩
  | .hbm, ⟨51, _⟩ => ⟨S8x16x64, .f32⟩
  | .hbm, ⟨52, _⟩ => ⟨S1x16x64, .f32⟩
  | .hbm, ⟨53, _⟩ => ⟨S8x16x64, .f32⟩
  | .hbm, ⟨54, _⟩ => ⟨S8x16x64, .f32⟩
  | .hbm, ⟨55, _⟩ => ⟨S1x16x64, .f32⟩
  | .hbm, ⟨56, _⟩ => ⟨S8x16x64, .f32⟩
  | .hbm, ⟨57, _⟩ => ⟨S8x16x64, .f32⟩
  | .hbm, ⟨58, _⟩ => ⟨S8x16x64, .f32⟩
  | .hbm, ⟨59, _⟩ => ⟨S8x16x64, .f32⟩
  | .hbm, ⟨60, _⟩ => ⟨S1x8x16x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S2048x8x16x64, .f32⟩
  | .hbm, ⟨65, _⟩ => ⟨S1x8x16x64, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S2048x8x16x64, .f32⟩
  | .hbm, ⟨70, _⟩ => ⟨S_, .i32⟩
  | .hbm, ⟨71, _⟩ => ⟨S_, .i32⟩
  | .hbm, ⟨72, _⟩ => ⟨S8x2048x16x64, .f32⟩
  | .hbm, ⟨73, _⟩ => ⟨S8x2048x16x64, .f32⟩
  | .hbm, ⟨74, _⟩ => ⟨S16x8x2048x16, .f32⟩
  | .hbm, ⟨75, _⟩ => ⟨S8x2048x16x16, .f32⟩
  | .hbm, ⟨76, _⟩ => ⟨S16x16x64, .f32⟩
  | .hbm, ⟨77, _⟩ => ⟨S16x8x2048x16, .f32⟩
  | .hbm, ⟨78, _⟩ => ⟨S8x2048x16x16, .f32⟩
  | .hbm, ⟨79, _⟩ => ⟨S8x2048x16x16, .f32⟩
  | .hbm, ⟨80, _⟩ => ⟨S8x2048x256, .f32⟩
  | .hbm, ⟨81, _⟩ => ⟨S1x1x256, .f32⟩
  | .hbm, ⟨82, _⟩ => ⟨S8x2048x256, .f32⟩
  | .hbm, ⟨83, _⟩ => ⟨S8x2048x256, .f32⟩
  | .hbm, ⟨84, _⟩ => ⟨S8x2048x256, .f32⟩
  | .hbm, ⟨85, _⟩ => ⟨S8x2048x256, .f32⟩
  | .hbm, ⟨86, _⟩ => ⟨S8x2048x256, .f32⟩
  | .hbm, ⟨87, _⟩ => ⟨S_, .f32⟩
  | .hbm, ⟨88, _⟩ => ⟨S8x2048x256, .f32⟩
  | .hbm, ⟨89, _⟩ => ⟨S8x2048x256, .f32⟩
  | .hbm, ⟨90, _⟩ => ⟨S8x2048x256, .f32⟩
  | .hbm, ⟨91, _⟩ => ⟨S_, .f32⟩
  | .hbm, ⟨92, _⟩ => ⟨S8x2048x256, .f32⟩
  | .hbm, ⟨93, _⟩ => ⟨S8x2048x256, .f32⟩
  | .hbm, ⟨94, _⟩ => ⟨S8x2048x256, .f32⟩
  | .hbm, ⟨95, _⟩ => ⟨S_, .f32⟩
  | .hbm, ⟨96, _⟩ => ⟨S8x2048x256, .f32⟩
  | .hbm, ⟨97, _⟩ => ⟨S8x2048x256, .f32⟩
  | .hbm, ⟨98, _⟩ => ⟨S_, .f32⟩
  | .hbm, ⟨99, _⟩ => ⟨S8x2048x256, .f32⟩
  | .hbm, ⟨100, _⟩ => ⟨S8x2048x256, .f32⟩
  | .hbm, ⟨101, _⟩ => ⟨S8x2048x256, .f32⟩
  | .hbm, ⟨102, _⟩ => ⟨S8x2048x256, .f32⟩
  | .hbm, ⟨103, _⟩ => ⟨S8x2048x256, .f32⟩
  | .hbm, ⟨104, _⟩ => ⟨S8x2048x256, .f32⟩
  | .hbm, ⟨105, _⟩ => ⟨S_, .f32⟩
  | .hbm, ⟨106, _⟩ => ⟨S8x2048x256, .f32⟩
  | .hbm, ⟨107, _⟩ => ⟨S8x2048x256, .f32⟩
  | .hbm, ⟨108, _⟩ => ⟨S_, .f32⟩
  | .hbm, ⟨109, _⟩ => ⟨S8x2048x256, .f32⟩
  | .hbm, ⟨110, _⟩ => ⟨S8x2048x256, .f32⟩
  | .hbm, ⟨111, _⟩ => ⟨S8x2048x256, .f32⟩
  | .hbm, ⟨112, _⟩ => ⟨S1x8x2048x2x128, .f32⟩
  | .hbm, ⟨113, _⟩ => ⟨S1x2x2048x8x128, .f32⟩
  | .hbm, ⟨114, _⟩ => ⟨S1x2x16384x128, .f32⟩
  | .hbm, ⟨115, _⟩ => ⟨S1x8x1024, .f32⟩
  | .hbm, ⟨116, _⟩ => ⟨S1x8x1024, .f32⟩
  | .hbm, ⟨117, _⟩ => ⟨S1x8x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_c : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v9_5 : Ref sig .tc := ⟨.hbm, 28, rfl⟩
abbrev main_v9_6 : Ref sig .tc := ⟨.hbm, 29, rfl⟩
abbrev main_v9_7 : Ref sig .tc := ⟨.hbm, 30, rfl⟩
abbrev main_v9_8 : Ref sig .tc := ⟨.hbm, 31, rfl⟩
abbrev main_while0c_c_15 : Ref sig .tc := ⟨.hbm, 32, rfl⟩
abbrev main_while0c_v50 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v50 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v51 : Ref sig .tc := ⟨.hbm, 43, rfl⟩
abbrev main_while0b_v52 : Ref sig .tc := ⟨.hbm, 44, rfl⟩
abbrev main_while0b_v53 : Ref sig .tc := ⟨.hbm, 45, rfl⟩
abbrev main_while0b_v54 : Ref sig .tc := ⟨.hbm, 46, rfl⟩
abbrev main_while0b_v55 : Ref sig .tc := ⟨.hbm, 47, rfl⟩
abbrev main_while0b_v56 : Ref sig .tc := ⟨.hbm, 48, rfl⟩
abbrev main_while0b_v57 : Ref sig .tc := ⟨.hbm, 49, rfl⟩
abbrev main_while0b_v58 : Ref sig .tc := ⟨.hbm, 50, rfl⟩
abbrev main_while0b_v59 : Ref sig .tc := ⟨.hbm, 51, rfl⟩
abbrev main_while0b_v60 : Ref sig .tc := ⟨.hbm, 52, rfl⟩
abbrev main_while0b_v61 : Ref sig .tc := ⟨.hbm, 53, rfl⟩
abbrev main_while0b_v62 : Ref sig .tc := ⟨.hbm, 54, rfl⟩
abbrev main_while0b_v63 : Ref sig .tc := ⟨.hbm, 55, rfl⟩
abbrev main_while0b_v64 : Ref sig .tc := ⟨.hbm, 56, rfl⟩
abbrev main_while0b_v65 : Ref sig .tc := ⟨.hbm, 57, rfl⟩
abbrev main_while0b_v66 : Ref sig .tc := ⟨.hbm, 58, rfl⟩
abbrev main_while0b_v67 : Ref sig .tc := ⟨.hbm, 59, rfl⟩
abbrev main_while0b_call2_v0 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_v68 : Ref sig .tc := ⟨.hbm, 64, rfl⟩
abbrev main_while0b_call3_v0 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_v69 : Ref sig .tc := ⟨.hbm, 69, rfl⟩
abbrev main_while0b_c_15 : Ref sig .tc := ⟨.hbm, 70, rfl⟩
abbrev main_while0b_v70 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_cst_1 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_2 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_cst_3 : Ref sig .tc := ⟨.hbm, 95, rfl⟩
abbrev main_v31 : Ref sig .tc := ⟨.hbm, 96, rfl⟩
abbrev main_v32 : Ref sig .tc := ⟨.hbm, 97, rfl⟩
abbrev main_cst_4 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_5 : Ref sig .tc := ⟨.hbm, 105, rfl⟩
abbrev main_v39 : Ref sig .tc := ⟨.hbm, 106, rfl⟩
abbrev main_v40 : Ref sig .tc := ⟨.hbm, 107, rfl⟩
abbrev main_cst_6 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S164 : Shape := ⟨1, ![164]⟩
abbrev S1 : Shape := ⟨1, ![1]⟩
abbrev S83968x1024 : Shape := ⟨2, ![83968, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x8x128x2 : Shape := ⟨5, ![4, 32, 8, 128, 2]⟩
abbrev S4x32x8x2x128 : Shape := ⟨5, ![4, 32, 8, 2, 128]⟩
abbrev S4x32x1x2048 : Shape := ⟨4, ![4, 32, 1, 2048]⟩
abbrev S671744x128 : Shape := ⟨2, ![671744, 128]⟩
abbrev S4x32x1x1024 : Shape := ⟨4, ![4, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S2x512x1024 : Shape := ⟨3, ![2, 512, 1024]⟩
abbrev S512x128 : Shape := ⟨2, ![512, 128]⟩
abbrev S512x1024 : Shape := ⟨2, ![512, 1024]⟩
abbrev S1x1x1024x512 : Shape := ⟨4, ![1, 1, 1024, 512]⟩
abbrev S1024x512 : Shape := ⟨2, ![1024, 512]⟩
abbrev S512x512 : Shape := ⟨2, ![512, 512]⟩
abbrev S1x1x1x512 : Shape := ⟨4, ![1, 1, 1, 512]⟩
abbrev S1x512 : Shape := ⟨2, ![1, 512]⟩
abbrev S512x256 : Shape := ⟨2, ![512, 256]⟩
abbrev S1x512x256 : Shape := ⟨3, ![1, 512, 256]⟩
abbrev S1x512x1024 : Shape := ⟨3, ![1, 512, 1024]⟩
abbrev S1024x1024 : Shape := ⟨2, ![1024, 1024]⟩
abbrev S1x1024 : Shape := ⟨2, ![1, 1024]⟩

abbrev nBuf : Space → Nat
  | .hbm => 11
  | .vmem => 13
  | .smem => 2
  | _ => 0

abbrev bufTy : (tb : Table) → Fin (tcTables nBuf tb) → BufTy
  | .hbm, ⟨0, _⟩ => ⟨S83968x1024, .f32⟩
  | .hbm, ⟨1, _⟩ => ⟨S4x32x1024x2048, .bf16⟩
  | .hbm, ⟨2, _⟩ => ⟨S4x32x2048, .f32⟩
  | .hbm, ⟨3, _⟩ => ⟨S4x32x1024x1024, .bf16⟩
  | .hbm, ⟨4, _⟩ => ⟨S4x32x1024, .f32⟩
  | .hbm, ⟨5, _⟩ => ⟨S4x32x8x128x2, .f32⟩
  | .hbm, ⟨6, _⟩ => ⟨S4x32x8x2x128, .f32⟩
  | .hbm, ⟨7, _⟩ => ⟨S4x32x1x2048, .f32⟩
  | .hbm, ⟨8, _⟩ => ⟨S671744x128, .f32⟩
  | .hbm, ⟨9, _⟩ => ⟨S4x32x1x1024, .f32⟩
  | .hbm, ⟨10, _⟩ => ⟨S671744x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S2x512x1024, .bf16⟩
  | .local _ .smem, ⟨0, _⟩ => ⟨S164, .i32⟩
  | .local _ .smem, ⟨1, _⟩ => ⟨S1, .i32⟩
  | _, _ => ⟨S83968x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![165], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c163_i32 : BitVec 32 := 163#32
  let v0 : BitVec 32 := Scalar.minsi arg0 c163_i32
  let v1 : Index := Scalar.indexCast v0
  ![v1.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let c0_11 : Index := 0#32
  let c0_12 : Index := 0#32
  ![v28.toNat, 0, 0]
def k0_off4 (i : grid0.Coords) : Fin 3 → Nat :=
  let arg0 : BitVec 32 := BitVec.ofNat 32 (i 0).val
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi arg0 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v115 : Index := Scalar.indexCast v63
  let c0_69 : Index := 0#32
  let c0_70 : Index := 0#32
  ![v115.toNat, 0, 0]
def k0_off5 (i : grid0.Coords) : Fin 3 → Nat :=
  let arg0 : BitVec 32 := BitVec.ofNat 32 (i 0).val
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi arg0 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v152 : Index := Scalar.indexCast v63
  let c0_87 : Index := 0#32
  let c256 : Index := 256#32
  ![v152.toNat, 0, 256]
def k0_off6 (i : grid0.Coords) : Fin 3 → Nat :=
  let arg0 : BitVec 32 := BitVec.ofNat 32 (i 0).val
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi arg0 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v189 : Index := Scalar.indexCast v63
  let c0_104 : Index := 0#32
  let c512_105 : Index := 512#32
  ![v189.toNat, 0, 512]
def k0_off7 (i : grid0.Coords) : Fin 3 → Nat :=
  let arg0 : BitVec 32 := BitVec.ofNat 32 (i 0).val
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi arg0 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v226 : Index := Scalar.indexCast v63
  let c0_122 : Index := 0#32
  let c768 : Index := 768#32
  ![v226.toNat, 0, 768]
def k0_off8 (i : grid0.Coords) : Fin 3 → Nat :=
  let arg0 : BitVec 32 := BitVec.ofNat 32 (i 0).val
  let c1_i32 : BitVec 32 := 1#32
  let v17 : BitVec 32 := Scalar.subi arg0 c1_i32
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let c0_11 : Index := 0#32
  let c0_12 : Index := 0#32
  ![v28.toNat, 0, 0]
def k0_cond2 (i : grid0.Coords) (v0 : BitVec 32) : BitVec 1 :=
  let arg0 : BitVec 32 := BitVec.ofNat 32 (i 0).val
  let c0_i32_1 : BitVec 32 := 0#32
  let v4 : BitVec 1 := Scalar.cmpi .sgt arg0 c0_i32_1
  let v5 : BitVec 1 := Scalar.cmpi .slt arg0 v0
  let v6 : BitVec 1 := Scalar.andi v4 v5
  let v7 : BitVec 32 := Scalar.extui v6
  let c0_i32_2 : BitVec 32 := 0#32
  let v8 : BitVec 1 := Scalar.cmpi .ne v7 c0_i32_2
  v8

def k0_cond3 (i : grid0.Coords) (v0 : BitVec 32) : BitVec 1 :=
  let arg0 : BitVec 32 := BitVec.ofNat 32 (i 0).val
  let c0_i32_3 : BitVec 32 := 0#32
  let v9 : BitVec 1 := Scalar.cmpi .sgt arg0 c0_i32_3
  let v10 : BitVec 1 := Scalar.cmpi .eq arg0 v0
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) (v0 : BitVec 32) : BitVec 1 :=
  let arg0 : BitVec 32 := BitVec.ofNat 32 (i 0).val
  let v14 : BitVec 1 := Scalar.cmpi .sgt arg0 v0
  let v15 : BitVec 32 := Scalar.extui v14
  let c0_i32_5 : BitVec 32 := 0#32
  let v16 : BitVec 1 := Scalar.cmpi .ne v15 c0_i32_5
  v16

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let c163_i32 : BitVec 32 := 163#32
  let v0 : BitVec 32 := Scalar.minsi arg0 c163_i32
  let v1 : Index := Scalar.indexCast v0
  let v2 : BitVec 32 := pf.at 0 (Rect.unit (s := S164) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let c163_i32 : BitVec 32 := 163#32
  let v0 : BitVec 32 := Scalar.minsi arg0 c163_i32
  let v1 : Index := Scalar.indexCast v0
  let v2 : BitVec 32 := pf.at 0 (Rect.unit (s := S164) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (k0_off2_inb : ∀ i : grid0.Coords, ∀ a, (k0_off2 i) a + S1.size a ≤ S164.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S164) ![v2.toNat] S1.size (k0_off2_inb i)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_4 (k0_off2_inb : ∀ i : grid0.Coords, ∀ a, (k0_off2 i) a + S1.size a ≤ S164.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S164) ![v2.toNat] S1.size (k0_off2_inb i)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S164 : Shape := ⟨1, ![164]⟩
abbrev S1 : Shape := ⟨1, ![1]⟩
abbrev S83968x1024 : Shape := ⟨2, ![83968, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S164x1 : Shape := ⟨2, ![164, 1]⟩
abbrev S32 : Shape := ⟨1, ![32]⟩
abbrev S1x32 : Shape := ⟨2, ![1, 32]⟩
abbrev S164x32 : Shape := ⟨2, ![164, 32]⟩
abbrev S1x1 : Shape := ⟨2, ![1, 1]⟩
abbrev S164x1x32 : Shape := ⟨3, ![164, 1, 32]⟩
abbrev S164x512x32 : Shape := ⟨3, ![164, 512, 32]⟩
abbrev S83968x32 : Shape := ⟨2, ![83968, 32]⟩
abbrev S1x32x1024x2048 : Shape := ⟨4, ![1, 32, 1024, 2048]⟩
abbrev S32x1024x2048 : Shape := ⟨3, ![32, 1024, 2048]⟩
abbrev S32x1024x8x2x128 : Shape := ⟨5, ![32, 1024, 8, 2, 128]⟩
abbrev S32x1024x8x1x128 : Shape := ⟨5, ![32, 1024, 8, 1, 128]⟩
abbrev S32x1024x8x128 : Shape := ⟨4, ![32, 1024, 8, 128]⟩
abbrev S32x1024x1024 : Shape := ⟨3, ![32, 1024, 1024]⟩
abbrev S1x32x2048 : Shape := ⟨3, ![1, 32, 2048]⟩
abbrev S32x2048 : Shape := ⟨2, ![32, 2048]⟩
abbrev S32x1x1024x2 : Shape := ⟨4, ![32, 1, 1024, 2]⟩
abbrev S32x1024x83968 : Shape := ⟨3, ![32, 1024, 83968]⟩
abbrev S32x83968x1024 : Shape := ⟨3, ![32, 83968, 1024]⟩
abbrev S32x1x1024x1 : Shape := ⟨4, ![32, 1, 1024, 1]⟩
abbrev S32x1x1024 : Shape := ⟨3, ![32, 1, 1024]⟩
abbrev S_ : Shape := ⟨0, ![]⟩
abbrev S1x32x1024x1024 : Shape := ⟨4, ![1, 32, 1024, 1024]⟩
abbrev S1x32x1024 : Shape := ⟨3, ![1, 32, 1024]⟩
abbrev S32x1024 : Shape := ⟨2, ![32, 1024]⟩
abbrev S32x83968 : Shape := ⟨2, ![32, 83968]⟩
abbrev S32x83968x1 : Shape := ⟨3, ![32, 83968, 1]⟩
abbrev S671744x128 : Shape := ⟨2, ![671744, 128]⟩

abbrev nBuf : Space → Nat
  | .hbm => 92
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S83968x1024, .f32⟩
  | .hbm, ⟨3, _⟩ => ⟨S4x32x1024x2048, .bf16⟩
  | .hbm, ⟨4, _⟩ => ⟨S4x32x2048, .f32⟩
  | .hbm, ⟨5, _⟩ => ⟨S4x32x1024x1024, .bf16⟩
  | .hbm, ⟨6, _⟩ => ⟨S4x32x1024, .f32⟩
  | .hbm, ⟨7, _⟩ => ⟨S164, .i32⟩
  | .hbm, ⟨8, _⟩ => ⟨S164x1, .i32⟩
  | .hbm, ⟨9, _⟩ => ⟨S32, .i32⟩
  | .hbm, ⟨10, _⟩ => ⟨S1x32, .i32⟩
  | .hbm, ⟨11, _⟩ => ⟨S164x32, .i32⟩
  | .hbm, ⟨12, _⟩ => ⟨S164x32, .i32⟩
  | .hbm, ⟨13, _⟩ => ⟨S164x32, .i1⟩
  | .hbm, ⟨14, _⟩ => ⟨S164x1, .i32⟩
  | .hbm, ⟨15, _⟩ => ⟨S1x1, .i32⟩
  | .hbm, ⟨16, _⟩ => ⟨S164x1, .i32⟩
  | .hbm, ⟨17, _⟩ => ⟨S164x1, .i1⟩
  | .hbm, ⟨18, _⟩ => ⟨S164x32, .i1⟩
  | .hbm, ⟨19, _⟩ => ⟨S164x32, .i1⟩
  | .hbm, ⟨20, _⟩ => ⟨S164x32, .f32⟩
  | .hbm, ⟨21, _⟩ => ⟨S164x1x32, .f32⟩
  | .hbm, ⟨22, _⟩ => ⟨S164x512x32, .f32⟩
  | .hbm, ⟨23, _⟩ => ⟨S83968x32, .f32⟩
  | .hbm, ⟨24, _⟩ => ⟨S1x32x1024x2048, .bf16⟩
  | .hbm, ⟨25, _⟩ => ⟨S32x1024x2048, .bf16⟩
  | .hbm, ⟨26, _⟩ => ⟨S32x1024x2048, .f32⟩
  | .hbm, ⟨27, _⟩ => ⟨S32x1024x8x2x128, .f32⟩
  | .hbm, ⟨28, _⟩ => ⟨S32x1024x8x1x128, .f32⟩
  | .hbm, ⟨29, _⟩ => ⟨S32x1024x8x128, .f32⟩
  | .hbm, ⟨30, _⟩ => ⟨S32x1024x1024, .f32⟩
  | .hbm, ⟨31, _⟩ => ⟨S32x1024x8x1x128, .f32⟩
  | .hbm, ⟨32, _⟩ => ⟨S32x1024x8x128, .f32⟩
  | .hbm, ⟨33, _⟩ => ⟨S32x1024x1024, .f32⟩
  | .hbm, ⟨34, _⟩ => ⟨S1x32x2048, .f32⟩
  | .hbm, ⟨35, _⟩ => ⟨S32x2048, .f32⟩
  | .hbm, ⟨36, _⟩ => ⟨S32x1x1024x2, .f32⟩
  | .hbm, ⟨37, _⟩ => ⟨S32x1024x83968, .f32⟩
  | .hbm, ⟨38, _⟩ => ⟨S32x83968x1024, .f32⟩
  | .hbm, ⟨39, _⟩ => ⟨S32x1x1024x1, .f32⟩
  | .hbm, ⟨40, _⟩ => ⟨S32x1x1024, .f32⟩
  | .hbm, ⟨41, _⟩ => ⟨S32x83968x1024, .f32⟩
  | .hbm, ⟨42, _⟩ => ⟨S32x83968x1024, .f32⟩
  | .hbm, ⟨43, _⟩ => ⟨S_, .f32⟩
  | .hbm, ⟨44, _⟩ => ⟨S32x83968x1024, .f32⟩
  | .hbm, ⟨45, _⟩ => ⟨S32x83968x1024, .f32⟩
  | .hbm, ⟨46, _⟩ => ⟨S32x1024x83968, .f32⟩
  | .hbm, ⟨47, _⟩ => ⟨S32x83968x1024, .f32⟩
  | .hbm, ⟨48, _⟩ => ⟨S32x1x1024x1, .f32⟩
  | .hbm, ⟨49, _⟩ => ⟨S32x1x1024, .f32⟩
  | .hbm, ⟨50, _⟩ => ⟨S32x83968x1024, .f32⟩
  | .hbm, ⟨51, _⟩ => ⟨S32x83968x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32x83968x1024, .f32⟩
  | .hbm, ⟨56, _⟩ => ⟨S32x83968x1024, .f32⟩
  | .hbm, ⟨57, _⟩ => ⟨S_, .f32⟩
  | .hbm, ⟨58, _⟩ => ⟨S32x83968x1024, .f32⟩
  | .hbm, ⟨59, _⟩ => ⟨S32x83968x1024, .f32⟩
  | .hbm, ⟨60, _⟩ => ⟨S_, .f32⟩
  | .hbm, ⟨61, _⟩ => ⟨S32x83968x1024, .f32⟩
  | .hbm, ⟨62, _⟩ => ⟨S32x83968x1024, .f32⟩
  | .hbm, ⟨63, _⟩ => ⟨S32x83968x1024, .f32⟩
  | .hbm, ⟨64, _⟩ => ⟨S32x83968x1024, .f32⟩
  | .hbm, ⟨65, _⟩ => ⟨S_, .f32⟩
  | .hbm, ⟨66, _⟩ => ⟨S32x83968x1024, .f32⟩
  | .hbm, ⟨67, _⟩ => ⟨S32x83968x1024, .f32⟩
  | .hbm, ⟨68, _⟩ => ⟨S_, .f32⟩
  | .hbm, ⟨69, _⟩ => ⟨S32x83968x1024, .f32⟩
  | .hbm, ⟨70, _⟩ => ⟨S32x83968x1024, .f32⟩
  | .hbm, ⟨71, _⟩ => ⟨S32x83968x1024, .f32⟩
  | .hbm, ⟨72, _⟩ => ⟨S_, .f32⟩
  | .hbm, ⟨73, _⟩ => ⟨S32x83968x1024, .f32⟩
  | .hbm, ⟨74, _⟩ => ⟨S32x83968x1024, .f32⟩
  | .hbm, ⟨75, _⟩ => ⟨S32x83968x1024, .f32⟩
  | .hbm, ⟨76, _⟩ => ⟨S1x32x1024x1024, .bf16⟩
  | .hbm, ⟨77, _⟩ => ⟨S32x1024x1024, .bf16⟩
  | .hbm, ⟨78, _⟩ => ⟨S32x1024x1024, .f32⟩
  | .hbm, ⟨79, _⟩ => ⟨S32x83968x1024, .f32⟩
  | .hbm, ⟨80, _⟩ => ⟨S1x32x1024, .f32⟩
  | .hbm, ⟨81, _⟩ => ⟨S32x1024, .f32⟩
  | .hbm, ⟨82, _⟩ => ⟨S32x1x1024, .f32⟩
  | .hbm, ⟨83, _⟩ => ⟨S32x83968x1024, .f32⟩
  | .hbm, ⟨84, _⟩ => ⟨S32x83968x1024, .f32⟩
  | .hbm, ⟨85, _⟩ => ⟨S32x83968, .f32⟩
  | .hbm, ⟨86, _⟩ => ⟨S32x83968x1, .f32⟩
  | .hbm, ⟨87, _⟩ => ⟨S32x83968x1024, .f32⟩
  | .hbm, ⟨88, _⟩ => ⟨S32x83968x1024, .f32⟩
  | .hbm, ⟨89, _⟩ => ⟨S_, .f32⟩
  | .hbm, ⟨90, _⟩ => ⟨S83968x1024, .f32⟩
  | .hbm, ⟨91, _⟩ => ⟨S671744x128, .f32⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_0 : Ref sig .tc := ⟨.hbm, 52, rfl⟩
abbrev main_cst_1 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel3.lean ====
abbrev S4x32x1024x2048 : Shape := ⟨4, ![4, 32, 1024, 2048]⟩
abbrev S4x32x1024x1024 : Shape := ⟨4, ![4, 32, 1024, 1024]⟩
abbrev S1x1x1024x2048 : Shape := ⟨4, ![1, 1, 1024, 2048]⟩
abbrev S1x1x1024x1024 : Shape := ⟨4, ![1, 1, 1024, 1024]⟩
abbrev S256x256 : Shape := ⟨2, ![256, 256]⟩
abbrev S1x1x1024x256 : Shape := ⟨4, ![1, 1, 1024, 256]⟩
abbrev S1024x256 : Shape := ⟨2, ![1024, 256]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x32x1024x2048, .f32⟩
  | .hbm, ⟨1, _⟩ => ⟨S4x32x1024x1024, .f32⟩
  | .hbm, ⟨2, _⟩ => ⟨S4x32x1024x2048, .bf16⟩
  | .hbm, ⟨3, _⟩ => ⟨S4x32x1024x1024, .bf16⟩
  | .local _ .vmem, ⟨0, _⟩ => ⟨S1x1x1024x2048, .f32⟩
  | .local _ .vmem, ⟨1, _⟩ => ⟨S1x1x1024x2048, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1x1x1024x1024, .bf16⟩
  | .local _ .vmem, ⟨7, _⟩ => ⟨S1x1x1024x1024, .bf16⟩
  | _, _ => ⟨S4x32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x32x1024x2048 : Shape := ⟨4, ![4, 32, 1024, 2048]⟩
abbrev S4x32x1024x1024 : Shape := ⟨4, ![4, 32, 1024, 1024]⟩
abbrev S4x32x1024x8x128x2 : Shape := ⟨6, ![4, 32, 1024, 8, 128, 2]⟩
abbrev S4x32x1024x8x2x128 : Shape := ⟨6, ![4, 32, 1024, 8, 2, 128]⟩

abbrev nBuf : Space → Nat
  | .hbm => 7
  | .vmem => 0
  | .smem => 0
  | _ => 0

abbrev bufTy : (tb : Table) → Fin (tcTables nBuf tb) → BufTy
  | .hbm, ⟨0, _⟩ => ⟨S4x32x1024x2048, .f32⟩
  | .hbm, ⟨1, _⟩ => ⟨S4x32x1024x1024, .f32⟩
  | .hbm, ⟨2, _⟩ => ⟨S4x32x1024x8x128x2, .f32⟩
  | .hbm, ⟨3, _⟩ => ⟨S4x32x1024x8x2x128, .f32⟩
  | .hbm, ⟨4, _⟩ => ⟨S4x32x1024x2048, .f32⟩
  | .hbm, ⟨5, _⟩ => ⟨S4x32x1024x2048, .bf16⟩
  | .hbm, ⟨6, _⟩ => ⟨S4x32x1024x1024, .bf16⟩
  | _, _ => ⟨S4x32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16896x1024 : Shape := ⟨2, ![16896, 1024]⟩
abbrev S4x1024x2960 : Shape := ⟨3, ![4, 1024, 2960]⟩
abbrev S4x1024x896 : Shape := ⟨3, ![4, 1024, 896]⟩
abbrev S4x1024x1024 : Shape := ⟨3, ![4, 1024, 1024]⟩
abbrev S4x1024x784 : Shape := ⟨3, ![4, 1024, 784]⟩
abbrev S4x1024x256 : Shape := ⟨3, ![4, 1024, 256]⟩
abbrev S4x1024x128 : Shape := ⟨3, ![4, 1024, 128]⟩
abbrev S4x1024x16 : Shape := ⟨3, ![4, 1024, 16]⟩
abbrev S_ : Shape := ⟨0, ![]⟩
abbrev S4x1024x112 : Shape := ⟨3, ![4, 1024, 112]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S512x3072 : Shape := ⟨2, ![512, 3072]⟩
abbrev S256x1024 : Shape := ⟨2, ![256, 1024]⟩
abbrev S256x3072 : Shape := ⟨2, ![256, 3072]⟩

abbrev nBuf : Space → Nat
  | .hbm => 18
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S4x1024x2960, .f32⟩
  | .hbm, ⟨2, _⟩ => ⟨S4x1024x896, .f32⟩
  | .hbm, ⟨3, _⟩ => ⟨S4x1024x1024, .f32⟩
  | .hbm, ⟨4, _⟩ => ⟨S4x1024x784, .f32⟩
  | .hbm, ⟨5, _⟩ => ⟨S4x1024x256, .f32⟩
  | .hbm, ⟨6, _⟩ => ⟨S4x1024x128, .f32⟩
  | .hbm, ⟨7, _⟩ => ⟨S4x1024x128, .f32⟩
  | .hbm, ⟨8, _⟩ => ⟨S4x1024x256, .f32⟩
  | .hbm, ⟨9, _⟩ => ⟨S4x1024x16, .f32⟩
  | .hbm, ⟨10, _⟩ => ⟨S4x1024x256, .f32⟩
  | .hbm, ⟨11, _⟩ => ⟨S_, .f32⟩
  | .hbm, ⟨12, _⟩ => ⟨S4x1024x112, .f32⟩
  | .hbm, ⟨13, _⟩ => ⟨S4x1024x3072, .f32⟩
  | .hbm, ⟨14, _⟩ => ⟨S4x1024x3072, .bf16⟩
  | .hbm, ⟨15, _⟩ => ⟨S1x1024x3072, .bf16⟩
  | .hbm, ⟨16, _⟩ => ⟨S1024x3072, .bf16⟩
  | .hbm, ⟨17, _⟩ => ⟨S512x3072, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x3072, .f32⟩
  | .local _ .vmem, ⟨4, _⟩ => ⟨S256x3072, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16896x1024 : Shape := ⟨2, ![16896, 1024]⟩
abbrev S4x1024x2960 : Shape := ⟨3, ![4, 1024, 2960]⟩
abbrev S512x1024 : Shape := ⟨2, ![512, 1024]⟩
abbrev S1x1024x2960 : Shape := ⟨3, ![1, 1024, 2960]⟩
abbrev S1024x2960 : Shape := ⟨2, ![1024, 2960]⟩
abbrev S512x2960 : Shape := ⟨2, ![512, 2960]⟩
abbrev S512x896 : Shape := ⟨2, ![512, 896]⟩
abbrev S512x784 : Shape := ⟨2, ![512, 784]⟩
abbrev S512x256 : Shape := ⟨2, ![512, 256]⟩
abbrev S512x128 : Shape := ⟨2, ![512, 128]⟩
abbrev S512x16 : Shape := ⟨2, ![512, 16]⟩
abbrev S_ : Shape := ⟨0, ![]⟩
abbrev S512x112 : Shape := ⟨2, ![512, 112]⟩
abbrev S512x3072 : Shape := ⟨2, ![512, 3072]⟩

abbrev nBuf : Space → Nat
  | .hbm => 18
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S4x1024x2960, .f32⟩
  | .hbm, ⟨2, _⟩ => ⟨S512x1024, .f32⟩
  | .hbm, ⟨3, _⟩ => ⟨S1x1024x2960, .f32⟩
  | .hbm, ⟨4, _⟩ => ⟨S1024x2960, .f32⟩
  | .hbm, ⟨5, _⟩ => ⟨S512x2960, .f32⟩
  | .hbm, ⟨6, _⟩ => ⟨S512x896, .f32⟩
  | .hbm, ⟨7, _⟩ => ⟨S512x1024, .f32⟩
  | .hbm, ⟨8, _⟩ => ⟨S512x784, .f32⟩
  | .hbm, ⟨9, _⟩ => ⟨S512x256, .f32⟩
  | .hbm, ⟨10, _⟩ => ⟨S512x128, .f32⟩
  | .hbm, ⟨11, _⟩ => ⟨S512x128, .f32⟩
  | .hbm, ⟨12, _⟩ => ⟨S512x256, .f32⟩
  | .hbm, ⟨13, _⟩ => ⟨S512x16, .f32⟩
  | .hbm, ⟨14, _⟩ => ⟨S512x256, .f32⟩
  | .hbm, ⟨15, _⟩ => ⟨S_, .f32⟩
  | .hbm, ⟨16, _⟩ => ⟨S512x112, .f32⟩
  | .hbm, ⟨17, _⟩ => ⟨S512x3072, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S4x16x64 : Shape := ⟨3, ![4, 16, 64]⟩
abbrev S4x16 : Shape := ⟨2, ![4, 16]⟩
abbrev S4x16x64x16 : Shape := ⟨4, ![4, 16, 64, 16]⟩
abbrev S64x1 : Shape := ⟨2, ![64, 1]⟩
abbrev S64x1024 : Shape := ⟨2, ![64, 1024]⟩
abbrev S64x64 : Shape := ⟨2, ![64, 64]⟩
abbrev S64x64x16 : Shape := ⟨3, ![64, 64, 16]⟩

abbrev nBuf : Space → Nat
  | .hbm => 19
  | .vmem => 9
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16, .f32⟩
  | .hbm, ⟨3, _⟩ => ⟨S4x16x64x16, .f32⟩
  | .hbm, ⟨4, _⟩ => ⟨S4x16x64x16, .f32⟩
  | .hbm, ⟨5, _⟩ => ⟨S64x1, .f32⟩
  | .hbm, ⟨6, _⟩ => ⟨S64x1024, .f32⟩
  | .hbm, ⟨7, _⟩ => ⟨S64x64, .f32⟩
  | .hbm, ⟨8, _⟩ => ⟨S64x64x16, .f32⟩
  | .hbm, ⟨9, _⟩ => ⟨S64x1024, .f32⟩
  | .hbm, ⟨10, _⟩ => ⟨S64x64, .f32⟩
  | .hbm, ⟨11, _⟩ => ⟨S64x64x16, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference5Ideal.lean ====
abbrev S4x16x64 : Shape := ⟨3, ![4, 16, 64]⟩
abbrev S4x16 : Shape := ⟨2, ![4, 16]⟩
abbrev S4x16x64x16 : Shape := ⟨4, ![4, 16, 64, 16]⟩
abbrev S4x16x1 : Shape := ⟨3, ![4, 16, 1]⟩
abbrev S_ : Shape := ⟨0, ![]⟩
abbrev S4x16x64x1 : Shape := ⟨4, ![4, 16, 64, 1]⟩
abbrev S64x1024 : Shape := ⟨2, ![64, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16, .f32⟩
  | .hbm, ⟨3, _⟩ => ⟨S4x16x64x16, .f32⟩
  | .hbm, ⟨4, _⟩ => ⟨S4x16x64x16, .f32⟩
  | .hbm, ⟨5, _⟩ => ⟨S4x16, .f32⟩
  | .hbm, ⟨6, _⟩ => ⟨S4x16x1, .f32⟩
  | .hbm, ⟨7, _⟩ => ⟨S4x16x64, .f32⟩
  | .hbm, ⟨8, _⟩ => ⟨S4x16x64, .f32⟩
  | .hbm, ⟨9, _⟩ => ⟨S4x16x64, .f32⟩
  | .hbm, ⟨10, _⟩ => ⟨S4x16x64, .f32⟩
  | .hbm, ⟨11, _⟩ => ⟨S4x16x64, .f32⟩
  | .hbm, ⟨12, _⟩ => ⟨S4x16x64, .f32⟩
  | .hbm, ⟨13, _⟩ => ⟨S4x16x64, .f32⟩
  | .hbm, ⟨14, _⟩ => ⟨S4x16x64, .f32⟩
  | .hbm, ⟨15, _⟩ => ⟨S4x16x64, .f32⟩
  | .hbm, ⟨16, _⟩ => ⟨S4x16x64, .f32⟩
  | .hbm, ⟨17, _⟩ => ⟨S4x16x64, .f32⟩
  | .hbm, ⟨18, _⟩ => ⟨S4x16x64, .f32⟩
  | .hbm, ⟨19, _⟩ => ⟨S4x16x64, .f32⟩
  | .hbm, ⟨20, _⟩ => ⟨S4x16x64, .f32⟩
  | .hbm, ⟨21, _⟩ => ⟨S_, .f32⟩
  | .hbm, ⟨22, _⟩ => ⟨S4x16x64, .f32⟩
  | .hbm, ⟨23, _⟩ => ⟨S4x16x64, .f32⟩
  | .hbm, ⟨24, _⟩ => ⟨S4x16x64, .f32⟩
  | .hbm, ⟨25, _⟩ => ⟨S4x16x64, .f32⟩
  | .hbm, ⟨26, _⟩ => ⟨S4x16x64, .f32⟩
  | .hbm, ⟨27, _⟩ => ⟨S4x16x64, .f32⟩
  | .hbm, ⟨28, _⟩ => ⟨S4x16x64, .f32⟩
  | .hbm, ⟨29, _⟩ => ⟨S4x16x64, .f32⟩
  | .hbm, ⟨30, _⟩ => ⟨S4x16x64, .f32⟩
  | .hbm, ⟨31, _⟩ => ⟨S4x16x64, .f32⟩
  | .hbm, ⟨32, _⟩ => ⟨S4x16x64x1, .f32⟩
  | .hbm, ⟨33, _⟩ => ⟨S4x16x64x16, .f32⟩
  | .hbm, ⟨34, _⟩ => ⟨S4x16x64x16, .f32⟩
  | .hbm, ⟨35, _⟩ => ⟨S4x16x64x1, .f32⟩
  | .hbm, ⟨36, _⟩ => ⟨S4x16x64x16, .f32⟩
  | .hbm, ⟨37, _⟩ => ⟨S4x16x64x16, .f32⟩
  | .hbm, ⟨38, _⟩ => ⟨S4x16x64x16, .f32⟩
  | .hbm, ⟨39, _⟩ => ⟨S4x16x64x1, .f32⟩
  | .hbm, ⟨40, _⟩ => ⟨S4x16x64x16, .f32⟩
  | .hbm, ⟨41, _⟩ => ⟨S4x16x64x16, .f32⟩
  | .hbm, ⟨42, _⟩ => ⟨S4x16x64x1, .f32⟩
  | .hbm, ⟨43, _⟩ => ⟨S4x16x64x16, .f32⟩
  | .hbm, ⟨44, _⟩ => ⟨S4x16x64x16, .f32⟩
  | .hbm, ⟨45, _⟩ => ⟨S4x16x64x16, .f32⟩
  | .hbm, ⟨46, _⟩ => ⟨S4x16x64x1, .f32⟩
  | .hbm, ⟨47, _⟩ => ⟨S4x16x64x16, .f32⟩
  | .hbm, ⟨48, _⟩ => ⟨S64x1024, .f32⟩
  | .hbm, ⟨49, _⟩ => ⟨S4x16x64x1, .f32⟩
  | .hbm, ⟨50, _⟩ => ⟨S4x16x64x16, .f32⟩
  | .hbm, ⟨51, _⟩ => ⟨S64x1024, .f32⟩
  | .hbm, ⟨52, _⟩ => ⟨S64x1024, .f32⟩
  | .hbm, ⟨53, _⟩ => ⟨S64x1024, .f32⟩
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== Kernel6.lean ====
abbrev S16896x1024 : Shape := ⟨2, ![16896, 1024]⟩
abbrev S4x1024x2960 : Shape := ⟨3, ![4, 1024, 2960]⟩
abbrev S4x1024x896 : Shape := ⟨3, ![4, 1024, 896]⟩
abbrev S4x1024x1024 : Shape := ⟨3, ![4, 1024, 1024]⟩
abbrev S4x1024x784 : Shape := ⟨3, ![4, 1024, 784]⟩
abbrev S4x1024x256 : Shape := ⟨3, ![4, 1024, 256]⟩
abbrev S4x1024x128 : Shape := ⟨3, ![4, 1024, 128]⟩
abbrev S4x1024x16 : Shape := ⟨3, ![4, 1024, 16]⟩
abbrev S_ : Shape := ⟨0, ![]⟩
abbrev S4x1024x112 : Shape := ⟨3, ![4, 1024, 112]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S16384x1920 : Shape := ⟨2, ![16384, 1920]⟩
abbrev S7x16384x128 : Shape := ⟨3, ![7, 16384, 128]⟩
abbrev S2x16384x128 : Shape := ⟨3, ![2, 16384, 128]⟩
abbrev S256x1024 : Shape := ⟨2, ![256, 1024]⟩
abbrev S256x1920 : Shape := ⟨2, ![256, 1920]⟩
abbrev S7x2048x128 : Shape := ⟨3, ![7, 2048, 128]⟩
abbrev S2x2048x128 : Shape := ⟨3, ![2, 2048, 128]⟩
abbrev S256x3072 : Shape := ⟨2, ![256, 3072]⟩
abbrev S256x896 : Shape := ⟨2, ![256, 896]⟩
abbrev S256x128 : Shape := ⟨2, ![256, 128]⟩
abbrev S1x2048x128 : Shape := ⟨3, ![1, 2048, 128]⟩
abbrev S2048x128 : Shape := ⟨2, ![2048, 128]⟩
abbrev S256x256 : Shape := ⟨2, ![256, 256]⟩

abbrev nBuf : Space → Nat
  | .hbm => 20
  | .vmem => 9
  | .smem => 0
  | _ => 0

abbrev bufTy : (tb : Table) → Fin (tcTables nBuf tb) → BufTy
  | .hbm, ⟨0, _⟩ => ⟨S16896x1024, .f32⟩
  | .hbm, ⟨1, _⟩ => ⟨S4x1024x2960, .f32⟩
  | .hbm, ⟨2, _⟩ => ⟨S4x1024x896, .f32⟩
  | .hbm, ⟨3, _⟩ => ⟨S4x1024x1024, .f32⟩
  | .hbm, ⟨4, _⟩ => ⟨S4x1024x784, .f32⟩
  | .hbm, ⟨5, _⟩ => ⟨S4x1024x256, .f32⟩
  | .hbm, ⟨6, _⟩ => ⟨S4x1024x128, .f32⟩
  | .hbm, ⟨7, _⟩ => ⟨S4x1024x128, .f32⟩
  | .hbm, ⟨8, _⟩ => ⟨S4x1024x256, .f32⟩
  | .hbm, ⟨9, _⟩ => ⟨S4x1024x16, .f32⟩
  | .hbm, ⟨10, _⟩ => ⟨S4x1024x256, .f32⟩
  | .hbm, ⟨11, _⟩ => ⟨S_, .f32⟩
  | .hbm, ⟨12, _⟩ => ⟨S4x1024x112, .f32⟩
  | .hbm, ⟨13, _⟩ => ⟨S4x1024x3072, .f32⟩
  | .hbm, ⟨14, _⟩ => ⟨S4x1024x3072, .bf16⟩
  | .hbm, ⟨15, _⟩ => ⟨S1x1024x3072, .bf16⟩
  | .hbm, ⟨16, _⟩ => ⟨S1024x3072, .bf16⟩
  | .hbm, ⟨17, _⟩ => ⟨S16384x1920, .f32⟩
  | .hbm, ⟨18, _⟩ => ⟨S7x16384x128, .f32⟩
  | .hbm, ⟨19, _⟩ => ⟨S2x16384x128, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x1920, .f32⟩
  | .local _ .vmem, ⟨4, _⟩ => ⟨S256x1920, .f32⟩
  | .local _ .vmem, ⟨5, _⟩ => ⟨S7x2048x128, .f32⟩
  | .local _ .vmem, ⟨6, _⟩ => ⟨S7x2048x128, .f32⟩
  | .local _ .vmem, ⟨7, _⟩ => ⟨S2x2048x128, .f32⟩
  | .local _ .vmem, ⟨8, _⟩ => ⟨S2x2048x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let v11 : Index := Scalar.indexCast arg1
  let c0_7 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S16896x1024 : Shape := ⟨2, ![16896, 1024]⟩
abbrev S4x1024x2960 : Shape := ⟨3, ![4, 1024, 2960]⟩
abbrev S16384x1024 : Shape := ⟨2, ![16384, 1024]⟩
abbrev S1x1024x2960 : Shape := ⟨3, ![1, 1024, 2960]⟩
abbrev S1024x2960 : Shape := ⟨2, ![1024, 2960]⟩
abbrev S16384x2960 : Shape := ⟨2, ![16384, 2960]⟩
abbrev S16384x896 : Shape := ⟨2, ![16384, 896]⟩
abbrev S16384x784 : Shape := ⟨2, ![16384, 784]⟩
abbrev S16384x256 : Shape := ⟨2, ![16384, 256]⟩
abbrev S16384x128 : Shape := ⟨2, ![16384, 128]⟩
abbrev S16384x16 : Shape := ⟨2, ![16384, 16]⟩
abbrev S_ : Shape := ⟨0, ![]⟩
abbrev S16384x112 : Shape := ⟨2, ![16384, 112]⟩
abbrev S16384x1920 : Shape := ⟨2, ![16384, 1920]⟩
abbrev S8x2048x7x128 : Shape := ⟨4, ![8, 2048, 7, 128]⟩
abbrev S7x2048x8x128 : Shape := ⟨4, ![7, 2048, 8, 128]⟩
abbrev S7x16384x128 : Shape := ⟨3, ![7, 16384, 128]⟩
abbrev S8x2048x2x128 : Shape := ⟨4, ![8, 2048, 2, 128]⟩
abbrev S2x2048x8x128 : Shape := ⟨4, ![2, 2048, 8, 128]⟩
abbrev S2x16384x128 : Shape := ⟨3, ![2, 16384, 128]⟩

abbrev nBuf : Space → Nat
  | .hbm => 24
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S4x1024x2960, .f32⟩
  | .hbm, ⟨2, _⟩ => ⟨S16384x1024, .f32⟩
  | .hbm, ⟨3, _⟩ => ⟨S1x1024x2960, .f32⟩
  | .hbm, ⟨4, _⟩ => ⟨S1024x2960, .f32⟩
  | .hbm, ⟨5, _⟩ => ⟨S16384x2960, .f32⟩
  | .hbm, ⟨6, _⟩ => ⟨S16384x896, .f32⟩
  | .hbm, ⟨7, _⟩ => ⟨S16384x1024, .f32⟩
  | .hbm, ⟨8, _⟩ => ⟨S16384x784, .f32⟩
  | .hbm, ⟨9, _⟩ => ⟨S16384x256, .f32⟩
  | .hbm, ⟨10, _⟩ => ⟨S16384x128, .f32⟩
  | .hbm, ⟨11, _⟩ => ⟨S16384x128, .f32⟩
  | .hbm, ⟨12, _⟩ => ⟨S16384x256, .f32⟩
  | .hbm, ⟨13, _⟩ => ⟨S16384x16, .f32⟩
  | .hbm, ⟨14, _⟩ => ⟨S16384x256, .f32⟩
  | .hbm, ⟨15, _⟩ => ⟨S_, .f32⟩
  | .hbm, ⟨16, _⟩ => ⟨S16384x112, .f32⟩
  | .hbm, ⟨17, _⟩ => ⟨S16384x1920, .f32⟩
  | .hbm, ⟨18, _⟩ => ⟨S8x2048x7x128, .f32⟩
  | .hbm, ⟨19, _⟩ => ⟨S7x2048x8x128, .f32⟩
  | .hbm, ⟨20, _⟩ => ⟨S7x16384x128, .f32⟩
  | .hbm, ⟨21, _⟩ => ⟨S8x2048x2x128, .f32⟩
  | .hbm, ⟨22, _⟩ => ⟨S2x2048x8x128, .f32⟩
  | .hbm, ⟨23, _⟩ => ⟨S2x16384x128, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Proof.S5Body.lean ====
/- One grid point of the S5 kernel: what the body leaves in its outputs and in the carried state, as plain functions of
   the blocks it is handed, and the triple that says so. -/
module

public import proofs.«01_k».proof.Proof.Gen.KernelIdeal.Skeleton
public import proofs.«01_k».proof.Proof.Gen.KernelIdeal.Frame
public import Idealize.ShloMosaic.Lib.VecWindow
public import Idealize.ShloMosaic.Lib.Pipeline.Value
public import Idealize.ShloMosaic.Lib.Pointwise.Index

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The values -/

/-- The two slabs of the point's input block. -/
def uLo (x : Vec F S1x2x512x128 .f32) : Vec F S1x1x512x128 .f32 :=
  VecWindow.window x ![0, 0, 0, 0] S1x1x512x128.size inb_S1x2x512x128_S1x1x512x128_0_0_0_0
def uHi (x : Vec F S1x2x512x128 .f32) : Vec F S1x1x512x128 .f32 :=
  VecWindow.window x ![0, 1, 0, 0] S1x1x512x128.size inb_S1x2x512x128_S1x1x512x128_0_1_0_0
/-- The rows of the transition's real and imaginary parts. -/
def abRe (ab : Vec F S8x1024 .f32) : Vec F S1x1024 .f32 := VecWindow.window ab ![0, 0] S1x1024.size inb_S8x1024_S1x1024_0_0
def abIm (ab : Vec F S8x1024 .f32) : Vec F S1x1024 .f32 := VecWindow.window ab ![1, 0] S1x1024.size inb_S8x1024_S1x1024_1_0
/-- The halves of the carried state. -/
def stRe (s : Vec F S8x2048 .f32) : Vec F S8x1024 .f32 := VecWindow.window s ![0, 0] S8x1024.size inb_S8x2048_S8x1024_0_0
def stIm (s : Vec F S8x2048 .f32) : Vec F S8x1024 .f32 := VecWindow.window s ![0, 1024] S8x1024.size inb_S8x2048_S8x1024_0_1024
/-- The eight rows of token `k` in a block of 64 tokens, its real and its imaginary columns. -/
def tokRe (B : Vec F S512x2048 .f32) (k : ℕ) : Vec F S8x1024 .f32 := fun y =>
  B (ix2 ⟨(8 * k + (y 0).val) % 512, Nat.mod_lt _ (by decide)⟩ ⟨(y 1).val, Nat.lt_of_lt_of_le (y 1).isLt (by decide)⟩)
def tokIm (B : Vec F S512x2048 .f32) (k : ℕ) : Vec F S8x1024 .f32 := fun y =>
  B (ix2 ⟨(8 * k + (y 0).val) % 512, Nat.mod_lt _ (by decide)⟩ ⟨1024 + (y 1).val, Nat.add_lt_add_left (y 1).isLt 1024⟩)

/-- The state after `k` tokens of the block, from `init`. -/
def carry (a b : Vec F S1x1024 .f32) (B : Vec F S512x2048 .f32) (init : Vec F S8x1024 .f32 × Vec F S8x1024 .f32) :
    ℕ → Vec F S8x1024 .f32 × Vec F S8x1024 .f32
  | 0 => init
  | k + 1 => (k0_pay10 a b (carry a b B init k).1 (carry a b B init k).2 (tokRe B k),
      k0_pay11 a b (carry a b B init k).1 (carry a b B init k).2 (tokIm B k))

/-- Every token's state, as the rows of one array. -/
def states (a b : Vec F S1x1024 .f32) (B : Vec F S512x2048 .f32) (init : Vec F S8x1024 .f32 × Vec F S8x1024 .f32) :
    Vec F S512x2048 .f32 := fun y =>
  if h : (y 1).val < 1024 then
    (carry a b B init ((y 0).val / 8 + 1)).1 (ix2 ⟨(y 0).val % 8, Nat.mod_lt _ (by decide)⟩ ⟨(y 1).val, h⟩)
  else (carry a b B init ((y 0).val / 8 + 1)).2 (ix2 ⟨(y 0).val % 8, Nat.mod_lt _ (by decide)⟩
    ⟨(y 1).val - 1024, by have : (y 1).val < 2048 := (y 1).isLt; omega⟩)

/-- Two halves side by side: what the carried scratch holds after its two stores. -/
def joinS (p : Vec F S8x1024 .f32 × Vec F S8x1024 .f32) : Vec F S8x2048 .f32 := fun y =>
  if h : (y 1).val < 1024 then p.1 (ix2 ⟨(y 0).val, (y 0).isLt⟩ ⟨(y 1).val, h⟩)
  else p.2 (ix2 ⟨(y 0).val, (y 0).isLt⟩ ⟨(y 1).val - 1024, by have : (y 1).val < 2048 := (y 1).isLt; omega⟩)

section Point
variable (x0 : Vec F S1x2x512x128 .f32) (x2 : Vec F S8x1024 .f32) (x3 : Vec F S256x2048 .bf16) (x4 : Vec F S2048x256 .bf16)
  (x5 : Vec F S1x256 .f32) (x6 : Vec F S256x256 .bf16) (s : Vec F S8x2048 .f32)

/-- The block's inputs through the input matrix. -/
def bu : Vec F S512x2048 .f32 := k0_pay7 (uLo x0) (uHi x0) x3
/-- The block's final state, -/
def lastS : Vec F S8x2048 .f32 := joinS (carry (abRe x2) (abIm x2) (bu x0 x3) (stRe s, stIm s) 64)
/-- and all its states. -/
def xs : Vec F S512x2048 .f32 := states (abRe x2) (abIm x2) (bu x0 x3) (stRe s, stIm s)
/-- The block's gated output, -/
def gated : FVec F S512x256 .f32 :=
  k0_pay1 (k0_pay16 (k0_pay6 (uLo x0) (uHi x0)) (xs x0 x2 x3 s) x4 x5)
    (k0_pay17 (k0_pay6 (uLo x0) (uHi x0)) (xs x0 x2 x3 s) x4 x5 x6) k0_pay18
/-- laid out as two slabs. -/
def outO : Vec F S1x2x512x128 .f32 := fun y =>
  gated x0 x2 x3 x4 x5 x6 s (ix2 ⟨(y 2).val, (y 2).isLt⟩
    ⟨128 * (y 1).val + (y 3).val, by
      have h1 : (y 1).val < 2 := (y 1).isLt
      have h3 : (y 3).val < 128 := (y 3).isLt
      omega⟩)
def outX : Vec F S1x8x2048 .f32 := k0_pay4 (lastS x0 x2 x3 s)
end Point

/-- The point is the first of its group: the body stores the initial state. -/
abbrev cond (i : grid0.Coords) : Prop := (Scalar.cmpi .ne (Scalar.extui (Scalar.cmpi .eq (BitVec.ofNat 32 (i 1).val) 0#32)) 0#32) = 1#1

/-! ## The loop over the block's tokens -/

/-- Before token `k`: the inputs in place, the rows of the tokens before holding their states, the carried pair the
    state after `k` tokens. -/
def inv (c : Dev nD) (arg12 : Memref sig .tc .vmem S512x2048 .f32) (arg13 : Memref sig .tc .vmem S512x2048 .f32)
    (a b : Vec F S1x1024 .f32) (B : Vec F S512x2048 .f32) (init : Vec F S8x1024 .f32 × Vec F S8x1024 .f32)
    (k : ℕ) (acc : Vec F S8x1024 .f32 × Vec F S8x1024 .f32) : sProp 𝕄 :=
  iprop((∃ f, ⌜arg12.view.read (Elt F) f = B⌝ ∗ (arg12.view.loc (c : Thread nD τ) ↦[arg12.view.set]{fullShare} f))
    ∗ (∃ f, ⌜∀ y : S512x2048.Idx, (y 0).val < 8 * k → arg13.view.read (Elt F) f y = states a b B init y⌝
        ∗ (arg13.view.loc (c : Thread nD τ) ↦[arg13.view.set]{fullShare} f))
    ∗ ⌜acc = carry a b B init k⌝)

theorem trips_eq : Scf.trips k0_t1_loop.lb k0_t1_loop.ub k0_t1_loop.st = 64 := by decide

theorem window_tokRe (B : Vec F S512x2048 .f32) (k : ℕ) (hk : k < 64) (inb) :
    VecWindow.window B ![8 * k, 0] S8x1024.size inb = tokRe B k := by
  funext y
  refine congrArg B (funext fun a => Fin.ext ?_)
  have h0 : (y 0).val < 8 := (y 0).isLt
  fin_cases a
  · show 8 * k + 1 * (y 0).val = (8 * k + (y 0).val) % 512
    rw [Nat.mod_eq_of_lt (by omega), Nat.one_mul]
  · show 0 + 1 * (y 1).val = (y 1).val
    omega

theorem window_tokIm (B : Vec F S512x2048 .f32) (k : ℕ) (hk : k < 64) (inb) :
    VecWindow.window B ![8 * k, 1024] S8x1024.size inb = tokIm B k := by
  funext y
  refine congrArg B (funext fun a => Fin.ext ?_)
  have h0 : (y 0).val < 8 := (y 0).isLt
  fin_cases a
  · show 8 * k + 1 * (y 0).val = (8 * k + (y 0).val) % 512
    rw [Nat.mod_eq_of_lt (by omega), Nat.one_mul]
  · show 1024 + 1 * (y 1).val = 1024 + (y 1).val
    omega

set_option maxHeartbeats 1600000 in
/-- One token. -/
theorem trip (c : Dev nD) (i : grid0.Coords) (arg2 : Memref sig .tc .vmem S1x2x512x128 .f32) (harg2 : arg2.IsWhole) (arg3 : Memref sig .tc .vmem S1x8x2048 .f32) (harg3 : arg3.IsWhole) (arg4 : Memref sig .tc .vmem S8x1024 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x2x512x128 .f32) (harg9 : arg9.IsWhole) (arg10 : Memref sig .tc .vmem S1x8x2048 .f32) (harg10 : arg10.IsWhole) (arg11 : Memref sig .tc .vmem S8x2048 .f32) (harg11 : arg11.IsWhole) (arg12 : Memref sig .tc .vmem S512x2048 .f32) (harg12 : arg12.IsWhole) (arg13 : Memref sig .tc .vmem S512x2048 .f32) (harg13 : arg13.IsWhole)
    (a b : Vec F S1x1024 .f32) (B : Vec F S512x2048 .f32) (init : Vec F S8x1024 .f32 × Vec F S8x1024 .f32)
    (k : Fin k0_t1_loop.trips) (acc : Vec F S8x1024 .f32 × Vec F S8x1024 .f32) :
    inv c arg12 arg13 a b B init k.val acc
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 a b k acc) (inv c arg12 arg13 a b B init (k.val + 1)) := by
  have hk : k.val < 64 := Nat.lt_of_lt_of_le k.isLt k0_t1_abs.2.1
  unfold inv k0_t1_body
  iintro ⟨⟨%f, %hf, H12⟩, ⟨%g, %hg, H13⟩, %hacc⟩
  sl_exec
  sl_step
  subst hacc
  have e1 : arg12.view.readAt (Elt F) (Rect.unit (s := S512x2048) (k0_off1 k) S8x1024.size (k0_off1_inb k)).toLoadRect f = tokRe B k.val := by
    have hb : ∀ a, (![8 * k.val, 0] : Fin 2 → ℕ) a + S8x1024.size a ≤ S512x2048.size a := k0_off1_eq k ▸ k0_off1_inb k
    rw [View.readAt_unit _ _ _ (k0_off1_eq k) hb, hf, window_tokRe _ _ hk]
  have e2 : arg12.view.readAt (Elt F) (Rect.unit (s := S512x2048) (k0_off2 k) S8x1024.size (k0_off2_inb k)).toLoadRect f = tokIm B k.val := by
    have hb : ∀ a, (![8 * k.val, 1024] : Fin 2 → ℕ) a + S8x1024.size a ≤ S512x2048.size a := k0_off2_eq k ▸ k0_off2_inb k
    rw [View.readAt_unit _ _ _ (k0_off2_eq k) hb, hf, window_tokIm _ _ hk]
  rw [e1, e2]
  isplitl [H12]
  · iexists f; isplitr
    · ipureintro; exact hf
    iexact H12
  isplitl [H13]
  · iexists _; isplitr
    swap; · iexact H13
    ipureintro
    intro y hy
    have y1 : (y 1).val < 2048 := (y 1).isLt
    by_cases hlt : (y 0).val < 8 * k.val
    · refine (View.read_writes_cons_unit_of_not_mem _ _ _ _ _ y (k0_off2_eq k) 0 (.inl hlt)).trans ?_
      refine (View.read_writes_cons_unit_of_not_mem _ _ _ _ _ y (k0_off1_eq k) 0 (.inl hlt)).trans ?_
      exact hg y hlt
    · have hd : (y 0).val / 8 = k.val := by omega
      have hm : (y 0).val % 8 = (y 0).val - 8 * k.val := by omega
      unfold states
      rw [hd]
      by_cases h1 : (y 1).val < 1024
      · refine (View.read_writes_cons_unit_of_not_mem _ _ _ _ _ y (k0_off2_eq k) 1 (.inl h1)).trans ?_
        rw [dif_pos h1]
        refine (View.read_writes_cons_unit_of_mem _ _ _ _ _ y
          (ix2 ⟨(y 0).val % 8, Nat.mod_lt _ (by decide)⟩ ⟨(y 1).val, h1⟩) (k0_off1_eq k) ?_).trans ?_
        · intro a; fin_cases a
          · show (y 0).val = 8 * k.val + (y 0).val % 8
            omega
          · show (y 1).val = 0 + (y 1).val
            omega
        · unfold k0_pay12; exact congrFun (shapeCast_self _ _) _
      · rw [dif_neg h1]
        refine (View.read_writes_cons_unit_of_mem _ _ _ _ _ y
          (ix2 ⟨(y 0).val % 8, Nat.mod_lt _ (by decide)⟩ ⟨(y 1).val - 1024, by omega⟩) (k0_off2_eq k) ?_).trans ?_
        · intro a; fin_cases a
          · show (y 0).val = 8 * k.val + (y 0).val % 8
            omega
          · show (y 1).val = 1024 + ((y 1).val - 1024)
            omega
        · unfold k0_pay13; exact congrFun (shapeCast_self _ _) _
  ipureintro; rfl

/-- The two stores of the final state, read back. -/
theorem read_join (v : View sig .tc .vmem S8x2048 .f32) (f : v.ty.Contents (Elt F)) (p : Vec F S8x1024 .f32 × Vec F S8x1024 .f32)
    (h0 h2) (L : List (View.Piece (Elt F) S8x2048 .f32)) :
    v.read (Elt F) (v.writes (Elt F) f
      ((⟨Rect.unit (s := S8x2048) ![0, 1024] S8x1024.size h0, k0_pay15 p.2⟩ : View.Piece (Elt F) S8x2048 .f32)
        :: ⟨Rect.unit (s := S8x2048) ![0, 0] S8x1024.size h2, k0_pay14 p.1⟩ :: L)) = joinS p := by
  funext y
  have y1 : (y 1).val < 2048 := (y 1).isLt
  unfold joinS
  by_cases h : (y 1).val < 1024
  · rw [dif_pos h]
    refine (View.read_writes_cons_unit_of_not_mem _ _ _ _ _ y rfl 1 (.inl h)).trans ?_
    refine (View.read_writes_cons_unit_of_mem _ _ _ _ _ y (ix2 ⟨(y 0).val, (y 0).isLt⟩ ⟨(y 1).val, h⟩) rfl ?_).trans ?_
    · intro a; fin_cases a
      · show (y 0).val = 0 + (y 0).val
        omega
      · show (y 1).val = 0 + (y 1).val
        omega
    · unfold k0_pay14; exact congrFun (shapeCast_self _ _) _
  · rw [dif_neg h]
    refine (View.read_writes_cons_unit_of_mem _ _ _ _ _ y
      (ix2 ⟨(y 0).val, (y 0).isLt⟩ ⟨(y 1).val - 1024, by omega⟩) rfl ?_).trans ?_
    · intro a; fin_cases a
      · show (y 0).val = 0 + (y 0).val
        omega
      · show (y 1).val = 1024 + ((y 1).val - 1024)
        omega
    · unfold k0_pay15; exact congrFun (shapeCast_self _ _) _

/-- A slab: columns `128 j …` of a block, with two unit dimensions in front. -/
theorem slab_apply (g : FVec F S512x256 .f32) (off : ℕ) (ho : off + 128 ≤ 256) (h1 h2) (x : S1x1x512x128.Idx) :
    shapeCast S1x1x512x128 (extractStridedSlice S512x128 ![0, off] g h1) h2 x
      = g (ix2 ⟨(x 2).val, (x 2).isLt⟩ ⟨off + (x 3).val, by have h3 : (x 3).val < 128 := (x 3).isLt; omega⟩) := by
  refine (shapeCast_apply _ _ _ (ix2 ⟨(x 2).val, (x 2).isLt⟩ ⟨(x 3).val, (x 3).isLt⟩) ?_).trans ?_
  · have x0 : (x 0).val < 1 := (x 0).isLt
    have x1 : (x 1).val < 1 := (x 1).isLt
    refine (Shape.rowMajor_val_two (d := ![512, 128]) _).trans (Eq.trans ?_ (Shape.rowMajor_val_four (d := ![1, 1, 512, 128]) x).symm)
    show (x 2).val * 128 + (x 3).val = (((x 0).val * 1 + (x 1).val) * 512 + (x 2).val) * 128 + (x 3).val
    omega
  · refine extractStridedSlice_apply _ _ _ _ _ ?_
    intro a; fin_cases a
    · show (x 2).val = 0 + (x 2).val
      omega
    · rfl

/-- The two slabs of the output, read back. -/
theorem read_slabs (v : View sig .tc .vmem S1x2x512x128 .f32) (f : v.ty.Contents (Elt F)) (g0 g1 g2 : FVec F S512x256 .f32)
    (h0 h2) :
    v.read (Elt F) (v.writes (Elt F) f
      [(⟨Rect.unit (s := S1x2x512x128) ![0, 1, 0, 0] S1x1x512x128.size h0, k0_pay3 g0 g1 g2⟩ : View.Piece (Elt F) S1x2x512x128 .f32),
       ⟨Rect.unit (s := S1x2x512x128) ![0, 0, 0, 0] S1x1x512x128.size h2, k0_pay2 g0 g1 g2⟩])
     = fun y => k0_pay1 g0 g1 g2 (ix2 ⟨(y 2).val, (y 2).isLt⟩
        ⟨128 * (y 1).val + (y 3).val, by
          have h1 : (y 1).val < 2 := (y 1).isLt
          have h3 : (y 3).val < 128 := (y 3).isLt
          omega⟩) := by
  funext y
  have y0 : (y 0).val < 1 := (y 0).isLt
  have y1 : (y 1).val < 2 := (y 1).isLt
  have y3 : (y 3).val < 128 := (y 3).isLt
  by_cases h : (y 1).val < 1
  · refine (View.read_writes_cons_unit_of_not_mem _ _ _ _ _ y rfl 1 (.inl h)).trans ?_
    refine (View.read_writes_cons_unit_of_mem _ _ _ _ _ y
      (ix4 ⟨0, by decide⟩ ⟨0, by decide⟩ ⟨(y 2).val, (y 2).isLt⟩ ⟨(y 3).val, (y 3).isLt⟩) rfl ?_).trans ?_
    · intro a; fin_cases a
      · show (y 0).val = 0 + 0
        omega
      · show (y 1).val = 0 + 0
        omega
      · show (y 2).val = 0 + (y 2).val
        omega
      · show (y 3).val = 0 + (y 3).val
        omega
    · refine (slab_apply _ 0 (by decide) _ _ _).trans (congrArg (k0_pay1 g0 g1 g2) ?_)
      refine congrArg₂ ix2 rfl (Fin.ext ?_)
      show 0 + (y 3).val = 128 * (y 1).val + (y 3).val
      omega
  · refine (View.read_writes_cons_unit_of_mem _ _ _ _ _ y
      (ix4 ⟨0, by decide⟩ ⟨0, by decide⟩ ⟨(y 2).val, (y 2).isLt⟩ ⟨(y 3).val, (y 3).isLt⟩) rfl ?_).trans ?_
    · intro a; fin_cases a
      · show (y 0).val = 0 + 0
        omega
      · show (y 1).val = 1 + 0
        omega
      · show (y 2).val = 0 + (y 2).val
        omega
      · show (y 3).val = 0 + (y 3).val
        omega
    · refine (slab_apply _ 128 (by decide) _ _ _).trans (congrArg (k0_pay1 g0 g1 g2) ?_)
      refine congrArg₂ ix2 rfl (Fin.ext ?_)
      show 128 + (y 3).val = 128 * (y 1).val + (y 3).val
      omega

set_option maxHeartbeats 4000000 in
/-- The body at a point, from the state `s` the point starts from (what the scratch holds, or at a first point the
    initial state's block): the inputs as they were, the outputs and the carried scratch at their values. -/
theorem body (c : Dev nD) (i : grid0.Coords) (arg2 : Memref sig .tc .vmem S1x2x512x128 .f32) (harg2 : arg2.IsWhole) (arg3 : Memref sig .tc .vmem S1x8x2048 .f32) (harg3 : arg3.IsWhole) (arg4 : Memref sig .tc .vmem S8x1024 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x2x512x128 .f32) (harg9 : arg9.IsWhole) (arg10 : Memref sig .tc .vmem S1x8x2048 .f32) (harg10 : arg10.IsWhole) (arg11 : Memref sig .tc .vmem S8x2048 .f32) (harg11 : arg11.IsWhole) (arg12 : Memref sig .tc .vmem S512x2048 .f32) (harg12 : arg12.IsWhole) (arg13 : Memref sig .tc .vmem S512x2048 .f32) (harg13 : arg13.IsWhole)
    (x0 : Vec F S1x2x512x128 .f32) (x1 : Vec F S1x8x2048 .f32) (x2 : Vec F S8x1024 .f32) (x3 : Vec F S256x2048 .bf16)
    (x4 : Vec F S2048x256 .bf16) (x5 : Vec F S1x256 .f32) (x6 : Vec F S256x256 .bf16) (s0 s : Vec F S8x2048 .f32)
    (hs : (cond i ∧ s = k0_pay5 x1) ∨ (¬ cond i ∧ s = s0)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ owns (c : Thread nD τ) arg11 fullShare s0 ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outO x0 x2 x3 x4 x5 x6 s)
            ∗ owns (c : Thread nD τ) arg10 fullShare (outX x0 x2 x3 s)
            ∗ owns (c : Thread nD τ) arg11 fullShare (lastS x0 x2 x3 s) ∗ (∃ d, owns (c : Thread nD τ) arg12 fullShare d)
            ∗ (∃ d, owns (c : Thread nD τ) arg13 fullShare d)) -∗ K ⟨⟩))
      ⊢ wp frame (wpE (defs₀ (F := F)) Variants.none c none) Set.univ (cc0_s5_t2048 i arg2 harg2 arg3 harg3 arg4 harg4 arg5 harg5 arg6 harg6 arg7 harg7 arg8 harg8 arg9 harg9 arg10 harg10 arg11 harg11 arg12 harg12 arg13 harg13) K := by
  simp only [cc0_s5_t2048_eq_skeleton]; unfold cc0_s5_t2048_skel
  simp only [k0_part1_eq_skeleton, k0_part2_eq_skeleton]
  unfold k0_part1_skel k0_part2_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%g0, %hg0, HS0⟩, ⟨%d9, %g1, -, HS1⟩, ⟨%d10, %g2, -, HS2⟩, Hk⟩
  have e0 : arg2.view.readAt (Elt F) (Rect.unit (s := S1x2x512x128) ![0, 0, 0, 0] S1x1x512x128.size inb_S1x2x512x128_S1x1x512x128_0_0_0_0).toLoadRect f0 = uLo x0 := by
    rw [View.readAt_unit _ _ _ rfl inb_S1x2x512x128_S1x1x512x128_0_0_0_0, hf0]; rfl
  have e0' : arg2.view.readAt (Elt F) (Rect.unit (s := S1x2x512x128) ![0, 1, 0, 0] S1x1x512x128.size inb_S1x2x512x128_S1x1x512x128_0_1_0_0).toLoadRect f0 = uHi x0 := by
    rw [View.readAt_unit _ _ _ rfl inb_S1x2x512x128_S1x1x512x128_0_1_0_0, hf0]; rfl
  have e1 : arg3.view.readAt (Elt F) (Rect.unit (s := S1x8x2048) ![0, 0, 0] S1x8x2048.size inb_S1x8x2048_S1x8x2048_0_0_0).toLoadRect f1 = x1 := by
    rw [View.readAt_full, hf1]
  have e2 : arg4.view.readAt (Elt F) (Rect.unit (s := S8x1024) ![0, 0] S1x1024.size inb_S8x1024_S1x1024_0_0).toLoadRect f2 = abRe x2 := by
    rw [View.readAt_unit _ _ _ rfl inb_S8x1024_S1x1024_0_0, hf2]; rfl
  have e2' : arg4.view.readAt (Elt F) (Rect.unit (s := S8x1024) ![1, 0] S1x1024.size inb_S8x1024_S1x1024_1_0).toLoadRect f2 = abIm x2 := by
    rw [View.readAt_unit _ _ _ rfl inb_S8x1024_S1x1024_1_0, hf2]; rfl
  have e3 : arg5.view.readAt (Elt F) (Rect.unit (s := S256x2048) ![0, 0] S256x2048.size inb_S256x2048_S256x2048_0_0).toLoadRect f3 = x3 := by
    rw [View.readAt_full, hf3]
  have e4 : arg6.view.readAt (Elt F) (Rect.unit (s := S2048x256) ![0, 0] S2048x256.size inb_S2048x256_S2048x256_0_0).toLoadRect f4 = x4 := by
    rw [View.readAt_full, hf4]
  have e5 : arg7.view.readAt (Elt F) (Rect.unit (s := S1x256) ![0, 0] S1x256.size inb_S1x256_S1x256_0_0).toLoadRect f5 = x5 := by
    rw [View.readAt_full, hf5]
  have e6 : arg8.view.readAt (Elt F) (Rect.unit (s := S256x256) ![0, 0] S256x256.size inb_S256x256_S256x256_0_0).toLoadRect f6 = x6 := by
    rw [View.readAt_full, hf6]
  rcases hs with ⟨hc, hs⟩ | ⟨hc, hs⟩
  · sl_exec (disch := first | sl_exact hc)
    rw [bind_assoc]
    sl_for (inv c arg12 arg13 (abRe x2) (abIm x2) (bu x0 x3) (stRe s, stIm s)) $$ [HS1 HS2]
    case region =>
      intro k acc
      exact trip c i arg2 harg2 arg3 harg3 arg4 harg4 arg5 harg5 arg6 harg6 arg7 harg7 arg8 harg8 arg9 harg9 arg10 harg10 arg11 harg11 arg12 harg12 arg13 harg13 _ _ _ _ k acc
    · unfold inv
      isplitl [HS1]
      · iexists _; isplitr
        swap; · iexact HS1
        ipureintro
        exact View.read_writes_full _ _ _ _ _
      isplitl [HS2]
      · iexists _; isplitr
        swap; · iexact HS2
        ipureintro
        intro y hy; omega
      ipureintro
      show (_, _) = carry (abRe x2) (abIm x2) (bu x0 x3) (stRe s, stIm s) 0
      subst hs
      refine congrArg₂ Prod.mk ?_ ?_
      · refine (View.readAt_unit _ _ _ rfl inb_S8x2048_S8x1024_0_0).trans (congrArg (fun v => VecWindow.window v _ _ _) ?_)
        exact View.read_writes_full _ _ _ _ _
      · refine (View.readAt_unit _ _ _ rfl inb_S8x2048_S8x1024_0_1024).trans (congrArg (fun v => VecWindow.window v _ _ _) ?_)
        exact View.read_writes_full _ _ _ _ _
    iintro %acc HI
    unfold inv
    icases HI with ⟨⟨%f12, %hf12, HS1⟩, ⟨%f13, %hf13, HS2⟩, %hacc⟩
    have e13 : arg13.view.readAt (Elt F) (Rect.unit (s := S512x2048) ![0, 0] S512x2048.size inb_S512x2048_S512x2048_0_0).toLoadRect f13 = xs x0 x2 x3 s := by
      rw [View.readAt_full]
      funext y
      exact hf13 y (by have h0 : (y 0).val < 512 := (y 0).isLt; rw [trips_eq]; omega)
    rw [trips_eq] at hacc
    subst hacc
    sl_exec
    sl_step
    have hL : body.sl.HS0_3 x0 x1 x2 x3 s =
        (⟨Rect.unit (s := S8x2048) ![0, 1024] S8x1024.size inb_S8x2048_S8x1024_0_1024,
            k0_pay15 (carry (abRe x2) (abIm x2) (bu x0 x3) (stRe s, stIm s) 64).2⟩ : View.Piece (Elt F) S8x2048 .f32)
          :: ⟨Rect.unit (s := S8x2048) ![0, 0] S8x1024.size inb_S8x2048_S8x1024_0_0,
            k0_pay14 (carry (abRe x2) (abIm x2) (bu x0 x3) (stRe s, stIm s) 64).1⟩
          :: [⟨Rect.unit (s := S8x2048) ![0, 0] S8x2048.size inb_S8x2048_S8x2048_0_0, k0_pay5 x1⟩] := rfl
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact hf4
    isplitl [H5]
    · iexists _; isplitr
      swap; · iexact H5
      ipureintro; exact hf5
    isplitl [H6]
    · iexists _; isplitr
      swap; · iexact H6
      ipureintro; exact hf6
    isplitl [H7]
    · iexists _; isplitr
      swap; · iexact H7
      ipureintro
      exact read_slabs _ _ _ _ _ _ _
    isplitl [H8]
    · iexists _; isplitr
      swap; · iexact H8
      ipureintro
      refine (View.read_writes_full _ _ _ _ _).trans (congrArg k0_pay4 ?_)
      unfold body.sl.v76
      rw [hL]
      exact (View.readAt_full _ _ _).trans (read_join _ _ _ _ _ _)
    isplitl [HS0]
    · iexists _; isplitr
      swap; · iexact HS0
      ipureintro
      rw [hL]
      exact read_join _ _ _ _ _ _
    isplitl [HS1]
    · iexists _, _; isplitr
      swap; · iexact HS1
      ipureintro; rfl
    iexists _, _; isplitr
    swap; · iexact HS2
    ipureintro; rfl
  · sl_exec (disch := first | sl_exact hc)
    rw [bind_assoc]
    sl_for (inv c arg12 arg13 (abRe x2) (abIm x2) (bu x0 x3) (stRe s, stIm s)) $$ [HS1 HS2]
    case region =>
      intro k acc
      exact trip c i arg2 harg2 arg3 harg3 arg4 harg4 arg5 harg5 arg6 harg6 arg7 harg7 arg8 harg8 arg9 harg9 arg10 harg10 arg11 harg11 arg12 harg12 arg13 harg13 _ _ _ _ k acc
    · unfold inv
      isplitl [HS1]
      · iexists _; isplitr
        swap; · iexact HS1
        ipureintro
        exact View.read_writes_full _ _ _ _ _
      isplitl [HS2]
      · iexists _; isplitr
        swap; · iexact HS2
        ipureintro
        intro y hy; omega
      ipureintro
      show (_, _) = carry (abRe x2) (abIm x2) (bu x0 x3) (stRe s, stIm s) 0
      subst hs
      refine congrArg₂ Prod.mk ?_ ?_
      · refine (View.readAt_unit _ _ _ rfl inb_S8x2048_S8x1024_0_0).trans (congrArg (fun v => VecWindow.window v _ _ _) hg0)
      · refine (View.readAt_unit _ _ _ rfl inb_S8x2048_S8x1024_0_1024).trans (congrArg (fun v => VecWindow.window v _ _ _) hg0)
    iintro %acc HI
    unfold inv
    icases HI with ⟨⟨%f12, %hf12, HS1⟩, ⟨%f13, %hf13, HS2⟩, %hacc⟩
    have e13 : arg13.view.readAt (Elt F) (Rect.unit (s := S512x2048) ![0, 0] S512x2048.size inb_S512x2048_S512x2048_0_0).toLoadRect f13 = xs x0 x2 x3 s := by
      rw [View.readAt_full]
      funext y
      exact hf13 y (by have h0 : (y 0).val < 512 := (y 0).isLt; rw [trips_eq]; omega)
    rw [trips_eq] at hacc
    subst hacc
    sl_exec
    sl_step
    have hL : body.sl.HS0_2 x0 x2 x3 s =
        (⟨Rect.unit (s := S8x2048) ![0, 1024] S8x1024.size inb_S8x2048_S8x1024_0_1024,
            k0_pay15 (carry (abRe x2) (abIm x2) (bu x0 x3) (stRe s, stIm s) 64).2⟩ : View.Piece (Elt F) S8x2048 .f32)
          :: ⟨Rect.unit (s := S8x2048) ![0, 0] S8x1024.size inb_S8x2048_S8x1024_0_0,
            k0_pay14 (carry (abRe x2) (abIm x2) (bu x0 x3) (stRe s, stIm s) 64).1⟩ :: [] := rfl
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact hf4
    isplitl [H5]
    · iexists _; isplitr
      swap; · iexact H5
      ipureintro; exact hf5
    isplitl [H6]
    · iexists _; isplitr
      swap; · iexact H6
      ipureintro; exact hf6
    isplitl [H7]
    · iexists _; isplitr
      swap; · iexact H7
      ipureintro
      exact read_slabs _ _ _ _ _ _ _
    isplitl [H8]
    · iexists _; isplitr
      swap; · iexact H8
      ipureintro
      refine (View.read_writes_full _ _ _ _ _).trans (congrArg k0_pay4 ?_)
      unfold body.sl.v76_1
      rw [hL]
      exact (View.readAt_full _ _ _).trans (read_join _ _ _ _ _ _)
    isplitl [HS0]
    · iexists _; isplitr
      swap; · iexact HS0
      ipureintro
      rw [hL]
      exact read_join _ _ _ _ _ _
    isplitl [HS1]
    · iexists _, _; isplitr
      swap; · iexact HS1
      ipureintro; rfl
    iexists _, _; isplitr
    swap; · iexact HS2
    ipureintro; rfl

end Cert.KernelIdeal.S5

end
-- ==== Proof.S5Run.lean ====
/- The S5 kernel's run: the carried state point by point, the proof data, the body's obligation at every point, and the
   launch. Over any float values; the frames of the kernel and of its ideal form are both read off it. -/
module

public import proofs.«01_k».proof.Proof.S5Body
public import Idealize.ShloMosaic.Lib.Claim

@[expose] public section

set_option maxRecDepth 16384

noncomputable section

namespace Cert.KernelIdeal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first point only. -/
theorem hcond (t : Fin cfg0.N) : cond (grid0.coords t) ↔ t.val % 32 = 0 :=
  (fun t => by
    have ht : t.val < 32 := Nat.lt_of_lt_of_eq t.isLt N_0
    have e0 : (grid0.coords t 1).val = t.val / 1 % 32 := Pipeline.Grid.coords_val t 1 (by decide) rfl
    simp only [cond, e0]
    word_cmp
   : ∀ t : Fin grid0.N, cond (grid0.coords t) ↔ t.val % 32 = 0) t

abbrev ms0_0 (t : Fin cfg0.N) : Memref sig .tc .vmem S1x2x512x128 .f32 := win0_0.stage (cfg0.slots t 0)
abbrev ms0_1 (t : Fin cfg0.N) : Memref sig .tc .vmem S1x8x2048 .f32 := win0_1.stage (cfg0.slots t 1)
abbrev ms0_2 (t : Fin cfg0.N) : Memref sig .tc .vmem S8x1024 .f32 := win0_2.stage (cfg0.slots t 2)
abbrev ms0_3 (t : Fin cfg0.N) : Memref sig .tc .vmem S256x2048 .bf16 := win0_3.stage (cfg0.slots t 3)
abbrev ms0_4 (t : Fin cfg0.N) : Memref sig .tc .vmem S2048x256 .bf16 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S256x256 .bf16 := win0_6.stage (cfg0.slots t 6)
abbrev ms0_7 (t : Fin cfg0.N) : Memref sig .tc .vmem S1x2x512x128 .f32 := win0_7.stage (cfg0.slots t 7)
abbrev ms0_8 (t : Fin cfg0.N) : Memref sig .tc .vmem S1x8x2048 .f32 := win0_8.stage (cfg0.slots t 8)
abbrev scM0_0 : Memref sig .tc .vmem S8x2048 .f32 := Memref.whole cc0_scratch0
abbrev scM0_1 : Memref sig .tc .vmem S512x2048 .f32 := Memref.whole cc0_scratch1
abbrev scM0_2 : Memref sig .tc .vmem S512x2048 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The state after point `n`, -/
def stAfter (c : Dev nD) : (n : ℕ) → n < cfg0.N → Vec F S8x2048 .f32
  | 0, h => lastS (iblk m c 0 ⟨0, h⟩) (iblk m c 2 ⟨0, h⟩) (iblk m c 3 ⟨0, h⟩) (k0_pay5 (iblk m c 1 ⟨0, h⟩))
  | n + 1, h => lastS (iblk m c 0 ⟨n + 1, h⟩) (iblk m c 2 ⟨n + 1, h⟩) (iblk m c 3 ⟨n + 1, h⟩) (stAfter c n (Nat.lt_of_succ_lt h))

/-- and the one it starts from. -/
def stBefore (c : Dev nD) : (n : ℕ) → n < cfg0.N → Vec F S8x2048 .f32
  | 0, h => k0_pay5 (iblk m c 1 ⟨0, h⟩)
  | n + 1, h => stAfter m c n (Nat.lt_of_succ_lt h)

theorem stAfter_eq (c : Dev nD) (n : ℕ) (h : n < cfg0.N) :
    stAfter m c n h = lastS (iblk m c 0 ⟨n, h⟩) (iblk m c 2 ⟨n, h⟩) (iblk m c 3 ⟨n, h⟩) (stBefore m c n h) := by
  cases n <;> rfl

theorem stBefore_zero (c : Dev nD) (t : Fin cfg0.N) (hz : t.val = 0) : stBefore m c t.val t.isLt = k0_pay5 (iblk m c 1 t) := by
  obtain ⟨n, hn⟩ := t
  obtain rfl : n = 0 := hz
  rfl

theorem stBefore_pos (c : Dev nD) (n : ℕ) (h : n < cfg0.N) (hz : n ≠ 0) :
    stBefore m c n h = stAfter m c (n - 1) (Nat.lt_of_le_of_lt (Nat.sub_le _ _) h) := by
  cases n with
  | zero => exact absurd rfl hz
  | succ n => rfl

/-- The region's invariant before position `n`. -/
def PhiS (c : Dev nD) : (n : ℕ) → n ≤ cfg0.N → sProp 𝕄
  | 0, _ => Pipeline.ΦA spec0 c
  | n + 1, hn => iprop(iprop(owns (c : Thread nD τ) scM0_0 fullShare (stAfter m c n hn) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAfter m c n hn) ∗ (∃ d, owns (c : Thread nD τ) scM0_1 fullShare d) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (stAfter m c (n - 1) (by omega)) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outO (iblk m c 0 t) (iblk m c 2 t) (iblk m c 3 t) (iblk m c 4 t) (iblk m c 5 t) (iblk m c 6 t) (stBefore m c t.val t.isLt)
    | ⟨8, _⟩ => outX (iblk m c 0 t) (iblk m c 2 t) (iblk m c 3 t) (stBefore m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outO (iblk m c 0 t) (iblk m c 2 t) (iblk m c 3 t) (iblk m c 4 t) (iblk m c 5 t) (iblk m c 6 t) (stBefore m c t.val t.isLt) := by dsimp only [dats]
theorem after0_8 (c : Dev nD) (t : Fin cfg0.N) : (dats m 0 c).after 8 t = outX (iblk m c 0 t) (iblk m c 2 t) (iblk m c 3 t) (stBefore m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 3200000 in
/-- The body at a point, from what the carried scratch holds there (`s0`; at the first point anything). -/
theorem body_at (c : Dev nD) (t : Fin cfg0.N) (s0 : Vec F S8x2048 .f32)
    (hs : (cond (grid0.coords t) ∧ stBefore m c t.val t.isLt = k0_pay5 (iblk m c 1 t)) ∨ (¬ cond (grid0.coords t) ∧ stBefore m c t.val t.isLt = s0)) :
    iprop((iprop(owns (c : Thread nD τ) scM0_0 fullShare s0 ∗ (∃ d, owns (c : Thread nD τ) scM0_1 fullShare d) ∗ (∃ d, owns (c : Thread nD τ) scM0_2 fullShare d)) ∗ (∃ r, prngReg c r))
        ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d)))
      ⊢ wp frame (wpE (defs₀ (F := F)) Variants.none c none) Set.univ (bodyAt0 t) (fun _ => bodyPost m c t) := by
  unfold bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ, stAfter_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ (Memref.isWhole_whole _) _ (Memref.isWhole_whole _) _ (Memref.isWhole_whole _)
    (iblk m c 0 t) (iblk m c 1 t) (iblk m c 2 t) (iblk m c 3 t) (iblk m c 4 t) (iblk m c 5 t) (iblk m c 6 t) s0 (stBefore m c t.val t.isLt) hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  unfold bodyPre
  have hN : t.val < 32 := lt_of_lt_of_eq t.isLt (show cfg0.N = 32 from N_0)
  by_cases hz : t.val = 0
  · rw [PhiS_castSucc m c t, PhiS_zero m c _ _ hz, PhiA0_eq]
    iintro ⟨⟨⟨⟨%s0, HS0⟩, HS⟩, Hg⟩, Hr⟩
    iapply (body_at m c t s0 (.inl ⟨(hcond t).mpr (by omega), stBefore_zero m c t hz⟩))
    isplitl [HS0 HS Hg]
    · isplitl [HS0 HS]
      · isplitl [HS0]; · iexact HS0
        iexact HS
      iexact Hg
    iexact Hr
  · rw [PhiS_castSucc m c t, PhiS_pos m c _ _ hz]
    exact body_at m c t _ (.inr ⟨fun h => hz (by have := (hcond t).mp h; omega), stBefore_pos m c _ _ hz⟩)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS⟩, Hg⟩
  isplitl [HS0 HS]
  · isplitl [HS0]
    · iexists _; iexact HS0
    iexact HS
  iexact Hg

set_option backward.isDefEq.respectTransparency.types false in
/-- The launch, at any float values: every array at what the pipeline's proof data computes, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.S5

end
-- ==== Proof.S5Spec.lean ====
/- The S5 mixer over the extended reals: the state of every channel after each token, the read-out, and the gated
   output, as plain recursions and sums over the arguments. Both programs are compared with these. -/
module

public import Idealize.ShloMosaic.Lib.Pointwise

@[expose] public section

noncomputable section

namespace Cert.S5Spec

open Idealize.ShloMosaic
open scoped BigOperators

/-- The arguments. -/
structure Args where
  u : (⟨3, ![8, 2048, 256]⟩ : Shape).Idx → EReal
  xr : (⟨3, ![8, 16, 64]⟩ : Shape).Idx → EReal
  xi : (⟨3, ![8, 16, 64]⟩ : Shape).Idx → EReal
  ar : (⟨2, ![16, 64]⟩ : Shape).Idx → EReal
  ai : (⟨2, ![16, 64]⟩ : Shape).Idx → EReal
  br : (⟨3, ![16, 64, 16]⟩ : Shape).Idx → EReal
  bi : (⟨3, ![16, 64, 16]⟩ : Shape).Idx → EReal
  cr : (⟨3, ![16, 16, 64]⟩ : Shape).Idx → EReal
  ci : (⟨3, ![16, 16, 64]⟩ : Shape).Idx → EReal
  d : (⟨1, ![256]⟩ : Shape).Idx → EReal
  w : (⟨2, ![256, 256]⟩ : Shape).Idx → EReal

variable (A : Args)

/-- Token number `t`, and channel `h` of group `g`. -/
abbrev tok (t : ℕ) : Fin 2048 := ⟨t % 2048, Nat.mod_lt _ (by decide)⟩
abbrev chan (g : Fin 16) (h : Fin 16) : Fin 256 := ⟨g.val * 16 + h.val, by omega⟩

/-- What token `t` adds to a state, by an input matrix `M`. -/
def inp (M : (⟨3, ![16, 64, 16]⟩ : Shape).Idx → EReal) (b : Fin 8) (g : Fin 16) (p : Fin 64) (t : ℕ) : EReal :=
  ∑ h : Fin 16, A.u (ix3 b (tok t) (chan g h)) * M (ix3 g p h)

/-- A state's real and imaginary parts after `t` tokens. -/
def st (b : Fin 8) (g : Fin 16) (p : Fin 64) : ℕ → EReal × EReal
  | 0 => (A.xr (ix3 b g p), A.xi (ix3 b g p))
  | t + 1 =>
    (A.ar (ix2 g p) * (st b g p t).1 - A.ai (ix2 g p) * (st b g p t).2 + inp A A.br b g p t,
     A.ar (ix2 g p) * (st b g p t).2 + A.ai (ix2 g p) * (st b g p t).1 + inp A A.bi b g p t)

/-- The group and the place within it of a channel. -/
abbrev grp (c : Fin 256) : Fin 16 := ⟨c.val / 16, by omega⟩
abbrev plc (c : Fin 256) : Fin 16 := ⟨c.val % 16, by omega⟩

/-- The read-out. -/
def y (b : Fin 8) (t : ℕ) (c : Fin 256) : EReal :=
  (∑ p : Fin 64, (st A b (grp c) p (t + 1)).1 * A.cr (ix3 (grp c) (plc c) p))
    + (∑ p : Fin 64, (st A b (grp c) p (t + 1)).2 * -A.ci (ix3 (grp c) (plc c) p))
    + A.d (ix1 c) * A.u (ix3 b (tok t) c)

/-- The activation, in its form with a hyperbolic tangent. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- The gated output. -/
def out (b : Fin 8) (t : ℕ) (c : Fin 256) : EReal :=
  gelu (y A b t c) * Ideal.div 1 (1 + Ideal.exp (-∑ k : Fin 256, gelu (y A b t k) * A.w (ix2 k c)))

/-! ## Sums over the blocks of a block-diagonal matrix -/

/-- A sum over `a` blocks of `n` whose terms vanish outside block `g` is the sum over that block. -/
theorem sum_block {a n : ℕ} (f : Fin (a * n) → EReal) (g : Fin a)
    (h0 : ∀ k : Fin (a * n), k.val / n ≠ g.val → f k = 0) :
    ∑ k, f k = ∑ h : Fin n, f ⟨g.val * n + h.val, by
      have := Nat.mul_le_mul_right n (Nat.succ_le_of_lt g.isLt); have := h.isLt; rw [Nat.succ_mul] at *; omega⟩ := by
  rw [← Equiv.sum_comp finProdFinEquiv, Fintype.sum_prod_type, Finset.sum_eq_single g]
  · refine Finset.sum_congr rfl fun h _ => congrArg f (Fin.ext ?_)
    show h.val + n * g.val = g.val * n + h.val
    rw [Nat.mul_comm, Nat.add_comm]
  · intro b _ hb
    refine Finset.sum_eq_zero fun h _ => h0 _ ?_
    show (h.val + n * b.val) / n ≠ g.val
    rw [Nat.add_mul_div_left _ _ (Nat.zero_lt_of_lt h.isLt), Nat.div_eq_of_lt h.isLt, Nat.zero_add]
    exact fun e => hb (Fin.ext e)
  · exact fun hg => absurd (Finset.mem_univ g) hg

end Cert.S5Spec
-- ==== Proof.S5Host.lean ====
/- What the region's windows find: the arrays the host prepares, entry by entry, over the arguments. -/
module

public import proofs.«01_k».proof.Proof.S5Run
public import proofs.«01_k».proof.Proof.S5Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.S5

open Idealize.ShloMosaic Idealize.ShloMosaic.TcCoe Idealize.ShloMosaic.Tactic
open Idealize.SL.Sem
open Cert.KernelIdeal.Gen
open Cert.S5Spec

variable (m : (ℓ : Loc nD τ sig) → Buf (Elt Ideal) ℓ)

/-- The arguments as launched. -/
def args (c : Dev nD) : Args where
  u := m (c, Proc.devRef .tc main_arg0)
  xr := m (c, Proc.devRef .tc main_arg1)
  xi := m (c, Proc.devRef .tc main_arg2)
  ar := m (c, Proc.devRef .tc main_arg3)
  ai := m (c, Proc.devRef .tc main_arg4)
  br := m (c, Proc.devRef .tc main_arg5)
  bi := m (c, Proc.devRef .tc main_arg6)
  cr := m (c, Proc.devRef .tc main_arg7)
  ci := m (c, Proc.devRef .tc main_arg8)
  d := m (c, Proc.devRef .tc main_arg9)
  w := m (c, Proc.devRef .tc main_arg10)

/-- The identity matrix's entries, as the host makes them. -/
theorem eye_fin (a b : Fin 16) :
    (FloatOps.uitofp (F := Ideal) FTy.f32 (IntOp.cmpi CmpIPredicate.eq (IntOp.addi (BitVec.ofNat 32 a.val) 0#32) (BitVec.ofNat 32 b.val)) : EReal)
      = if a.val = b.val then 1 else 0 := by
  have : IntOp.cmpi CmpIPredicate.eq (IntOp.addi (BitVec.ofNat 32 a.val) 0#32) (BitVec.ofNat 32 b.val) = if a.val = b.val then 1#1 else 0#1 := by
    revert a b; decide
  rw [this]
  split <;> simp [FloatOps.uitofp]
theorem eye (a b : ℕ) (ha : a < 16) (hb : b < 16) :
    (FloatOps.uitofp (F := Ideal) FTy.f32 (IntOp.cmpi CmpIPredicate.eq (IntOp.addi (BitVec.ofNat 32 a) 0#32) (BitVec.ofNat 32 b)) : EReal)
      = if a = b then 1 else 0 := eye_fin ⟨a, ha⟩ ⟨b, hb⟩

theorem V45 (c : Dev nD) (r : Fin 8) (k : Fin 1024) : V m c main_v45 (ix2 r k)
    = (if r.val < 2 then if r.val < 1 then (args m c).ar (ix2 ⟨k.val / 64, by omega⟩ ⟨k.val % 64, by omega⟩)
      else (args m c).ai (ix2 ⟨k.val / 64, by omega⟩ ⟨k.val % 64, by omega⟩) else FloatOps.sitofp (F := Ideal) FTy.f32 0#32 : EReal) := by
  unfold V hostOps0 hostOps0_1 hostOps0_2
  after_reads_at
  after_reads_at
  rfl

theorem V48 (c : Dev nD) (r : Fin 8) (k : Fin 2048) : V m c main_v48 (ix3 0 r k)
    = (if h : k.val < 1024 then (args m c).xr (ix3 r ⟨k.val / 64, by omega⟩ ⟨k.val % 64, by omega⟩)
      else (args m c).xi (ix3 r ⟨(k.val - 1024) / 64, by omega⟩ ⟨(k.val - 1024) % 64, by omega⟩) : EReal) := by
  unfold V hostOps0 hostOps0_1 hostOps0_2
  after_reads_at
  try after_reads_at
  rfl

theorem pick24 (B B' : S16x64x16.Idx → EReal) (r : Fin 256) (k : Fin 2048) :
    (if h : k.val / 1024 < 1 then B (ix3 (grp r) ⟨k.val % 1024 % 64, by omega⟩ (plc r))
        * FloatOps.uitofp (F := Ideal) FTy.f32 (IntOp.cmpi CmpIPredicate.eq (IntOp.addi (BitVec.ofNat 32 (r.val / 16)) 0#32) (BitVec.ofNat 32 (k.val % 1024 / 64)))
      else B' (ix3 (grp r) ⟨k.val % 1024 % 64, by omega⟩ (plc r))
        * FloatOps.uitofp (F := Ideal) FTy.f32 (IntOp.cmpi CmpIPredicate.eq (IntOp.addi (BitVec.ofNat 32 (r.val / 16)) 0#32) (BitVec.ofNat 32 (k.val % 1024 / 64))) : EReal)
    = (if k.val / 1024 < 1 then B (ix3 (grp r) ⟨k.val % 1024 % 64, by omega⟩ (plc r))
      else B' (ix3 (grp r) ⟨k.val % 1024 % 64, by omega⟩ (plc r))) * (if r.val / 16 = k.val % 1024 / 64 then 1 else 0) := by
  rw [eye (r.val / 16) (k.val % 1024 / 64) (by omega) (by omega)]
  by_cases h : k.val / 1024 < 1
  · rw [dif_pos h, if_pos h]
  · rw [dif_neg h, if_neg h]

theorem pick41 (B B' : S16x16x64.Idx → EReal) (r : Fin 2048) (k : Fin 256) :
    (if h : r.val < 1024 then B (ix3 ⟨r.val / 64, by omega⟩ (plc k) ⟨r.val % 64, by omega⟩)
        * FloatOps.uitofp (F := Ideal) FTy.f32 (IntOp.cmpi CmpIPredicate.eq (IntOp.addi (BitVec.ofNat 32 (r.val / 64)) 0#32) (BitVec.ofNat 32 (k.val / 16)))
      else -B' (ix3 ⟨(r.val - 1024) / 64, by omega⟩ (plc k) ⟨(r.val - 1024) % 64, by omega⟩)
        * FloatOps.uitofp (F := Ideal) FTy.f32 (IntOp.cmpi CmpIPredicate.eq (IntOp.addi (BitVec.ofNat 32 ((r.val - 1024) / 64)) 0#32) (BitVec.ofNat 32 (k.val / 16))) : EReal)
    = (if r.val < 1024 then B (ix3 ⟨r.val % 1024 / 64, by omega⟩ (plc k) ⟨r.val % 64, by omega⟩)
      else -B' (ix3 ⟨r.val % 1024 / 64, by omega⟩ (plc k) ⟨r.val % 64, by omega⟩))
        * (if r.val % 1024 / 64 = k.val / 16 then 1 else 0) := by
  by_cases h : r.val < 1024
  · rw [dif_pos h, if_pos h, eye (r.val / 64) (k.val / 16) (by omega) (by omega)]
    simp only [Nat.mod_eq_of_lt h]
  · rw [dif_neg h, if_neg h, eye ((r.val - 1024) / 64) (k.val / 16) (by omega) (by omega)]
    have e : r.val % 1024 = r.val - 1024 := by omega
    have e' : (r.val - 1024) % 64 = r.val % 64 := by omega
    simp only [e, e']

theorem V24 (c : Dev nD) (r : Fin 256) (k : Fin 2048) : V m c main_v24 (ix2 r k)
    = ((if k.val / 1024 < 1 then (args m c).br (ix3 (grp r) ⟨k.val % 1024 % 64, by omega⟩ (plc r))
      else (args m c).bi (ix3 (grp r) ⟨k.val % 1024 % 64, by omega⟩ (plc r))) * (if r.val / 16 = k.val % 1024 / 64 then 1 else 0) : EReal) := by
  refine Eq.trans ?_ (pick24 _ _ r k)
  unfold V hostOps0 hostOps0_1 hostOps0_2
  after_reads_at
  after_reads_at
  rfl

theorem V41 (c : Dev nD) (r : Fin 2048) (k : Fin 256) : V m c main_v41 (ix2 r k)
    = ((if r.val < 1024 then (args m c).cr (ix3 ⟨r.val % 1024 / 64, by omega⟩ (plc k) ⟨r.val % 64, by omega⟩)
      else -(args m c).ci (ix3 ⟨r.val % 1024 / 64, by omega⟩ (plc k) ⟨r.val % 64, by omega⟩))
        * (if r.val % 1024 / 64 = k.val / 16 then 1 else 0) : EReal) := by
  refine Eq.trans ?_ (pick41 _ _ r k)
  unfold V hostOps0 hostOps0_1 hostOps0_2
  after_reads_at
  after_reads_at
  rfl

theorem V55 (c : Dev nD) (k : Fin 256) : V m c main_v55 (ix2 0 k) = ((args m c).d (ix1 k) : EReal) := by
  unfold V hostOps0 hostOps0_1 hostOps0_2
  after_reads_at
  rfl
theorem V56 (c : Dev nD) (r : Fin 256) (k : Fin 256) : V m c main_v56 (ix2 r k) = ((args m c).w (ix2 r k) : EReal) := by
  unfold V hostOps0 hostOps0_1 hostOps0_2
  after_reads_at
  rfl

theorem cast1 (x : S8x2048x256.Idx → EReal) (r : Fin 16384) (k : Fin 256) :
    shapeCast S16384x256 x shapeCasts_S8x2048x256_S16384x256 (ix2 r k)
      = x (ix3 ⟨r.val / 2048, by omega⟩ ⟨r.val % 2048, by omega⟩ k) := by
  pointwise
theorem cast2 (x : S16384x256.Idx → EReal) (b : Fin 8) (t : Fin 2048) (k : Fin 256) :
    shapeCast S1x8x2048x256 x shapeCasts_S16384x256_S1x8x2048x256 (ix4 0 b t k) = x (ix2 ⟨b.val * 2048 + t.val, by omega⟩ k) := by
  pointwise
theorem cast3 (x : S1x2048x8x256.Idx → EReal) (r : Fin 16384) (k : Fin 256) :
    shapeCast S1x16384x256 x shapeCasts_S1x2048x8x256_S1x16384x256 (ix3 0 r k)
      = x (ix4 0 ⟨r.val / 8, by omega⟩ ⟨r.val % 8, by omega⟩ k) := by
  pointwise
theorem cast4 (x : S1x16384x256.Idx → EReal) (r : Fin 16384) (s : Fin 2) (k : Fin 128) :
    shapeCast S1x16384x2x128 x shapeCasts_S1x16384x256_S1x16384x2x128 (ix4 0 r s k)
      = x (ix3 0 r ⟨s.val * 128 + k.val, by omega⟩) := by
  pointwise
theorem flip1 (x : S1x8x2048x256.Idx → EReal) (b : Fin 8) (t : Fin 2048) (k : Fin 256) :
    transpose S1x2048x8x256 [0, 2, 1, 3] x transposes_S1x8x2048x256_S1x2048x8x256_0_2_1_3 (ix4 0 t b k) = x (ix4 0 b t k) := by
  pointwise
theorem flip2 (x : S1x16384x2x128.Idx → EReal) (s : Fin 2) (r : Fin 16384) (k : Fin 128) :
    transpose S1x2x16384x128 [0, 2, 1, 3] x transposes_S1x16384x2x128_S1x2x16384x128_0_2_1_3 (ix4 0 s r k) = x (ix4 0 r s k) := by
  pointwise

/-- Time-major rows, token after token, in two slabs of columns. -/
theorem V54_eq (c : Dev nD) : V m c main_v54 =
    transpose S1x2x16384x128 [0, 2, 1, 3] (shapeCast S1x16384x2x128 (shapeCast S1x16384x256
      (transpose S1x2048x8x256 [0, 2, 1, 3] (shapeCast S1x8x2048x256 (shapeCast S16384x256 (args m c).u
        shapeCasts_S8x2048x256_S16384x256) shapeCasts_S16384x256_S1x8x2048x256)
        transposes_S1x8x2048x256_S1x2048x8x256_0_2_1_3) shapeCasts_S1x2048x8x256_S1x16384x256)
      shapeCasts_S1x16384x256_S1x16384x2x128) transposes_S1x16384x2x128_S1x2x16384x128_0_2_1_3 := by
  unfold V hostOps0 hostOps0_1 hostOps0_2
  after_reads_simp
  rfl

theorem V54 (c : Dev nD) (s : Fin 2) (r : Fin 16384) (k : Fin 128) : V m c main_v54 (ix4 0 s r k)
    = ((args m c).u (ix3 ⟨r.val % 8, by omega⟩ (tok (r.val / 8)) ⟨s.val * 128 + k.val, by omega⟩) : EReal) := by
  refine (congrFun (V54_eq m c) _).trans ?_
  rw [flip2, cast4, cast3, flip1, cast2, cast1]
  refine congrArg (args m c).u ?_
  have h0 : (r.val % 8 * 2048 + r.val / 8) / 2048 = r.val % 8 := by omega
  have h1 : (r.val % 8 * 2048 + r.val / 8) % 2048 = r.val / 8 % 2048 := by omega
  simp only [h0, h1]

/-! ## The windows' blocks -/

theorem index0 : ∀ t : Fin grid0.N, ∀ a : Fin 4, win0_0.index t a = (![0, 0, t.val, 0] : Fin 4 → ℕ) a := by decide +kernel
theorem index1 : ∀ t : Fin grid0.N, ∀ a : Fin 3, win0_1.index t a = 0 := by decide +kernel
theorem index2 : ∀ t : Fin grid0.N, ∀ a : Fin 2, win0_2.index t a = 0 := by decide +kernel
theorem index3 : ∀ t : Fin grid0.N, ∀ a : Fin 2, win0_3.index t a = 0 := by decide +kernel
theorem index4 : ∀ t : Fin grid0.N, ∀ a : Fin 2, win0_4.index t a = 0 := by decide +kernel
theorem index5 : ∀ t : Fin grid0.N, ∀ a : Fin 2, win0_5.index t a = 0 := by decide +kernel
theorem index6 : ∀ t : Fin grid0.N, ∀ a : Fin 2, win0_6.index t a = 0 := by decide +kernel
theorem index7 : ∀ t : Fin grid0.N, ∀ a : Fin 4, win0_7.index t a = (![0, 0, t.val, 0] : Fin 4 → ℕ) a := by decide +kernel

theorem lt32 (t : Fin cfg0.N) : t.val < 32 := Nat.lt_of_lt_of_eq t.isLt N_0

theorem emb0 (t : Fin cfg0.N) (s : Fin 2) (r : Fin 512) (k : Fin 128) :
    (win0_0.blk t).view.emb (ix4 0 s r k) = ix4 0 s ⟨512 * t.val + r.val, by have := lt32 t; omega⟩ k := by
  have := index0 t
  have e0 : win0_0.index t 0 = 0 := this 0
  have e1 : win0_0.index t 1 = 0 := this 1
  have e2 : win0_0.index t 2 = t.val := this 2
  have e3 : win0_0.index t 3 = 0 := this 3
  blk_ext [e0, e1, e2, e3]
theorem emb1 (t : Fin cfg0.N) (s : Fin 8) (r : Fin 2048) : (win0_1.blk t).view.emb (ix3 0 s r) = ix3 0 s r := by
  blk_ext [index1 t]
theorem emb2 (t : Fin cfg0.N) (s : Fin 8) (r : Fin 1024) : (win0_2.blk t).view.emb (ix2 s r) = ix2 s r := by
  blk_ext [index2 t]
theorem emb3 (t : Fin cfg0.N) (s : Fin 256) (r : Fin 2048) : (win0_3.blk t).view.emb (ix2 s r) = ix2 s r := by
  blk_ext [index3 t]
theorem emb4 (t : Fin cfg0.N) (s : Fin 2048) (r : Fin 256) : (win0_4.blk t).view.emb (ix2 s r) = ix2 s r := by
  blk_ext [index4 t]
theorem emb5 (t : Fin cfg0.N) (r : Fin 256) : (win0_5.blk t).view.emb (ix2 0 r) = ix2 0 r := by
  blk_ext [index5 t]
theorem emb6 (t : Fin cfg0.N) (s : Fin 256) (r : Fin 256) : (win0_6.blk t).view.emb (ix2 s r) = ix2 s r := by
  blk_ext [index6 t]

theorem pick0 (A : Args) (a b a' b' : ℕ) (k : Fin 256) (h : a = a') (hb : b = b') (ha : a < 8) (ha' : a' < 8) :
    A.u (ix3 ⟨a, ha⟩ (tok b) k) = A.u (ix3 ⟨a', ha'⟩ (tok b') k) := by subst h hb; rfl
theorem read0 (c : Dev nD) (t : Fin cfg0.N) (i : S1x2x512x128.Idx) : iblk m c 0 t i = V m c main_v54 ((win0_0.blk t).view.emb i) := by
  have h : ∀ (X : S1x2x16384x128.Idx → EReal), (win0_0.blk t).view.read (Elt Ideal) X i = X ((win0_0.blk t).view.emb i) := fun X => rfl
  exact h (V m c main_v54)
theorem iblk0 (c : Dev nD) (t : Fin cfg0.N) (s : Fin 2) (r : Fin 512) (k : Fin 128) : iblk m c 0 t (ix4 0 s r k)
    = ((args m c).u (ix3 ⟨r.val % 8, by omega⟩ (tok (64 * t.val + r.val / 8)) ⟨s.val * 128 + k.val, by omega⟩) : EReal) := by
  have e := (read0 m c t (ix4 0 s r k)).trans ((congrArg (V m c main_v54) (emb0 t s r k)).trans (V54 m c s _ k))
  refine e.trans (pick0 _ _ _ _ _ _ ?_ ?_ _ _)
  · have := lt32 t; dsimp only; omega
  · have := lt32 t; dsimp only; omega
theorem iblk1 (c : Dev nD) (t : Fin cfg0.N) (s : Fin 8) (r : Fin 2048) : iblk m c 1 t (ix3 0 s r) = V m c main_v48 (ix3 0 s r) :=
  congrArg (V m c main_v48) (emb1 t s r)
theorem iblk2 (c : Dev nD) (t : Fin cfg0.N) (s : Fin 8) (r : Fin 1024) : iblk m c 2 t (ix2 s r) = V m c main_v45 (ix2 s r) :=
  congrArg (V m c main_v45) (emb2 t s r)
theorem iblk3 (c : Dev nD) (t : Fin cfg0.N) (s : Fin 256) (r : Fin 2048) : iblk m c 3 t (ix2 s r) = V m c main_v24 (ix2 s r) :=
  congrArg (V m c main_v24) (emb3 t s r)
theorem iblk4 (c : Dev nD) (t : Fin cfg0.N) (s : Fin 2048) (r : Fin 256) : iblk m c 4 t (ix2 s r) = V m c main_v41 (ix2 s r) :=
  congrArg (V m c main_v41) (emb4 t s r)
theorem iblk5 (c : Dev nD) (t : Fin cfg0.N) (r : Fin 256) : iblk m c 5 t (ix2 0 r) = ((args m c).d (ix1 r) : EReal) :=
  (congrArg (V m c main_v55) (emb5 t r)).trans (V55 m c r)
theorem iblk6 (c : Dev nD) (t : Fin cfg0.N) (s : Fin 256) (r : Fin 256) : iblk m c 6 t (ix2 s r) = ((args m c).w (ix2 s r) : EReal) :=
  (congrArg (V m c main_v56) (emb6 t s r)).trans (V56 m c s r)

end Cert.KernelIdeal.S5
-- ==== Proof.S5Kernel.lean ====
/- The kernel's value: the carried state and the output block at every point, entry by entry, as the recursion and the
   sums of `S5Spec`. -/
module

public import proofs.«01_k».proof.Proof.S5Host

@[expose] public section

set_option maxRecDepth 16384

noncomputable section

namespace Cert.KernelIdeal.S5

open Idealize.ShloMosaic Idealize.ShloMosaic.TcCoe Idealize.ShloMosaic.Tactic
open Idealize.SL.Sem
open Cert.KernelIdeal.Gen
open Cert.S5Spec

variable (m : (ℓ : Loc nD τ sig) → Buf (Elt Ideal) ℓ)

/-- The group and the channel of a column of a half of the state, and the column of each half. -/
abbrev gOf (k : Fin 1024) : Fin 16 := ⟨k.val / 64, by omega⟩
abbrev pOf (k : Fin 1024) : Fin 64 := ⟨k.val % 64, by omega⟩
abbrev lo (k : Fin 1024) : Fin 2048 := ⟨k.val, by omega⟩
abbrev hi (k : Fin 1024) : Fin 2048 := ⟨1024 + k.val, by omega⟩
/-- The token of row `r` of a point's block. -/
abbrev tk (t : Fin cfg0.N) (r : Fin 512) : ℕ := 64 * t.val + r.val / 8
abbrev sq (r : Fin 512) : Fin 8 := ⟨r.val % 8, by omega⟩

theorem uLo_apply (x0 : Vec Ideal S1x2x512x128 .f32) (r : Fin 512) (k : Fin 128) : uLo x0 (ix4 0 0 r k) = x0 (ix4 0 0 r k) := by
  refine congrArg x0 (funext fun a => Fin.ext ?_)
  fin_cases a
  · rfl
  · rfl
  · show 0 + 1 * r.val = r.val
    omega
  · show 0 + 1 * k.val = k.val
    omega
theorem uHi_apply (x0 : Vec Ideal S1x2x512x128 .f32) (r : Fin 512) (k : Fin 128) : uHi x0 (ix4 0 0 r k) = x0 (ix4 0 1 r k) := by
  refine congrArg x0 (funext fun a => Fin.ext ?_)
  fin_cases a
  · rfl
  · rfl
  · show 0 + 1 * r.val = r.val
    omega
  · show 0 + 1 * k.val = k.val
    omega
theorem ab_apply (x2 : Vec Ideal S8x1024 .f32) (k : Fin 1024) :
    abRe x2 (ix2 0 k) = x2 (ix2 0 k) ∧ abIm x2 (ix2 0 k) = x2 (ix2 1 k) := by
  constructor
  · refine congrArg x2 (funext fun a => Fin.ext ?_)
    fin_cases a
    · rfl
    · show 0 + 1 * k.val = k.val
      omega
  · refine congrArg x2 (funext fun a => Fin.ext ?_)
    fin_cases a
    · rfl
    · show 0 + 1 * k.val = k.val
      omega
theorem st_apply (s : Vec Ideal S8x2048 .f32) (b : Fin 8) (k : Fin 1024) :
    stRe s (ix2 b k) = s (ix2 b (lo k)) ∧ stIm s (ix2 b k) = s (ix2 b (hi k)) := by
  constructor
  · refine congrArg s (funext fun a => Fin.ext ?_)
    fin_cases a
    · show 0 + 1 * b.val = b.val
      omega
    · show 0 + 1 * k.val = k.val
      omega
  · refine congrArg s (funext fun a => Fin.ext ?_)
    fin_cases a
    · show 0 + 1 * b.val = b.val
      omega
    · show 1024 + 1 * k.val = 1024 + k.val
      omega

theorem pay6_apply (a b : Vec Ideal S1x1x512x128 .f32) (r : Fin 512) (k : Fin 256) :
    k0_pay6 (F := Ideal) a b (ix2 r k) = (if h : k.val < 128 then a (ix4 0 0 r ⟨k.val, h⟩) else b (ix4 0 0 r ⟨k.val - 128, by omega⟩) : EReal) := by
  pointwise [k0_pay6]

theorem pay6_iblk (c : Dev nD) (t : Fin cfg0.N) (r : Fin 512) (k : Fin 256) :
    k0_pay6 (F := Ideal) (uLo (iblk m c 0 t)) (uHi (iblk m c 0 t)) (ix2 r k) = ((args m c).u (ix3 (sq r) (tok (tk t r)) k) : EReal) := by
  refine (pay6_apply _ _ r k).trans ?_
  by_cases h : k.val < 128
  · rw [dif_pos h]
    refine (uLo_apply _ _ _).trans ((iblk0 m c t 0 r _).trans (congrArg (args m c).u (congrArg (ix3 _ _) (Fin.ext ?_))))
    show 0 * 128 + k.val = k.val
    omega
  · rw [dif_neg h]
    refine (uHi_apply _ _ _).trans ((iblk0 m c t 1 r _).trans (congrArg (args m c).u (congrArg (ix3 _ _) (Fin.ext ?_))))
    show 1 * 128 + (k.val - 128) = k.val
    omega

theorem bu_apply (x0 : Vec Ideal S1x2x512x128 .f32) (x3 : Vec Ideal S256x2048 .bf16) (r : Fin 512) (k : Fin 2048) :
    bu x0 x3 (ix2 r k) = (∑ x : Fin 256, k0_pay6 (F := Ideal) (uLo x0) (uHi x0) (ix2 r x) * x3 (ix2 x k) : EReal) := by
  unfold bu
  pointwise [k0_pay7]

/-- The input matrix is block-diagonal: only the sixteen channels of the state's group contribute. -/
theorem in_block (U : Fin 256 → EReal) (B : Fin 256 → EReal) (g : Fin 16) :
    ∑ x : Fin 256, U x * (B x * (if x.val / 16 = g.val then 1 else 0)) = ∑ h : Fin 16, U (chan g h) * B (chan g h) := by
  refine (sum_block (a := 16) (n := 16) (fun x => U x * (B x * (if x.val / 16 = g.val then 1 else 0))) g ?_).trans ?_
  · intro k hk
    rw [if_neg hk, mul_zero, mul_zero]
  · refine Finset.sum_congr rfl fun h _ => ?_
    have e : (g.val * 16 + h.val) / 16 = g.val := by omega
    show U (chan g h) * (B (chan g h) * (if (g.val * 16 + h.val) / 16 = g.val then 1 else 0)) = _
    rw [if_pos e, mul_one]

theorem bu_lo (c : Dev nD) (t : Fin cfg0.N) (r : Fin 512) (k : Fin 1024) :
    bu (iblk m c 0 t) (iblk m c 3 t) (ix2 r (lo k)) = (inp (args m c) (args m c).br (sq r) (gOf k) (pOf k) (tk t r) : EReal) := by
  have hs : ∀ x : Fin 256, (k0_pay6 (F := Ideal) (uLo (iblk m c 0 t)) (uHi (iblk m c 0 t)) (ix2 r x) * iblk m c 3 t (ix2 x (lo k)) : EReal)
      = (args m c).u (ix3 (sq r) (tok (tk t r)) x) * ((args m c).br (ix3 (grp x) (pOf k) (plc x)) * (if x.val / 16 = (gOf k).val then 1 else 0)) := by
    intro x
    refine congrArg₂ (· * · : EReal → EReal → EReal) (pay6_iblk m c t r x) (((iblk3 m c t x (lo k)).trans (V24 m c x (lo k))).trans ?_)
    have e1 : k.val / 1024 < 1 := by omega
    have e2 : k.val % 1024 = k.val := by omega
    rw [if_pos e1]
    simp only [e2]
  refine (bu_apply _ _ r (lo k)).trans ((Finset.sum_congr rfl fun x _ => hs x).trans ((in_block _ _ (gOf k)).trans ?_))
  unfold inp
  refine Finset.sum_congr rfl fun h _ => ?_
  have e3 : grp (chan (gOf k) h) = gOf k := Fin.ext (show ((k.val / 64) * 16 + h.val) / 16 = k.val / 64 by omega)
  have e4 : plc (chan (gOf k) h) = h := Fin.ext (show ((k.val / 64) * 16 + h.val) % 16 = h.val by omega)
  rw [e3, e4]

theorem bu_hi (c : Dev nD) (t : Fin cfg0.N) (r : Fin 512) (k : Fin 1024) :
    bu (iblk m c 0 t) (iblk m c 3 t) (ix2 r (hi k)) = (inp (args m c) (args m c).bi (sq r) (gOf k) (pOf k) (tk t r) : EReal) := by
  have hs : ∀ x : Fin 256, (k0_pay6 (F := Ideal) (uLo (iblk m c 0 t)) (uHi (iblk m c 0 t)) (ix2 r x) * iblk m c 3 t (ix2 x (hi k)) : EReal)
      = (args m c).u (ix3 (sq r) (tok (tk t r)) x) * ((args m c).bi (ix3 (grp x) (pOf k) (plc x)) * (if x.val / 16 = (gOf k).val then 1 else 0)) := by
    intro x
    refine congrArg₂ (· * · : EReal → EReal → EReal) (pay6_iblk m c t r x) (((iblk3 m c t x (hi k)).trans (V24 m c x (hi k))).trans ?_)
    have e1 : ¬ (1024 + k.val) / 1024 < 1 := by omega
    have e2 : (1024 + k.val) % 1024 = k.val := by omega
    rw [if_neg e1]
    simp only [e2]
  refine (bu_apply _ _ r (hi k)).trans ((Finset.sum_congr rfl fun x _ => hs x).trans ((in_block _ _ (gOf k)).trans ?_))
  unfold inp
  refine Finset.sum_congr rfl fun h _ => ?_
  have e3 : grp (chan (gOf k) h) = gOf k := Fin.ext (show ((k.val / 64) * 16 + h.val) / 16 = k.val / 64 by omega)
  have e4 : plc (chan (gOf k) h) = h := Fin.ext (show ((k.val / 64) * 16 + h.val) % 16 = h.val by omega)
  rw [e3, e4]

theorem pay10_apply (a b : Vec Ideal S1x1024 .f32) (p q B : Vec Ideal S8x1024 .f32) (r : Fin 8) (k : Fin 1024) :
    k0_pay10 (F := Ideal) a b p q B (ix2 r k) = (a (ix2 0 k) * p (ix2 r k) - b (ix2 0 k) * q (ix2 r k) + B (ix2 r k) : EReal) := by
  pointwise [k0_pay10, k0_pay8, k0_pay9]
theorem pay11_apply (a b : Vec Ideal S1x1024 .f32) (p q B : Vec Ideal S8x1024 .f32) (r : Fin 8) (k : Fin 1024) :
    k0_pay11 (F := Ideal) a b p q B (ix2 r k) = (a (ix2 0 k) * q (ix2 r k) + b (ix2 0 k) * p (ix2 r k) + B (ix2 r k) : EReal) := by
  pointwise [k0_pay11, k0_pay8, k0_pay9]

/-- The transition's rows. -/
theorem ab_iblk (c : Dev nD) (t : Fin cfg0.N) (k : Fin 1024) :
    abRe (iblk m c 2 t) (ix2 0 k) = ((args m c).ar (ix2 (gOf k) (pOf k)) : EReal)
      ∧ abIm (iblk m c 2 t) (ix2 0 k) = ((args m c).ai (ix2 (gOf k) (pOf k)) : EReal) := by
  constructor
  · refine (ab_apply _ k).1.trans ((iblk2 m c t 0 k).trans ((V45 m c 0 k).trans ?_))
    rw [if_pos (by decide), if_pos (by decide)]
  · refine (ab_apply _ k).2.trans ((iblk2 m c t 1 k).trans ((V45 m c 1 k).trans ?_))
    rw [if_pos (by decide), if_neg (by decide)]

/-- The state after `k` tokens of a block whose tokens start at `T`. -/
theorem carry_apply (c : Dev nD) (t : Fin cfg0.N) (init : Vec Ideal S8x1024 .f32 × Vec Ideal S8x1024 .f32)
    (hi0 : ∀ (b : Fin 8) (j : Fin 1024), init.1 (ix2 b j) = (st (args m c) b (gOf j) (pOf j) (64 * t.val)).1
      ∧ init.2 (ix2 b j) = (st (args m c) b (gOf j) (pOf j) (64 * t.val)).2) (k : ℕ) (hk : k ≤ 64) (b : Fin 8) (j : Fin 1024) :
    (carry (abRe (iblk m c 2 t)) (abIm (iblk m c 2 t)) (bu (iblk m c 0 t) (iblk m c 3 t)) init k).1 (ix2 b j)
        = (st (args m c) b (gOf j) (pOf j) (64 * t.val + k)).1
      ∧ (carry (abRe (iblk m c 2 t)) (abIm (iblk m c 2 t)) (bu (iblk m c 0 t) (iblk m c 3 t)) init k).2 (ix2 b j)
        = (st (args m c) b (gOf j) (pOf j) (64 * t.val + k)).2 := by
  induction k with
  | zero => exact hi0 b j
  | succ k ih =>
    obtain ⟨i1, i2⟩ := ih (by omega)
    obtain ⟨a1, a2⟩ := ab_iblk m c t j
    have hr : (8 * k + b.val) % 512 = 8 * k + b.val := Nat.mod_eq_of_lt (by omega)
    have er : (sq ⟨(8 * k + b.val) % 512, Nat.mod_lt _ (by decide)⟩) = b := Fin.ext (show (8 * k + b.val) % 512 % 8 = b.val by omega)
    have et : tk t ⟨(8 * k + b.val) % 512, Nat.mod_lt _ (by decide)⟩ = 64 * t.val + k := by
      show 64 * t.val + (8 * k + b.val) % 512 / 8 = _
      omega
    have b1 : tokRe (bu (iblk m c 0 t) (iblk m c 3 t)) k (ix2 b j) = (inp (args m c) (args m c).br b (gOf j) (pOf j) (64 * t.val + k) : EReal) := by
      refine (bu_lo m c t ⟨(8 * k + b.val) % 512, Nat.mod_lt _ (by decide)⟩ j).trans ?_
      rw [er, et]
    have b2 : tokIm (bu (iblk m c 0 t) (iblk m c 3 t)) k (ix2 b j) = (inp (args m c) (args m c).bi b (gOf j) (pOf j) (64 * t.val + k) : EReal) := by
      refine (bu_hi m c t ⟨(8 * k + b.val) % 512, Nat.mod_lt _ (by decide)⟩ j).trans ?_
      rw [er, et]
    constructor
    · refine (pay10_apply _ _ _ _ _ b j).trans ?_
      rw [a1, a2, b1, i1, i2]
      rfl
    · refine (pay11_apply _ _ _ _ _ b j).trans ?_
      rw [a1, a2, b2, i1, i2]
      rfl

theorem join_apply (p : Vec Ideal S8x1024 .f32 × Vec Ideal S8x1024 .f32) (b : Fin 8) (j : Fin 1024) :
    joinS p (ix2 b (lo j)) = p.1 (ix2 b j) ∧ joinS p (ix2 b (hi j)) = p.2 (ix2 b j) := by
  constructor
  · exact dif_pos j.isLt
  · refine (dif_neg (by show ¬ 1024 + j.val < 1024; omega)).trans (congrArg p.2 (congrArg (ix2 _) (Fin.ext ?_)))
    show 1024 + j.val - 1024 = j.val
    omega

theorem pay5_apply (x : Vec Ideal S1x8x2048 .f32) (b : Fin 8) (j : Fin 2048) : k0_pay5 (F := Ideal) x (ix2 b j) = (x (ix3 0 b j) : EReal) := by
  pointwise [k0_pay5]
theorem pay4_apply (x : Vec Ideal S8x2048 .f32) (b : Fin 8) (j : Fin 2048) : k0_pay4 (F := Ideal) x (ix3 0 b j) = (x (ix2 b j) : EReal) := by
  pointwise [k0_pay4]

theorem start_lo (X X' : S8x16x64.Idx → EReal) (b : Fin 8) (j : Fin 1024) :
    (if h : (lo j).val < 1024 then X (ix3 b ⟨(lo j).val / 64, by omega⟩ ⟨(lo j).val % 64, by omega⟩)
      else X' (ix3 b ⟨((lo j).val - 1024) / 64, by omega⟩ ⟨((lo j).val - 1024) % 64, by omega⟩)) = X (ix3 b (gOf j) (pOf j)) :=
  dif_pos j.isLt
theorem start_hi (X X' : S8x16x64.Idx → EReal) (b : Fin 8) (j : Fin 1024) :
    (if h : (hi j).val < 1024 then X (ix3 b ⟨(hi j).val / 64, by omega⟩ ⟨(hi j).val % 64, by omega⟩)
      else X' (ix3 b ⟨((hi j).val - 1024) / 64, by omega⟩ ⟨((hi j).val - 1024) % 64, by omega⟩)) = X' (ix3 b (gOf j) (pOf j)) := by
  refine (dif_neg (by show ¬ 1024 + j.val < 1024; omega)).trans ?_
  have e : 1024 + j.val - 1024 = j.val := by omega
  simp only [e]

/-- The state a point starts from. -/
theorem before_apply (c : Dev nD) (n : ℕ) (h : n < cfg0.N) (b : Fin 8) (j : Fin 1024) :
    stBefore m c n h (ix2 b (lo j)) = (st (args m c) b (gOf j) (pOf j) (64 * n)).1
      ∧ stBefore m c n h (ix2 b (hi j)) = (st (args m c) b (gOf j) (pOf j) (64 * n)).2 := by
  induction n generalizing b j with
  | zero =>
    have e0 : stBefore m c 0 h = k0_pay5 (iblk m c 1 ⟨0, h⟩) := stBefore_zero m c ⟨0, h⟩ rfl
    have e (k : Fin 2048) : stBefore m c 0 h (ix2 b k) = V m c main_v48 (ix3 0 b k) :=
      (congrFun e0 _).trans ((pay5_apply _ b k).trans (iblk1 m c ⟨0, h⟩ b k))
    exact ⟨((e _).trans (V48 m c b (lo j))).trans (start_lo _ _ b j), ((e _).trans (V48 m c b (hi j))).trans (start_hi _ _ b j)⟩
  | succ n ih =>
    have hn : n < cfg0.N := Nat.lt_of_succ_lt h
    have hi0 : ∀ (b : Fin 8) (j : Fin 1024), stRe (stBefore m c n hn) (ix2 b j) = (st (args m c) b (gOf j) (pOf j) (64 * n)).1
        ∧ stIm (stBefore m c n hn) (ix2 b j) = (st (args m c) b (gOf j) (pOf j) (64 * n)).2 := fun b j =>
      ⟨(st_apply _ b j).1.trans (ih hn b j).1, (st_apply _ b j).2.trans (ih hn b j).2⟩
    have hc := carry_apply m c ⟨n, hn⟩ (stRe (stBefore m c n hn), stIm (stBefore m c n hn)) hi0 64 (Nat.le_refl _) b j
    have e : stBefore m c (n + 1) h = lastS (iblk m c 0 ⟨n, hn⟩) (iblk m c 2 ⟨n, hn⟩) (iblk m c 3 ⟨n, hn⟩) (stBefore m c n hn) :=
      stAfter_eq m c n hn
    rw [e]
    exact ⟨(join_apply _ b j).1.trans hc.1, (join_apply _ b j).2.trans hc.2⟩

/-- The halves of the state a point starts from, as the body splits it. -/
theorem halves (c : Dev nD) (t : Fin cfg0.N) (b : Fin 8) (j : Fin 1024) :
    stRe (stBefore m c t.val t.isLt) (ix2 b j) = (st (args m c) b (gOf j) (pOf j) (64 * t.val)).1
      ∧ stIm (stBefore m c t.val t.isLt) (ix2 b j) = (st (args m c) b (gOf j) (pOf j) (64 * t.val)).2 :=
  ⟨(st_apply _ b j).1.trans (before_apply m c _ _ b j).1, (st_apply _ b j).2.trans (before_apply m c _ _ b j).2⟩

/-- Every token's state. -/
theorem xs_apply (c : Dev nD) (t : Fin cfg0.N) (r : Fin 512) (j : Fin 1024) :
    xs (iblk m c 0 t) (iblk m c 2 t) (iblk m c 3 t) (stBefore m c t.val t.isLt) (ix2 r (lo j))
        = (st (args m c) (sq r) (gOf j) (pOf j) (tk t r + 1)).1
      ∧ xs (iblk m c 0 t) (iblk m c 2 t) (iblk m c 3 t) (stBefore m c t.val t.isLt) (ix2 r (hi j))
        = (st (args m c) (sq r) (gOf j) (pOf j) (tk t r + 1)).2 := by
  have hc := carry_apply m c t (stRe (stBefore m c t.val t.isLt), stIm (stBefore m c t.val t.isLt)) (halves m c t)
    (r.val / 8 + 1) (by omega) (sq r) j
  constructor
  · exact (dif_pos j.isLt).trans hc.1
  · refine (dif_neg (by show ¬ 1024 + j.val < 1024; omega)).trans (Eq.trans ?_ hc.2)
    refine congrArg (Prod.snd _) (congrArg (ix2 _) (Fin.ext ?_))
    show 1024 + j.val - 1024 = j.val
    omega

/-- The output matrix is block-diagonal: only the sixty-four states of the channel's group contribute. -/
theorem out_block (S : Fin 1024 → EReal) (C : Fin 1024 → EReal) (g : Fin 16) :
    ∑ x : Fin 1024, S x * (C x * (if x.val / 64 = g.val then 1 else 0))
      = ∑ p : Fin 64, S ⟨g.val * 64 + p.val, by omega⟩ * C ⟨g.val * 64 + p.val, by omega⟩ := by
  refine (sum_block (a := 16) (n := 64) (fun x => S x * (C x * (if x.val / 64 = g.val then 1 else 0))) g ?_).trans ?_
  · intro k hk
    rw [if_neg hk, mul_zero, mul_zero]
  · refine Finset.sum_congr rfl fun p _ => ?_
    have e : (g.val * 64 + p.val) / 64 = g.val := by omega
    show S ⟨g.val * 64 + p.val, by omega⟩ * (C ⟨g.val * 64 + p.val, by omega⟩ * (if (g.val * 64 + p.val) / 64 = g.val then 1 else 0)) = _
    rw [if_pos e, mul_one]

theorem xc_apply (c : Dev nD) (t : Fin cfg0.N) (r : Fin 512) (k : Fin 256) :
    (∑ x : Fin 2048, xs (iblk m c 0 t) (iblk m c 2 t) (iblk m c 3 t) (stBefore m c t.val t.isLt) (ix2 r x) * iblk m c 4 t (ix2 x k) : EReal)
      = (∑ p : Fin 64, (st (args m c) (sq r) (grp k) p (tk t r + 1)).1 * (args m c).cr (ix3 (grp k) (plc k) p))
        + ∑ p : Fin 64, (st (args m c) (sq r) (grp k) p (tk t r + 1)).2 * -(args m c).ci (ix3 (grp k) (plc k) p) := by
  refine (Fin.sum_univ_two_halves 1024 1024 rfl _).trans (congrArg₂ (· + · : EReal → EReal → EReal) ?_ ?_)
  · have hs : ∀ x : Fin 1024, (xs (iblk m c 0 t) (iblk m c 2 t) (iblk m c 3 t) (stBefore m c t.val t.isLt) (ix2 r (lo x)) * iblk m c 4 t (ix2 (lo x) k) : EReal)
        = (st (args m c) (sq r) (gOf x) (pOf x) (tk t r + 1)).1 * ((args m c).cr (ix3 (gOf x) (plc k) (pOf x)) * (if x.val / 64 = (grp k).val then 1 else 0)) := by
      intro x
      refine congrArg₂ (· * · : EReal → EReal → EReal) (xs_apply m c t r x).1 (((iblk4 m c t (lo x) k).trans (V41 m c (lo x) k)).trans ?_)
      have e2 : x.val % 1024 = x.val := by omega
      rw [if_pos x.isLt]
      simp only [e2]
    refine (Finset.sum_congr rfl fun x _ => hs x).trans ((out_block _ _ (grp k)).trans (Finset.sum_congr rfl fun p _ => ?_))
    have e3 : gOf ⟨(grp k).val * 64 + p.val, by omega⟩ = grp k := Fin.ext (show ((grp k).val * 64 + p.val) / 64 = (grp k).val by omega)
    have e4 : pOf ⟨(grp k).val * 64 + p.val, by omega⟩ = p := Fin.ext (show ((grp k).val * 64 + p.val) % 64 = p.val by omega)
    rw [e3, e4]
  · have hs : ∀ x : Fin 1024, (xs (iblk m c 0 t) (iblk m c 2 t) (iblk m c 3 t) (stBefore m c t.val t.isLt) (ix2 r (hi x)) * iblk m c 4 t (ix2 (hi x) k) : EReal)
        = (st (args m c) (sq r) (gOf x) (pOf x) (tk t r + 1)).2 * (-(args m c).ci (ix3 (gOf x) (plc k) (pOf x)) * (if x.val / 64 = (grp k).val then 1 else 0)) := by
      intro x
      refine congrArg₂ (· * · : EReal → EReal → EReal) (xs_apply m c t r x).2 (((iblk4 m c t (hi x) k).trans (V41 m c (hi x) k)).trans ?_)
      have e2 : (1024 + x.val) % 1024 = x.val := by omega
      have e5 : (1024 + x.val) % 64 = x.val % 64 := by omega
      rw [if_neg (by show ¬ 1024 + x.val < 1024; omega)]
      simp only [e2, e5]
    refine (Finset.sum_congr rfl fun x _ => hs x).trans ((out_block _ _ (grp k)).trans (Finset.sum_congr rfl fun p _ => ?_))
    have e3 : gOf ⟨(grp k).val * 64 + p.val, by omega⟩ = grp k := Fin.ext (show ((grp k).val * 64 + p.val) / 64 = (grp k).val by omega)
    have e4 : pOf ⟨(grp k).val * 64 + p.val, by omega⟩ = p := Fin.ext (show ((grp k).val * 64 + p.val) % 64 = p.val by omega)
    rw [e3, e4]

/-- The body's output at an entry, over the states and the inputs it is computed from. -/
def yOf (X : Vec Ideal S512x2048 .f32) (U : FVec Ideal S512x256 .f32) (x4 : Vec Ideal S2048x256 .bf16) (x5 : Vec Ideal S1x256 .f32)
    (r : Fin 512) (k : Fin 256) : EReal :=
  (∑ x : Fin 2048, X (ix2 r x) * x4 (ix2 x k) : EReal) + x5 (ix2 0 k) * U (ix2 r k)

theorem gated_apply (x0 : Vec Ideal S1x2x512x128 .f32) (x2 : Vec Ideal S8x1024 .f32) (x3 : Vec Ideal S256x2048 .bf16) (x4 : Vec Ideal S2048x256 .bf16)
    (x5 : Vec Ideal S1x256 .f32) (x6 : Vec Ideal S256x256 .bf16) (s : Vec Ideal S8x2048 .f32) (r : Fin 512) (k : Fin 256) :
    gated x0 x2 x3 x4 x5 x6 s (ix2 r k)
      = (gelu (yOf (xs x0 x2 x3 s) (k0_pay6 (uLo x0) (uHi x0)) x4 x5 r k)
        * Ideal.div 1 (1 + Ideal.exp (0 - ∑ x : Fin 256, gelu (yOf (xs x0 x2 x3 s) (k0_pay6 (uLo x0) (uHi x0)) x4 x5 r x) * x6 (ix2 x k))) : EReal) := by
  unfold gated
  generalize k0_pay6 (F := Ideal) (uLo x0) (uHi x0) = U
  generalize xs x0 x2 x3 s = X
  unfold gelu yOf
  pointwise [k0_pay1, k0_pay16, k0_pay17, k0_pay18]

theorem yOf_iblk (c : Dev nD) (t : Fin cfg0.N) (r : Fin 512) (k : Fin 256) :
    yOf (xs (iblk m c 0 t) (iblk m c 2 t) (iblk m c 3 t) (stBefore m c t.val t.isLt)) (k0_pay6 (uLo (iblk m c 0 t)) (uHi (iblk m c 0 t)))
      (iblk m c 4 t) (iblk m c 5 t) r k = y (args m c) (sq r) (tk t r) k := by
  unfold yOf y
  exact congrArg₂ (· + · : EReal → EReal → EReal) (xc_apply m c t r k)
    (congrArg₂ (· * · : EReal → EReal → EReal) (iblk5 m c t k) (pay6_iblk m c t r k))

/-- A point's output block. -/
theorem outO_apply (c : Dev nD) (t : Fin cfg0.N) (s : Fin 2) (r : Fin 512) (l : Fin 128) :
    outO (iblk m c 0 t) (iblk m c 2 t) (iblk m c 3 t) (iblk m c 4 t) (iblk m c 5 t) (iblk m c 6 t) (stBefore m c t.val t.isLt) (ix4 0 s r l)
      = out (args m c) (sq r) (tk t r) ⟨128 * s.val + l.val, by omega⟩ := by
  have hs : (∑ x : Fin 256, gelu (yOf (xs (iblk m c 0 t) (iblk m c 2 t) (iblk m c 3 t) (stBefore m c t.val t.isLt))
        (k0_pay6 (uLo (iblk m c 0 t)) (uHi (iblk m c 0 t))) (iblk m c 4 t) (iblk m c 5 t) r x)
        * iblk m c 6 t (ix2 x ⟨128 * s.val + l.val, by omega⟩) : EReal)
      = ∑ x : Fin 256, gelu (y (args m c) (sq r) (tk t r) x) * (args m c).w (ix2 x ⟨128 * s.val + l.val, by omega⟩) :=
    Finset.sum_congr rfl fun x _ => congrArg₂ (· * · : EReal → EReal → EReal) (congrArg gelu (yOf_iblk m c t r x)) (iblk6 m c t x _)
  refine (gated_apply _ _ _ _ _ _ _ r ⟨128 * s.val + l.val, by omega⟩).trans ?_
  exact congrArg₂ (· * · : EReal → EReal → EReal) (congrArg gelu (yOf_iblk m c t r _))
    (congrArg (fun z : EReal => Ideal.div 1 (1 + Ideal.exp z)) ((zero_sub _).trans (congrArg (- · : EReal → EReal) hs)))

/-- The final state's block. -/
theorem outX_apply (c : Dev nD) (t : Fin cfg0.N) (ht : t.val = 31) (b : Fin 8) (j : Fin 1024) :
    outX (iblk m c 0 t) (iblk m c 2 t) (iblk m c 3 t) (stBefore m c t.val t.isLt) (ix3 0 b (lo j)) = (st (args m c) b (gOf j) (pOf j) 2048).1
    ∧ outX (iblk m c 0 t) (iblk m c 2 t) (iblk m c 3 t) (stBefore m c t.val t.isLt) (ix3 0 b (hi j)) = (st (args m c) b (gOf j) (pOf j) 2048).2 := by
  have hc := carry_apply m c t (stRe (stBefore m c t.val t.isLt), stIm (stBefore m c t.val t.isLt)) (halves m c t) 64 (Nat.le_refl _) b j
  have e : 64 * t.val + 64 = 2048 := by omega
  rw [e] at hc
  exact ⟨(pay4_apply _ _ _).trans ((join_apply _ b j).1.trans hc.1), (pay4_apply _ _ _).trans ((join_apply _ b j).2.trans hc.2)⟩

/-! ## The arrays after the region -/

/-- The output array and the final state's array. -/
def outArr (c : Dev nD) : S1x2x16384x128.Idx → EReal := fun i =>
  out (args m c) ⟨(i 2).val % 8, Nat.mod_lt _ (by decide)⟩ ((i 2).val / 8)
    ⟨128 * (i 1).val + (i 3).val, by
      have h1 : (i 1).val < 2 := (i 1).isLt
      have h3 : (i 3).val < 128 := (i 3).isLt
      omega⟩
def lastAt (A : Args) (b : Fin 8) (k : Fin 2048) : EReal :=
  if h : k.val < 1024 then (st A b (gOf ⟨k.val, h⟩) (pOf ⟨k.val, h⟩) 2048).1
  else (st A b (gOf ⟨k.val - 1024, by omega⟩) (pOf ⟨k.val - 1024, by omega⟩) 2048).2
def lastArr (c : Dev nD) : S1x8x2048.Idx → EReal := fun i => lastAt (args m c) ⟨(i 1).val, (i 1).isLt⟩ ⟨(i 2).val, (i 2).isLt⟩

theorem outX_eq (c : Dev nD) (t : Fin cfg0.N) (ht : t.val = 31) :
    outX (iblk m c 0 t) (iblk m c 2 t) (iblk m c 3 t) (stBefore m c t.val t.isLt) = lastArr m c := by
  funext i
  obtain ⟨i0, i1, i2, rfl⟩ : ∃ (a : Fin 1) (b : Fin 8) (k : Fin 2048), i = ix3 a b k := ⟨i 0, i 1, i 2, by funext a; fin_cases a <;> rfl⟩
  obtain rfl : i0 = 0 := Subsingleton.elim _ _
  show _ = lastAt (args m c) i1 i2
  unfold lastAt
  by_cases h : i2.val < 1024
  · rw [dif_pos h]
    exact (outX_apply m c t ht i1 ⟨i2.val, h⟩).1
  · have e : hi ⟨i2.val - 1024, by omega⟩ = i2 := Fin.ext (show 1024 + (i2.val - 1024) = i2.val by omega)
    rw [dif_neg h]
    have := (outX_apply m c t ht i1 ⟨i2.val - 1024, by omega⟩).2
    rw [e] at this
    exact this

theorem emb7 (t : Fin cfg0.N) (s : Fin 2) (r : Fin 512) (k : Fin 128) :
    (win0_7.blk t).view.emb (ix4 0 s r k) = ix4 0 s ⟨512 * t.val + r.val, by have := lt32 t; omega⟩ k := by
  have := index7 t
  have e0 : win0_7.index t 0 = 0 := this 0
  have e1 : win0_7.index t 1 = 0 := this 1
  have e2 : win0_7.index t 2 = t.val := this 2
  have e3 : win0_7.index t 3 = 0 := this 3
  blk_ext [e0, e1, e2, e3]

theorem block7 (c : Dev nD) (t : Fin cfg0.N) (y : S1x2x512x128.Idx) :
    outO (iblk m c 0 t) (iblk m c 2 t) (iblk m c 3 t) (iblk m c 4 t) (iblk m c 5 t) (iblk m c 6 t) (stBefore m c t.val t.isLt) y
      = outArr m c ((win0_7.blk t).view.emb y) := by
  obtain ⟨a, s, r, l, rfl⟩ : ∃ (a : Fin 1) (s : Fin 2) (r : Fin 512) (l : Fin 128), y = ix4 a s r l :=
    ⟨y 0, y 1, y 2, y 3, by funext a; fin_cases a <;> rfl⟩
  obtain rfl : a = 0 := Subsingleton.elim _ _
  refine (outO_apply m c t s r l).trans (Eq.trans ?_ (congrArg (outArr m c) (emb7 t s r l)).symm)
  have e1 : sq r = ⟨(512 * t.val + r.val) % 8, Nat.mod_lt _ (by decide)⟩ := Fin.ext (show r.val % 8 = (512 * t.val + r.val) % 8 by omega)
  have e2 : tk t r = (512 * t.val + r.val) / 8 := by show 64 * t.val + r.val / 8 = _; omega
  rw [e1, e2]
  rfl

theorem final7 (c : Dev nD) : (dats m 0 c).arrAt 7 cfg0.N = outArr m c := by
  refine (dats m 0 c).arrAt_eq_of_covers 7 (outArr m c) (by decide +kernel) fun t hf y => ?_
  blk_simp
  rw [after0_7]
  exact block7 m c t y
theorem final8 (c : Dev nD) : (dats m 0 c).arrAt 8 cfg0.N = lastArr m c := by
  refine (dats m 0 c).arrAt_eq_of_after_last 8 ⟨31, by decide⟩ (by decide +kernel) (lastArr m c) fun j => ?_
  blk_simp
  exact congrFun ((after0_8 m c ⟨31, by decide⟩).trans (outX_eq m c ⟨31, by decide⟩ rfl)) _

end Cert.KernelIdeal.S5
-- ==== Proof.S5Ref.lean ====
/- The reference's value: the scan's carried buffers trip by trip, and its results entry by entry, as the recursion and
   the sums of `S5Spec`. -/
module

public import proofs.«01_k».proof.Proof.Gen.ReferenceIdeal.Run
public import proofs.«01_k».proof.Proof.S5Spec
public import Idealize.ShloMosaic.Lib.Pointwise
public import Idealize.ShloMosaic.Lib.StableHlo.ReadAt

@[expose] public section

set_option maxRecDepth 16384

noncomputable section

namespace Cert.ReferenceIdeal.S5

open Idealize.ShloMosaic Idealize.ShloMosaic.TcCoe Idealize.ShloMosaic.Tactic
open Idealize.SL.Sem
open Cert.ReferenceIdeal.Value Idealize.ShloMosaic.StableHlo Idealize.ShloMosaic.HostLoop
open Cert.S5Spec

theorem toInt_small (k : ℕ) (h : k < 2048) : (BitVec.ofNat 32 k).toInt = (k : Int) := by
  have hn : (BitVec.ofNat 32 k).toNat = k := by rw [BitVec.toNat_ofNat]; exact Nat.mod_eq_of_lt (by omega)
  rw [BitVec.toInt_eq_toNat_cond, hn]
  split <;> omega

/-- Slices and updates at token `k` of a stack over the tokens. -/
theorem slice_at (x : S2048x8x16x64.Idx → EReal) (start : Fin 4 → Int) (k : Fin 2048) (h0 : start 0 = (k.val : Int)) (h) (b : Fin 8) (g : Fin 16) (p : Fin 64) :
    Host.dynamicSlice S1x8x16x64 x start h (ix4 0 b g p) = x (ix4 k b g p) := by
  refine (Host.dynamicSlice_apply x start h _).trans (congrArg x (funext fun a => Fin.ext ?_))
  fin_cases a
  · show Host.clampedStart S2048x8x16x64 S1x8x16x64 h.1 start 0 + 0 = k.val
    rw [Host.clampedStart_of_le h.1 start 0 k.val h0 (by show k.val + 1 ≤ 2048; omega)]
    exact Nat.add_zero _
  · show Host.clampedStart S2048x8x16x64 S1x8x16x64 h.1 start 1 + b.val = b.val
    have e : Host.clampedStart S2048x8x16x64 S1x8x16x64 h.1 start 1 + 8 ≤ 8 := Host.clampedStart_le h.1 start 1 (Nat.le_refl 8)
    omega
  · show Host.clampedStart S2048x8x16x64 S1x8x16x64 h.1 start 2 + g.val = g.val
    have e : Host.clampedStart S2048x8x16x64 S1x8x16x64 h.1 start 2 + 16 ≤ 16 := Host.clampedStart_le h.1 start 2 (Nat.le_refl 16)
    omega
  · show Host.clampedStart S2048x8x16x64 S1x8x16x64 h.1 start 3 + p.val = p.val
    have e : Host.clampedStart S2048x8x16x64 S1x8x16x64 h.1 start 3 + 64 ≤ 64 := Host.clampedStart_le h.1 start 3 (Nat.le_refl 64)
    omega

theorem update_at (x : S2048x8x16x64.Idx → EReal) (y : S1x8x16x64.Idx → EReal) (start : Fin 4 → Int) (k : Fin 2048) (h0 : start 0 = (k.val : Int)) (h)
    (t : Fin 2048) (b : Fin 8) (g : Fin 16) (p : Fin 64) :
    Host.dynamicUpdateSlice x y start h (ix4 t b g p) = if t = k then y (ix4 0 b g p) else x (ix4 t b g p) := by
  have c0 : Host.clampedStart S2048x8x16x64 S1x8x16x64 h.1 start 0 = k.val :=
    Host.clampedStart_of_le h.1 start 0 k.val h0 (by show k.val + 1 ≤ 2048; omega)
  have c1 : Host.clampedStart S2048x8x16x64 S1x8x16x64 h.1 start 1 + 8 ≤ 8 := Host.clampedStart_le h.1 start 1 (Nat.le_refl 8)
  have c2 : Host.clampedStart S2048x8x16x64 S1x8x16x64 h.1 start 2 + 16 ≤ 16 := Host.clampedStart_le h.1 start 2 (Nat.le_refl 16)
  have c3 : Host.clampedStart S2048x8x16x64 S1x8x16x64 h.1 start 3 + 64 ≤ 64 := Host.clampedStart_le h.1 start 3 (Nat.le_refl 64)
  refine (Host.dynamicUpdateSlice_apply x y start h _).trans ?_
  by_cases ht : t = k
  · subst ht
    rw [if_pos rfl, dif_pos]
    · refine congrArg y (funext fun a => Fin.ext ?_)
      fin_cases a
      · show t.val - Host.clampedStart S2048x8x16x64 S1x8x16x64 h.1 start 0 = 0
        omega
      · show b.val - Host.clampedStart S2048x8x16x64 S1x8x16x64 h.1 start 1 = b.val
        omega
      · show g.val - Host.clampedStart S2048x8x16x64 S1x8x16x64 h.1 start 2 = g.val
        omega
      · show p.val - Host.clampedStart S2048x8x16x64 S1x8x16x64 h.1 start 3 = p.val
        omega
    · intro a
      fin_cases a
      · show Host.clampedStart S2048x8x16x64 S1x8x16x64 h.1 start 0 ≤ t.val ∧ t.val < Host.clampedStart S2048x8x16x64 S1x8x16x64 h.1 start 0 + 1
        omega
      · show Host.clampedStart S2048x8x16x64 S1x8x16x64 h.1 start 1 ≤ b.val ∧ b.val < Host.clampedStart S2048x8x16x64 S1x8x16x64 h.1 start 1 + 8
        omega
      · show Host.clampedStart S2048x8x16x64 S1x8x16x64 h.1 start 2 ≤ g.val ∧ g.val < Host.clampedStart S2048x8x16x64 S1x8x16x64 h.1 start 2 + 16
        omega
      · show Host.clampedStart S2048x8x16x64 S1x8x16x64 h.1 start 3 ≤ p.val ∧ p.val < Host.clampedStart S2048x8x16x64 S1x8x16x64 h.1 start 3 + 64
        omega
  · rw [if_neg ht, dif_neg]
    intro hin
    have h1 : Host.clampedStart S2048x8x16x64 S1x8x16x64 h.1 start 0 ≤ t.val ∧ t.val < Host.clampedStart S2048x8x16x64 S1x8x16x64 h.1 start 0 + 1 := hin 0
    exact ht (Fin.ext (by omega))

/-! The values one trip carries, as arrays of extended reals. -/
def c0 (V0 : Valuation τ sig (Elt Ideal)) (i : S2048x8x16x64.Idx) : EReal := V0 (Proc.devRef .tc main_v9_0) i
def c1 (V0 : Valuation τ sig (Elt Ideal)) (i : S2048x8x16x64.Idx) : EReal := V0 (Proc.devRef .tc main_v9_1) i
def c2 (V0 : Valuation τ sig (Elt Ideal)) (i : S16x64.Idx) : EReal := V0 (Proc.devRef .tc main_v9_2) i
def c3 (V0 : Valuation τ sig (Elt Ideal)) (i : S16x64.Idx) : EReal := V0 (Proc.devRef .tc main_v9_3) i
def c5 (V0 : Valuation τ sig (Elt Ideal)) (i : S8x16x64.Idx) : EReal := V0 (Proc.devRef .tc main_v9_5) i
def c6 (V0 : Valuation τ sig (Elt Ideal)) (i : S8x16x64.Idx) : EReal := V0 (Proc.devRef .tc main_v9_6) i
def c7 (V0 : Valuation τ sig (Elt Ideal)) (i : S2048x8x16x64.Idx) : EReal := V0 (Proc.devRef .tc main_v9_7) i
def c8 (V0 : Valuation τ sig (Elt Ideal)) (i : S2048x8x16x64.Idx) : EReal := V0 (Proc.devRef .tc main_v9_8) i

theorem res59 (V0 : Valuation τ sig (Elt Ideal)) (k : Fin 2048) (hk : V0 (Proc.devRef .tc main_v9_4) = fun _ => BitVec.ofNat 32 k.val) (b : Fin 8) (g : Fin 16) (p : Fin 64) : res_main_while0b_v59 V0 (ix3 b g p)
    = c2 V0 (ix2 g p) * c5 V0 (ix3 b g p) - c3 V0 (ix2 g p) * c6 V0 (ix3 b g p) + c0 V0 (ix4 k b g p) := by
  unfold res_main_while0b_v59
  generalize hz : Host.dynamicSlice S1x8x16x64 (V0 (Proc.devRef .tc main_v9_0)) _ _ = Z
  have e : Z (ix4 0 b g p) = V0 (Proc.devRef .tc main_v9_0) (ix4 k b g p) := by
    rw [← hz]
    refine slice_at _ _ k ?_ _ b g p
    rw [hk]
    exact toInt_small k.val k.isLt
  clear hz
  clean_types
  pointwise
  exact congrArg (_ + ·) e
theorem res67 (V0 : Valuation τ sig (Elt Ideal)) (k : Fin 2048) (hk : V0 (Proc.devRef .tc main_v9_4) = fun _ => BitVec.ofNat 32 k.val) (b : Fin 8) (g : Fin 16) (p : Fin 64) : res_main_while0b_v67 V0 (ix3 b g p)
    = c2 V0 (ix2 g p) * c6 V0 (ix3 b g p) + c3 V0 (ix2 g p) * c5 V0 (ix3 b g p) + c1 V0 (ix4 k b g p) := by
  unfold res_main_while0b_v67
  generalize hz : Host.dynamicSlice S1x8x16x64 (V0 (Proc.devRef .tc main_v9_1)) _ _ = Z
  have e : Z (ix4 0 b g p) = V0 (Proc.devRef .tc main_v9_1) (ix4 k b g p) := by
    rw [← hz]
    refine slice_at _ _ k ?_ _ b g p
    rw [hk]
    exact toInt_small k.val k.isLt
  clear hz
  clean_types
  pointwise
  exact congrArg (_ + ·) e
theorem stack7 (V0 : Valuation τ sig (Elt Ideal)) (k : Fin 2048) (hk : V0 (Proc.devRef .tc main_v9_4) = fun _ => BitVec.ofNat 32 k.val) (t : Fin 2048) (b : Fin 8) (g : Fin 16) (p : Fin 64) : step_main_v9_7 V0 (ix4 t b g p)
    = if t = k then res_main_while0b_v59 V0 (ix3 b g p) else c7 V0 (ix4 t b g p) := by
  unfold step_main_v9_7
  generalize res_main_while0b_v59 V0 = X
  refine (update_at _ _ _ k ?_ _ t b g p).trans ?_
  · rw [hk]
    exact toInt_small k.val k.isLt
  · refine congrArg (fun z => if t = k then z else _) ?_
    pointwise
theorem stack8 (V0 : Valuation τ sig (Elt Ideal)) (k : Fin 2048) (hk : V0 (Proc.devRef .tc main_v9_4) = fun _ => BitVec.ofNat 32 k.val) (t : Fin 2048) (b : Fin 8) (g : Fin 16) (p : Fin 64) : step_main_v9_8 V0 (ix4 t b g p)
    = if t = k then res_main_while0b_v67 V0 (ix3 b g p) else c8 V0 (ix4 t b g p) := by
  unfold step_main_v9_8
  generalize res_main_while0b_v67 V0 = X
  refine (update_at _ _ _ k ?_ _ t b g p).trans ?_
  · rw [hk]
    exact toInt_small k.val k.isLt
  · refine congrArg (fun z => if t = k then z else _) ?_
    pointwise
theorem step5 (V0 : Valuation τ sig (Elt Ideal)) : step_main_v9_5 V0 = res_main_while0b_v59 V0 := by
  unfold step_main_v9_5
  exact id_eq _
theorem step6 (V0 : Valuation τ sig (Elt Ideal)) : step_main_v9_6 V0 = res_main_while0b_v67 V0 := by
  unfold step_main_v9_6
  exact id_eq _

theorem step4 (V0 : Valuation τ sig (Elt Ideal)) (k : ℕ) (hk : V0 (Proc.devRef .tc main_v9_4) = fun _ => BitVec.ofNat 32 k) :
    step_main_v9_4 V0 = fun _ => BitVec.ofNat 32 (k + 1) := by
  unfold step_main_v9_4
  rw [hk]
  funext i
  show BitVec.ofNat 32 k + 1#32 = _
  rw [BitVec.ofNat_add]

def geluR (y : EReal) : EReal :=
  y * (Ideal.ofBits .f32 0x3F000000#32 * (1 + Ideal.tanh (Ideal.ofBits .f32 0x3F4C422A#32 * (y + Ideal.ofBits .f32 0x3D372713#32 * (y * y * y)))))

/-- What holds before trip `k`: the inputs and decays are those at entry, the states are those after `k` tokens, and the stacked states
    of the tokens before `k` are in place. -/
structure Inv (A : Args) (V0 : Valuation τ sig (Elt Ideal)) (k : ℕ) : Prop where
  ctr : V0 (Proc.devRef .tc main_v9_4) = fun _ => BitVec.ofNat 32 k
  h0 : ∀ (t : Fin 2048) b g p, c0 V0 (ix4 t b g p) = inp A A.br b g p t.val
  h1 : ∀ (t : Fin 2048) b g p, c1 V0 (ix4 t b g p) = inp A A.bi b g p t.val
  h2 : ∀ g p, c2 V0 (ix2 g p) = A.ar (ix2 g p)
  h3 : ∀ g p, c3 V0 (ix2 g p) = A.ai (ix2 g p)
  h5 : ∀ b g p, c5 V0 (ix3 b g p) = (st A b g p k).1
  h6 : ∀ b g p, c6 V0 (ix3 b g p) = (st A b g p k).2
  h7 : ∀ (t : Fin 2048), t.val < k → ∀ b g p, c7 V0 (ix4 t b g p) = (st A b g p (t.val + 1)).1
  h8 : ∀ (t : Fin 2048), t.val < k → ∀ b g p, c8 V0 (ix4 t b g p) = (st A b g p (t.val + 1)).2

theorem inv_res (A : Args) (V0 : Valuation τ sig (Elt Ideal)) (k : ℕ) (hk : k < 2048) (h : Inv A V0 k) (b : Fin 8) (g : Fin 16) (p : Fin 64) :
    res_main_while0b_v59 V0 (ix3 b g p) = (st A b g p (k + 1)).1 ∧ res_main_while0b_v67 V0 (ix3 b g p) = (st A b g p (k + 1)).2 := by
  constructor
  · rw [res59 V0 ⟨k, hk⟩ h.ctr, h.h0, h.h2, h.h3, h.h5, h.h6]
    rfl
  · rw [res67 V0 ⟨k, hk⟩ h.ctr, h.h1, h.h2, h.h3, h.h5, h.h6]
    rfl

theorem inv_step (A : Args) (V0 : Valuation τ sig (Elt Ideal)) (k : ℕ) (hk : k < 2048) (h : Inv A V0 k) : Inv A (STEP V0) (k + 1) := by
  refine ⟨?_, fun t b g p => ?_, fun t b g p => ?_, fun g p => ?_, fun g p => ?_, fun b g p => ?_, fun b g p => ?_, fun t ht b g p => ?_, fun t ht b g p => ?_⟩
  · exact (STEP_main_v9_4 V0).trans (step4 V0 k h.ctr)
  · exact (congrFun (STEP_main_v9_0 V0) _).trans (h.h0 t b g p)
  · exact (congrFun (STEP_main_v9_1 V0) _).trans (h.h1 t b g p)
  · exact (congrFun (STEP_main_v9_2 V0) _).trans (h.h2 g p)
  · exact (congrFun (STEP_main_v9_3 V0) _).trans (h.h3 g p)
  · exact (congrFun ((STEP_main_v9_5 V0).trans (step5 V0)) _).trans (inv_res A V0 k hk h b g p).1
  · exact (congrFun ((STEP_main_v9_6 V0).trans (step6 V0)) _).trans (inv_res A V0 k hk h b g p).2
  · refine (congrFun (STEP_main_v9_7 V0) _).trans ((stack7 V0 ⟨k, hk⟩ h.ctr t b g p).trans ?_)
    by_cases e : t = ⟨k, hk⟩
    · subst e
      exact (if_pos rfl).trans (inv_res A V0 k hk h b g p).1
    · exact (if_neg e).trans (h.h7 t (lt_of_le_of_ne (Nat.lt_succ_iff.mp ht) fun q => e (Fin.ext q)) b g p)
  · refine (congrFun (STEP_main_v9_8 V0) _).trans ((stack8 V0 ⟨k, hk⟩ h.ctr t b g p).trans ?_)
    by_cases e : t = ⟨k, hk⟩
    · subst e
      exact (if_pos rfl).trans (inv_res A V0 k hk h b g p).2
    · exact (if_neg e).trans (h.h8 t (lt_of_le_of_ne (Nat.lt_succ_iff.mp ht) fun q => e (Fin.ext q)) b g p)

/-- The read-out of a stack of states, as the reference writes it. -/
def yR (V0 : Valuation τ sig (Elt Ideal)) (cr ci : S16x16x64.Idx → EReal) (d : S256.Idx → EReal) (u : S8x2048x256.Idx → EReal)
    (b : Fin 8) (t : Fin 2048) (c : Fin 256) : EReal :=
  (∑ p : Fin 64, c7 V0 (ix4 t b (grp c) p) * cr (ix3 (grp c) (plc c) p))
    + (∑ p : Fin 64, c8 V0 (ix4 t b (grp c) p) * -ci (ix3 (grp c) (plc c) p))
    + d (ix1 c) * u (ix3 b t c)

theorem out46_read (V0 : Valuation τ sig (Elt Ideal)) (cr ci : S16x16x64.Idx → EReal) (d : S256.Idx → EReal) (u : S8x2048x256.Idx → EReal) (w : S256x256.Idx → EReal)
    (h7 : V0 (Proc.devRef .tc main_arg7) = cr) (h8 : V0 (Proc.devRef .tc main_arg8) = ci) (h9 : V0 (Proc.devRef .tc main_arg9) = d)
    (h0 : V0 (Proc.devRef .tc main_arg0) = u) (h10 : V0 (Proc.devRef .tc main_arg10) = w) (s : Fin 2) (r : Fin 16384) (l : Fin 128) :
    out_main_v46 V0 (ix4 0 s r l) = geluR (yR V0 cr ci d u ⟨r.val % 8, by omega⟩ ⟨r.val / 8, by omega⟩ ⟨s.val * 128 + l.val, by omega⟩)
      * Ideal.div 1 (1 + Ideal.exp (-∑ k : Fin 256, geluR (yR V0 cr ci d u ⟨r.val % 8, by omega⟩ ⟨r.val / 8, by omega⟩ k)
          * w (ix2 k ⟨s.val * 128 + l.val, by omega⟩))) := by
  subst h7 h8 h9 h0 h10
  unfold out_main_v46
  clean_types
  pointwise
  rfl

theorem out49_read (V0 : Valuation τ sig (Elt Ideal)) (b : Fin 8) (k : Fin 2048) :
    out_main_v49 V0 (ix3 0 b k) = if h : k.val < 1024 then c5 V0 (ix3 b ⟨k.val / 64, by omega⟩ ⟨k.val % 64, by omega⟩)
      else c6 V0 (ix3 b ⟨(k.val - 1024) / 64, by omega⟩ ⟨(k.val - 1024) % 64, by omega⟩) := by
  unfold out_main_v49
  clean_types
  pointwise
  rfl

variable (m : (ℓ : Loc nD τ sig) → Buf (Elt Ideal) ℓ)

/-- The arguments as launched. -/
def args (c : Dev nD) : Args where
  u := m (c, Proc.devRef .tc main_arg0)
  xr := m (c, Proc.devRef .tc main_arg1)
  xi := m (c, Proc.devRef .tc main_arg2)
  ar := m (c, Proc.devRef .tc main_arg3)
  ai := m (c, Proc.devRef .tc main_arg4)
  br := m (c, Proc.devRef .tc main_arg5)
  bi := m (c, Proc.devRef .tc main_arg6)
  cr := m (c, Proc.devRef .tc main_arg7)
  ci := m (c, Proc.devRef .tc main_arg8)
  d := m (c, Proc.devRef .tc main_arg9)
  w := m (c, Proc.devRef .tc main_arg10)

theorem buT (x : S8x2048x16x16.Idx → EReal) (M : S16x64x16.Idx → EReal) (t : Fin 2048) (b : Fin 8) (g : Fin 16) (p : Fin 64) :
    (transpose S2048x8x16x64 [1, 0, 2, 3]
        (transpose S8x2048x16x64 [1, 2, 0, 3]
          (Ideal.matmul dot_S8x2048x16x16_S16x64x16_S16x8x2048x64_3_2_01_1_2_0 x M fun _ => 0)
          Gen.transposes_S16x8x2048x64_S8x2048x16x64_1_2_0_3)
        Gen.transposes_S8x2048x16x64_S2048x8x16x64_1_0_2_3) (ix4 t b g p) = ∑ h : Fin 16, x (ix4 b t g h) * M (ix3 g p h) := by
  pointwise

theorem pre0 (c : Dev nD) (t : Fin 2048) (b : Fin 8) (g : Fin 16) (p : Fin 64) :
    entryContents preI m c (Proc.devRef .tc main_v9_0) (ix4 t b g p) = (inp (args m c) (args m c).br b g p t.val : EReal) := by
  simp only [entryContents, afterL_cons, afterL_nil]
  after_reads_at
  refine (buT _ _ t b g p).trans ?_
  unfold inp
  have e : tok t.val = t := Fin.ext (Nat.mod_eq_of_lt t.isLt)
  rw [e]
  rfl
theorem pre1 (c : Dev nD) (t : Fin 2048) (b : Fin 8) (g : Fin 16) (p : Fin 64) :
    entryContents preI m c (Proc.devRef .tc main_v9_1) (ix4 t b g p) = (inp (args m c) (args m c).bi b g p t.val : EReal) := by
  simp only [entryContents, afterL_cons, afterL_nil]
  after_reads_at
  refine (buT _ _ t b g p).trans ?_
  unfold inp
  have e : tok t.val = t := Fin.ext (Nat.mod_eq_of_lt t.isLt)
  rw [e]
  rfl
theorem pre2 (c : Dev nD) (g : Fin 16) (p : Fin 64) : entryContents preI m c (Proc.devRef .tc main_v9_2) (ix2 g p) = ((args m c).ar (ix2 g p) : EReal) := by
  simp only [entryContents, afterL_cons, afterL_nil]
  after_reads_at
  rfl
theorem pre3 (c : Dev nD) (g : Fin 16) (p : Fin 64) : entryContents preI m c (Proc.devRef .tc main_v9_3) (ix2 g p) = ((args m c).ai (ix2 g p) : EReal) := by
  simp only [entryContents, afterL_cons, afterL_nil]
  after_reads_at
  rfl
theorem pre5 (c : Dev nD) (b : Fin 8) (g : Fin 16) (p : Fin 64) : entryContents preI m c (Proc.devRef .tc main_v9_5) (ix3 b g p) = ((args m c).xr (ix3 b g p) : EReal) := by
  simp only [entryContents, afterL_cons, afterL_nil]
  after_reads_at
  rfl
theorem pre6 (c : Dev nD) (b : Fin 8) (g : Fin 16) (p : Fin 64) : entryContents preI m c (Proc.devRef .tc main_v9_6) (ix3 b g p) = ((args m c).xi (ix3 b g p) : EReal) := by
  simp only [entryContents, afterL_cons, afterL_nil]
  after_reads_at
  rfl

theorem inv_entry (c : Dev nD) : Inv (args m c) (entryContents preI m c) 0 :=
  ⟨ctr_entry m c, pre0 m c, pre1 m c, pre2 m c, pre3 m c, pre5 m c, pre6 m c, fun t ht => absurd ht (Nat.not_lt_zero _),
    fun t ht => absurd ht (Nat.not_lt_zero _)⟩

theorem inv_iter (c : Dev nD) (k : ℕ) (hk : k ≤ 2048) : Inv (args m c) (STEP^[k] (entryContents preI m c)) k := by
  induction k with
  | zero => exact inv_entry m c
  | succ k ih =>
    rw [Function.iterate_succ_apply']
    exact inv_step _ _ k (by omega) (ih (by omega))

theorem geluR_eq (x : EReal) : geluR x = gelu x := by
  unfold geluR gelu
  rw [← mul_assoc, mul_comm x]

theorem yR_eq (A : Args) (V0 : Valuation τ sig (Elt Ideal)) (h : Inv A V0 2048) (b : Fin 8) (t : Fin 2048) (c : Fin 256) :
    yR V0 A.cr A.ci A.d A.u b t c = y A b t.val c := by
  unfold yR y
  have e : tok t.val = t := Fin.ext (Nat.mod_eq_of_lt t.isLt)
  rw [e]
  refine congrArg₂ (· + · : EReal → EReal → EReal) (congrArg₂ (· + · : EReal → EReal → EReal) ?_ ?_) rfl
  · exact Finset.sum_congr rfl fun p _ => by rw [h.h7 t t.isLt]
  · exact Finset.sum_congr rfl fun p _ => by rw [h.h8 t t.isLt]

/-- The reference's first result. -/
theorem out46 (c : Dev nD) (s : Fin 2) (r : Fin 16384) (l : Fin 128) :
    out_main_v46 (STEP^[2048] (entryContents preI m c)) (ix4 0 s r l)
      = out (args m c) ⟨r.val % 8, by omega⟩ (r.val / 8) ⟨128 * s.val + l.val, by omega⟩ := by
  have h := inv_iter m c 2048 le_rfl
  have e : (⟨s.val * 128 + l.val, by omega⟩ : Fin 256) = ⟨128 * s.val + l.val, by omega⟩ := Fin.ext (by show s.val * 128 + l.val = 128 * s.val + l.val; omega)
  refine (out46_read _ _ _ _ _ _ (iter_main_arg7 m c 2048) (iter_main_arg8 m c 2048) (iter_main_arg9 m c 2048) (iter_main_arg0 m c 2048)
    (iter_main_arg10 m c 2048) s r l).trans ?_
  have Y := yR_eq (args m c) _ h ⟨r.val % 8, by omega⟩ ⟨r.val / 8, by omega⟩
  unfold out
  rw [e]
  refine congrArg₂ (· * · : EReal → EReal → EReal) ((geluR_eq _).trans (congrArg gelu (Y _))) ?_
  refine congrArg (fun z : EReal => Ideal.div 1 (1 + Ideal.exp (-z))) (Finset.sum_congr rfl fun k _ => ?_)
  exact congrArg₂ (· * · : EReal → EReal → EReal) ((geluR_eq _).trans (congrArg gelu (Y k))) rfl

/-- The reference's second result. -/
theorem out49 (c : Dev nD) (b : Fin 8) (k : Fin 2048) :
    out_main_v49 (STEP^[2048] (entryContents preI m c)) (ix3 0 b k)
      = if h : k.val < 1024 then (st (args m c) b ⟨k.val / 64, by omega⟩ ⟨k.val % 64, by omega⟩ 2048).1
        else (st (args m c) b ⟨(k.val - 1024) / 64, by omega⟩ ⟨(k.val - 1024) % 64, by omega⟩ 2048).2 := by
  have h := inv_iter m c 2048 le_rfl
  refine (out49_read _ b k).trans ?_
  by_cases hk : k.val < 1024
  · rw [dif_pos hk, dif_pos hk]
    exact h.h5 _ _ _
  · rw [dif_neg hk, dif_neg hk]
    exact h.h6 _ _ _

end Cert.ReferenceIdeal.S5
-- ==== Proof.Disc.lean ====
/- The discretisation of the S5 mixer: the call's results and its reference's, index by index. -/
module

public import proofs.«01_k».proof.Proof.Gen.Kernel5Ideal.Value
public import proofs.«01_k».proof.Proof.Gen.Reference5Ideal.Run
public import Idealize.ShloMosaic.Lib.Pointwise
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.DiscSpec

open Idealize.ShloMosaic

/-- The decay's two parts, from the two parts of `A` and the logarithm of the step. -/
def abr (a b e : EReal) : EReal := Ideal.exp (a * Ideal.exp e) * Ideal.cos (b * Ideal.exp e)
def abi (a b e : EReal) : EReal := Ideal.exp (a * Ideal.exp e) * Ideal.sin (b * Ideal.exp e)
/-- The factor of the input matrix: the decay less one, over `A`. -/
def cfr (a b e : EReal) : EReal := Ideal.div ((abr a b e - 1) * a + abi a b e * b) (a * a + b * b)
def cfi (a b e : EReal) : EReal := Ideal.div (abi a b e * a - (abr a b e - 1) * b) (a * a + b * b)
/-- The input matrix's two parts. -/
def bbr (a b e x y : EReal) : EReal := cfr a b e * x - cfi a b e * y
def bbi (a b e x y : EReal) : EReal := cfr a b e * y + cfi a b e * x

end Cert.DiscSpec

namespace Cert.Kernel5Ideal.Disc

open Idealize.ShloMosaic Idealize.ShloMosaic.TcCoe Idealize.ShloMosaic.Tactic
open Idealize.SL.Sem
open Cert.Kernel5Ideal.Gen Cert.DiscSpec

variable (m : (ℓ : Loc nD τ sig) → Buf (Elt Ideal) ℓ)

/-- The arguments, each at a row (a layer and a group) and a column (a state and an input) of the call's arrays. -/
def AR (c : Dev nD) (r : Fin 64) (k : Fin 1024) : EReal := (m (c, Proc.devRef .tc main_arg0) : S4x16x64.Idx → EReal) (ix3 ⟨r.val / 16, by omega⟩ ⟨r.val % 16, by omega⟩ ⟨k.val / 16, by omega⟩)
def AI (c : Dev nD) (r : Fin 64) (k : Fin 1024) : EReal := (m (c, Proc.devRef .tc main_arg1) : S4x16x64.Idx → EReal) (ix3 ⟨r.val / 16, by omega⟩ ⟨r.val % 16, by omega⟩ ⟨k.val / 16, by omega⟩)
def LD (c : Dev nD) (r : Fin 64) (k : Fin 1024) : EReal := (m (c, Proc.devRef .tc main_arg2) : S4x16.Idx → EReal) (ix2 ⟨r.val / 16, by omega⟩ ⟨r.val % 16, by omega⟩)
def BR (c : Dev nD) (r : Fin 64) (k : Fin 1024) : EReal := (m (c, Proc.devRef .tc main_arg3) : S4x16x64x16.Idx → EReal) (ix4 ⟨r.val / 16, by omega⟩ ⟨r.val % 16, by omega⟩ ⟨k.val / 16, by omega⟩ ⟨k.val % 16, by omega⟩)
def BI (c : Dev nD) (r : Fin 64) (k : Fin 1024) : EReal := (m (c, Proc.devRef .tc main_arg4) : S4x16x64x16.Idx → EReal) (ix4 ⟨r.val / 16, by omega⟩ ⟨r.val % 16, by omega⟩ ⟨k.val / 16, by omega⟩ ⟨k.val % 16, by omega⟩)

theorem V4 (c : Dev nD) (r : Fin 64) (k : Fin 1024) : V m c main_v4 (ix2 r k) = AR m c r k := by
  repeat after_reads_at
  pointwise
  rfl
theorem V7 (c : Dev nD) (r : Fin 64) (k : Fin 1024) : V m c main_v7 (ix2 r k) = AI m c r k := by
  repeat after_reads_at
  pointwise
  rfl
theorem V1 (c : Dev nD) (r : Fin 64) (k : Fin 1024) : V m c main_v1 (ix2 r k) = LD m c r k := by
  repeat after_reads_at
  pointwise
  rfl
theorem V8 (c : Dev nD) (r : Fin 64) (k : Fin 1024) : V m c main_v8 (ix2 r k) = BR m c r k := by
  repeat after_reads_at
  pointwise
  rfl
theorem V9 (c : Dev nD) (r : Fin 64) (k : Fin 1024) : V m c main_v9 (ix2 r k) = BI m c r k := by
  repeat after_reads_at
  pointwise
  rfl

theorem out5 (x0 x1 x2 x3 x4 : Vec Ideal S64x1024 .f32) (r : Fin 64) (k : Fin 1024) :
    out0_5 x0 x1 x2 x3 x4 (ix2 r k) = abr (x0 (ix2 r k)) (x1 (ix2 r k)) (x2 (ix2 r k)) := by
  have hz : (![0, 0] : Fin 2 → ℕ) = fun _ => 0 := by funext a; fin_cases a <;> rfl
  unfold out0_5
  have hl : ∀ x : Vec Ideal S64x1024 .f32, View.ld x r0_0 = x := fun x => View.ld_unit_zero hz _ x
  simp only [hl]
  rw [View.canon_unit_zero hz]
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out6 (x0 x1 x2 x3 x4 : Vec Ideal S64x1024 .f32) (r : Fin 64) (k : Fin 1024) :
    out0_6 x0 x1 x2 x3 x4 (ix2 r k) = abi (x0 (ix2 r k)) (x1 (ix2 r k)) (x2 (ix2 r k)) := by
  have hz : (![0, 0] : Fin 2 → ℕ) = fun _ => 0 := by funext a; fin_cases a <;> rfl
  unfold out0_6
  have hl : ∀ x : Vec Ideal S64x1024 .f32, View.ld x r0_0 = x := fun x => View.ld_unit_zero hz _ x
  simp only [hl]
  rw [View.canon_unit_zero hz]
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out7 (x0 x1 x2 x3 x4 : Vec Ideal S64x1024 .f32) (r : Fin 64) (k : Fin 1024) :
    out0_7 x0 x1 x2 x3 x4 (ix2 r k) = bbr (x0 (ix2 r k)) (x1 (ix2 r k)) (x2 (ix2 r k)) (x3 (ix2 r k)) (x4 (ix2 r k)) := by
  have hz : (![0, 0] : Fin 2 → ℕ) = fun _ => 0 := by funext a; fin_cases a <;> rfl
  unfold out0_7
  have hl : ∀ x : Vec Ideal S64x1024 .f32, View.ld x r0_0 = x := fun x => View.ld_unit_zero hz _ x
  simp only [hl]
  rw [View.canon_unit_zero hz]
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem out8 (x0 x1 x2 x3 x4 : Vec Ideal S64x1024 .f32) (r : Fin 64) (k : Fin 1024) :
    out0_8 x0 x1 x2 x3 x4 (ix2 r k) = bbi (x0 (ix2 r k)) (x1 (ix2 r k)) (x2 (ix2 r k)) (x3 (ix2 r k)) (x4 (ix2 r k)) := by
  have hz : (![0, 0] : Fin 2 → ℕ) = fun _ => 0 := by funext a; fin_cases a <;> rfl
  unfold out0_8
  have hl : ∀ x : Vec Ideal S64x1024 .f32, View.ld x r0_0 = x := fun x => View.ld_unit_zero hz _ x
  simp only [hl]
  rw [View.canon_unit_zero hz]
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem only : ∀ t : Fin grid0.N, t = ⟨0, by decide⟩ := by decide
theorem emb0 (t : Fin grid0.N) (r : Fin 64) (k : Fin 1024) : (win0_0.blk t).view.emb (ix2 r k) = ix2 r k := by
  have e0 : win0_0.index t (0 : Fin 2) = 0 := (by decide : ∀ t : Fin grid0.N, win0_0.index t (0 : Fin 2) = 0) t
  have e1 : win0_0.index t (1 : Fin 2) = 0 := (by decide : ∀ t : Fin grid0.N, win0_0.index t (1 : Fin 2) = 0) t
  blk_ext [e0, e1]
theorem emb1 (t : Fin grid0.N) (r : Fin 64) (k : Fin 1024) : (win0_1.blk t).view.emb (ix2 r k) = ix2 r k := by
  have e0 : win0_1.index t (0 : Fin 2) = 0 := (by decide : ∀ t : Fin grid0.N, win0_1.index t (0 : Fin 2) = 0) t
  have e1 : win0_1.index t (1 : Fin 2) = 0 := (by decide : ∀ t : Fin grid0.N, win0_1.index t (1 : Fin 2) = 0) t
  blk_ext [e0, e1]
theorem emb2 (t : Fin grid0.N) (r : Fin 64) (k : Fin 1024) : (win0_2.blk t).view.emb (ix2 r k) = ix2 r k := by
  have e0 : win0_2.index t (0 : Fin 2) = 0 := (by decide : ∀ t : Fin grid0.N, win0_2.index t (0 : Fin 2) = 0) t
  have e1 : win0_2.index t (1 : Fin 2) = 0 := (by decide : ∀ t : Fin grid0.N, win0_2.index t (1 : Fin 2) = 0) t
  blk_ext [e0, e1]
theorem emb3 (t : Fin grid0.N) (r : Fin 64) (k : Fin 1024) : (win0_3.blk t).view.emb (ix2 r k) = ix2 r k := by
  have e0 : win0_3.index t (0 : Fin 2) = 0 := (by decide : ∀ t : Fin grid0.N, win0_3.index t (0 : Fin 2) = 0) t
  have e1 : win0_3.index t (1 : Fin 2) = 0 := (by decide : ∀ t : Fin grid0.N, win0_3.index t (1 : Fin 2) = 0) t
  blk_ext [e0, e1]
theorem emb4 (t : Fin grid0.N) (r : Fin 64) (k : Fin 1024) : (win0_4.blk t).view.emb (ix2 r k) = ix2 r k := by
  have e0 : win0_4.index t (0 : Fin 2) = 0 := (by decide : ∀ t : Fin grid0.N, win0_4.index t (0 : Fin 2) = 0) t
  have e1 : win0_4.index t (1 : Fin 2) = 0 := (by decide : ∀ t : Fin grid0.N, win0_4.index t (1 : Fin 2) = 0) t
  blk_ext [e0, e1]
theorem emb5 (t : Fin grid0.N) (r : Fin 64) (k : Fin 1024) : (win0_5.blk t).view.emb (ix2 r k) = ix2 r k := by
  have e0 : win0_5.index t (0 : Fin 2) = 0 := (by decide : ∀ t : Fin grid0.N, win0_5.index t (0 : Fin 2) = 0) t
  have e1 : win0_5.index t (1 : Fin 2) = 0 := (by decide : ∀ t : Fin grid0.N, win0_5.index t (1 : Fin 2) = 0) t
  blk_ext [e0, e1]
theorem emb6 (t : Fin grid0.N) (r : Fin 64) (k : Fin 1024) : (win0_6.blk t).view.emb (ix2 r k) = ix2 r k := by
  have e0 : win0_6.index t (0 : Fin 2) = 0 := (by decide : ∀ t : Fin grid0.N, win0_6.index t (0 : Fin 2) = 0) t
  have e1 : win0_6.index t (1 : Fin 2) = 0 := (by decide : ∀ t : Fin grid0.N, win0_6.index t (1 : Fin 2) = 0) t
  blk_ext [e0, e1]
theorem emb7 (t : Fin grid0.N) (r : Fin 64) (k : Fin 1024) : (win0_7.blk t).view.emb (ix2 r k) = ix2 r k := by
  have e0 : win0_7.index t (0 : Fin 2) = 0 := (by decide : ∀ t : Fin grid0.N, win0_7.index t (0 : Fin 2) = 0) t
  have e1 : win0_7.index t (1 : Fin 2) = 0 := (by decide : ∀ t : Fin grid0.N, win0_7.index t (1 : Fin 2) = 0) t
  blk_ext [e0, e1]
theorem emb8 (t : Fin grid0.N) (r : Fin 64) (k : Fin 1024) : (win0_8.blk t).view.emb (ix2 r k) = ix2 r k := by
  have e0 : win0_8.index t (0 : Fin 2) = 0 := (by decide : ∀ t : Fin grid0.N, win0_8.index t (0 : Fin 2) = 0) t
  have e1 : win0_8.index t (1 : Fin 2) = 0 := (by decide : ∀ t : Fin grid0.N, win0_8.index t (1 : Fin 2) = 0) t
  blk_ext [e0, e1]
theorem blk0 (c : Dev nD) (t : Fin grid0.N) (r : Fin 64) (k : Fin 1024) : iblk m c 0 t (ix2 r k) = AR m c r k :=
  (congrArg (V m c main_v4) (emb0 t r k)).trans (V4 m c r k)
theorem blk1 (c : Dev nD) (t : Fin grid0.N) (r : Fin 64) (k : Fin 1024) : iblk m c 1 t (ix2 r k) = AI m c r k :=
  (congrArg (V m c main_v7) (emb1 t r k)).trans (V7 m c r k)
theorem blk2 (c : Dev nD) (t : Fin grid0.N) (r : Fin 64) (k : Fin 1024) : iblk m c 2 t (ix2 r k) = LD m c r k :=
  (congrArg (V m c main_v1) (emb2 t r k)).trans (V1 m c r k)
theorem blk3 (c : Dev nD) (t : Fin grid0.N) (r : Fin 64) (k : Fin 1024) : iblk m c 3 t (ix2 r k) = BR m c r k :=
  (congrArg (V m c main_v8) (emb3 t r k)).trans (V8 m c r k)
theorem blk4 (c : Dev nD) (t : Fin grid0.N) (r : Fin 64) (k : Fin 1024) : iblk m c 4 t (ix2 r k) = BI m c r k :=
  (congrArg (V m c main_v9) (emb4 t r k)).trans (V9 m c r k)

def arr5 (c : Dev nD) : S64x1024.Idx → EReal := fun i => abr (AR m c (i 0) (i 1)) (AI m c (i 0) (i 1)) (LD m c (i 0) (i 1))

theorem covers5 : (cfg0.win 5).Covers := by
  refine (cfg0.win 5).covers_of_index_surj rfl (show ∀ x : Fin 2, 0 < ![64, 1024] x by decide) fun β => ?_
  have h0 : (β (0 : Fin 2)).val < 1 := Nat.lt_of_lt_of_eq (β (0 : Fin 2)).isLt (show (64 + 64 - 1) / 64 = 1 by norm_num)
  have h1 : (β (1 : Fin 2)).val < 1 := Nat.lt_of_lt_of_eq (β (1 : Fin 2)).isLt (show (1024 + 1024 - 1) / 1024 = 1 by norm_num)
  refine ⟨⟨0, by decide⟩, fun x => ?_⟩
  obtain rfl | rfl : x = (0 : Fin 2) ∨ x = (1 : Fin 2) := (by decide : ∀ x : Fin 2, x = 0 ∨ x = 1) x
  · exact (show 0 = (β (0 : Fin 2)).val by omega)
  · exact (show 0 = (β (1 : Fin 2)).val by omega)

theorem final5 (c : Dev nD) : (dats m 0 c).arrAt 5 cfg0.N = arr5 m c := by
  refine (dats m 0 c).arrAt_eq_of_covers 5 (arr5 m c) covers5 fun t hf y => ?_
  blk_simp
  rw [after0_5]
  obtain ⟨r, k, rfl⟩ : ∃ (r : Fin 64) (k : Fin 1024), y = ix2 r k := ⟨y 0, y 1, by funext a; fin_cases a <;> rfl⟩
  refine (out5 _ _ _ _ _ r k).trans (Eq.trans ?_ (congrArg (arr5 m c) (emb5 t r k)).symm)
  simp only [blk0, blk1, blk2]
  rfl

def arr6 (c : Dev nD) : S64x1024.Idx → EReal := fun i => abi (AR m c (i 0) (i 1)) (AI m c (i 0) (i 1)) (LD m c (i 0) (i 1))

theorem covers6 : (cfg0.win 6).Covers := by
  refine (cfg0.win 6).covers_of_index_surj rfl (show ∀ x : Fin 2, 0 < ![64, 1024] x by decide) fun β => ?_
  have h0 : (β (0 : Fin 2)).val < 1 := Nat.lt_of_lt_of_eq (β (0 : Fin 2)).isLt (show (64 + 64 - 1) / 64 = 1 by norm_num)
  have h1 : (β (1 : Fin 2)).val < 1 := Nat.lt_of_lt_of_eq (β (1 : Fin 2)).isLt (show (1024 + 1024 - 1) / 1024 = 1 by norm_num)
  refine ⟨⟨0, by decide⟩, fun x => ?_⟩
  obtain rfl | rfl : x = (0 : Fin 2) ∨ x = (1 : Fin 2) := (by decide : ∀ x : Fin 2, x = 0 ∨ x = 1) x
  · exact (show 0 = (β (0 : Fin 2)).val by omega)
  · exact (show 0 = (β (1 : Fin 2)).val by omega)

theorem final6 (c : Dev nD) : (dats m 0 c).arrAt 6 cfg0.N = arr6 m c := by
  refine (dats m 0 c).arrAt_eq_of_covers 6 (arr6 m c) covers6 fun t hf y => ?_
  blk_simp
  rw [after0_6]
  obtain ⟨r, k, rfl⟩ : ∃ (r : Fin 64) (k : Fin 1024), y = ix2 r k := ⟨y 0, y 1, by funext a; fin_cases a <;> rfl⟩
  refine (out6 _ _ _ _ _ r k).trans (Eq.trans ?_ (congrArg (arr6 m c) (emb6 t r k)).symm)
  simp only [blk0, blk1, blk2]
  rfl

def arr7 (c : Dev nD) : S64x1024.Idx → EReal := fun i => bbr (AR m c (i 0) (i 1)) (AI m c (i 0) (i 1)) (LD m c (i 0) (i 1)) (BR m c (i 0) (i 1)) (BI m c (i 0) (i 1))

theorem covers7 : (cfg0.win 7).Covers := by
  refine (cfg0.win 7).covers_of_index_surj rfl (show ∀ x : Fin 2, 0 < ![64, 1024] x by decide) fun β => ?_
  have h0 : (β (0 : Fin 2)).val < 1 := Nat.lt_of_lt_of_eq (β (0 : Fin 2)).isLt (show (64 + 64 - 1) / 64 = 1 by norm_num)
  have h1 : (β (1 : Fin 2)).val < 1 := Nat.lt_of_lt_of_eq (β (1 : Fin 2)).isLt (show (1024 + 1024 - 1) / 1024 = 1 by norm_num)
  refine ⟨⟨0, by decide⟩, fun x => ?_⟩
  obtain rfl | rfl : x = (0 : Fin 2) ∨ x = (1 : Fin 2) := (by decide : ∀ x : Fin 2, x = 0 ∨ x = 1) x
  · exact (show 0 = (β (0 : Fin 2)).val by omega)
  · exact (show 0 = (β (1 : Fin 2)).val by omega)

theorem final7 (c : Dev nD) : (dats m 0 c).arrAt 7 cfg0.N = arr7 m c := by
  refine (dats m 0 c).arrAt_eq_of_covers 7 (arr7 m c) covers7 fun t hf y => ?_
  blk_simp
  rw [after0_7]
  obtain ⟨r, k, rfl⟩ : ∃ (r : Fin 64) (k : Fin 1024), y = ix2 r k := ⟨y 0, y 1, by funext a; fin_cases a <;> rfl⟩
  refine (out7 _ _ _ _ _ r k).trans (Eq.trans ?_ (congrArg (arr7 m c) (emb7 t r k)).symm)
  simp only [blk0, blk1, blk2, blk3, blk4]
  rfl

def arr8 (c : Dev nD) : S64x1024.Idx → EReal := fun i => bbi (AR m c (i 0) (i 1)) (AI m c (i 0) (i 1)) (LD m c (i 0) (i 1)) (BR m c (i 0) (i 1)) (BI m c (i 0) (i 1))

theorem covers8 : (cfg0.win 8).Covers := by
  refine (cfg0.win 8).covers_of_index_surj rfl (show ∀ x : Fin 2, 0 < ![64, 1024] x by decide) fun β => ?_
  have h0 : (β (0 : Fin 2)).val < 1 := Nat.lt_of_lt_of_eq (β (0 : Fin 2)).isLt (show (64 + 64 - 1) / 64 = 1 by norm_num)
  have h1 : (β (1 : Fin 2)).val < 1 := Nat.lt_of_lt_of_eq (β (1 : Fin 2)).isLt (show (1024 + 1024 - 1) / 1024 = 1 by norm_num)
  refine ⟨⟨0, by decide⟩, fun x => ?_⟩
  obtain rfl | rfl : x = (0 : Fin 2) ∨ x = (1 : Fin 2) := (by decide : ∀ x : Fin 2, x = 0 ∨ x = 1) x
  · exact (show 0 = (β (0 : Fin 2)).val by omega)
  · exact (show 0 = (β (1 : Fin 2)).val by omega)

theorem final8 (c : Dev nD) : (dats m 0 c).arrAt 8 cfg0.N = arr8 m c := by
  refine (dats m 0 c).arrAt_eq_of_covers 8 (arr8 m c) covers8 fun t hf y => ?_
  blk_simp
  rw [after0_8]
  obtain ⟨r, k, rfl⟩ : ∃ (r : Fin 64) (k : Fin 1024), y = ix2 r k := ⟨y 0, y 1, by funext a; fin_cases a <;> rfl⟩
  refine (out8 _ _ _ _ _ r k).trans (Eq.trans ?_ (congrArg (arr8 m c) (emb8 t r k)).symm)
  simp only [blk0, blk1, blk2, blk3, blk4]
  rfl

end Cert.Kernel5Ideal.Disc

namespace Cert.Reference5Ideal.Disc

open Idealize.ShloMosaic Idealize.ShloMosaic.TcCoe Idealize.ShloMosaic.Tactic
open Idealize.SL.Sem
open Cert.Reference5Ideal.Gen Cert.DiscSpec

set_option maxHeartbeats 2000000 in
theorem out5 (x0 x1 : FVec Ideal S4x16x64 .f32) (x2 : FVec Ideal S4x16 .f32) (r : Fin 64) (k : Fin 1024) :
    (shapeCast _ (broadcastInDim S4x16x64x16 ![0, 1, 2, 3] bcast_S4x16x64x1_S4x16x64x16_0_1_2_3 (broadcastInDim S4x16x64x1 ![0, 1, 2] bcast_S4x16x64_S4x16x64x1_0_1_2 (mulf (Host.exp (mulf x0 (broadcastInDim S4x16x64 ![0, 1, 2] bcast_S4x16x1_S4x16x64_0_1_2 (broadcastInDim S4x16x1 ![0, 1] bcast_S4x16_S4x16x1_0_1 (Host.exp x2))))) (Host.cos (mulf x1 (broadcastInDim S4x16x64 ![0, 1, 2] bcast_S4x16x1_S4x16x64_0_1_2 (broadcastInDim S4x16x1 ![0, 1] bcast_S4x16_S4x16x1_0_1 (Host.exp x2)))))))) shapeCasts_S4x16x64x16_S64x1024 : FVec Ideal S64x1024 .f32) (ix2 r k)
      = abr (x0 (ix3 ⟨r.val / 16, by omega⟩ ⟨r.val % 16, by omega⟩ ⟨k.val / 16, by omega⟩)) (x1 (ix3 ⟨r.val / 16, by omega⟩ ⟨r.val % 16, by omega⟩ ⟨k.val / 16, by omega⟩)) (x2 (ix2 ⟨r.val / 16, by omega⟩ ⟨r.val % 16, by omega⟩)) := by
  pointwise
  rfl

set_option maxHeartbeats 2000000 in
theorem out6 (x0 x1 : FVec Ideal S4x16x64 .f32) (x2 : FVec Ideal S4x16 .f32) (r : Fin 64) (k : Fin 1024) :
    (shapeCast _ (broadcastInDim S4x16x64x16 ![0, 1, 2, 3] bcast_S4x16x64x1_S4x16x64x16_0_1_2_3 (broadcastInDim S4x16x64x1 ![0, 1, 2] bcast_S4x16x64_S4x16x64x1_0_1_2 (mulf (Host.exp (mulf x0 (broadcastInDim S4x16x64 ![0, 1, 2] bcast_S4x16x1_S4x16x64_0_1_2 (broadcastInDim S4x16x1 ![0, 1] bcast_S4x16_S4x16x1_0_1 (Host.exp x2))))) (Host.sin (mulf x1 (broadcastInDim S4x16x64 ![0, 1, 2] bcast_S4x16x1_S4x16x64_0_1_2 (broadcastInDim S4x16x1 ![0, 1] bcast_S4x16_S4x16x1_0_1 (Host.exp x2)))))))) shapeCasts_S4x16x64x16_S64x1024 : FVec Ideal S64x1024 .f32) (ix2 r k)
      = abi (x0 (ix3 ⟨r.val / 16, by omega⟩ ⟨r.val % 16, by omega⟩ ⟨k.val / 16, by omega⟩)) (x1 (ix3 ⟨r.val / 16, by omega⟩ ⟨r.val % 16, by omega⟩ ⟨k.val / 16, by omega⟩)) (x2 (ix2 ⟨r.val / 16, by omega⟩ ⟨r.val % 16, by omega⟩)) := by
  pointwise
  rfl

set_option maxHeartbeats 2000000 in
theorem out7 (x0 x1 : FVec Ideal S4x16x64 .f32) (x2 : FVec Ideal S4x16 .f32) (x3 x4 : FVec Ideal S4x16x64x16 .f32) (r : Fin 64) (k : Fin 1024) :
    (shapeCast _ (subf (mulf (broadcastInDim S4x16x64x16 ![0, 1, 2, 3] bcast_S4x16x64x1_S4x16x64x16_0_1_2_3 (broadcastInDim S4x16x64x1 ![0, 1, 2] bcast_S4x16x64_S4x16x64x1_0_1_2 (Host.divf (addf (mulf (subf (mulf (Host.exp (mulf x0 (broadcastInDim S4x16x64 ![0, 1, 2] bcast_S4x16x1_S4x16x64_0_1_2 (broadcastInDim S4x16x1 ![0, 1] bcast_S4x16_S4x16x1_0_1 (Host.exp x2))))) (Host.cos (mulf x1 (broadcastInDim S4x16x64 ![0, 1, 2] bcast_S4x16x1_S4x16x64_0_1_2 (broadcastInDim S4x16x1 ![0, 1] bcast_S4x16_S4x16x1_0_1 (Host.exp x2)))))) (broadcastInDim S4x16x64 ![] bcast_S_S4x16x64 (constant S_ .f32 0x3F800000#32))) x0) (mulf (mulf (Host.exp (mulf x0 (broadcastInDim S4x16x64 ![0, 1, 2] bcast_S4x16x1_S4x16x64_0_1_2 (broadcastInDim S4x16x1 ![0, 1] bcast_S4x16_S4x16x1_0_1 (Host.exp x2))))) (Host.sin (mulf x1 (broadcastInDim S4x16x64 ![0, 1, 2] bcast_S4x16x1_S4x16x64_0_1_2 (broadcastInDim S4x16x1 ![0, 1] bcast_S4x16_S4x16x1_0_1 (Host.exp x2)))))) x1)) (addf (mulf x0 x0) (mulf x1 x1))))) x3) (mulf (broadcastInDim S4x16x64x16 ![0, 1, 2, 3] bcast_S4x16x64x1_S4x16x64x16_0_1_2_3 (broadcastInDim S4x16x64x1 ![0, 1, 2] bcast_S4x16x64_S4x16x64x1_0_1_2 (Host.divf (subf (mulf (mulf (Host.exp (mulf x0 (broadcastInDim S4x16x64 ![0, 1, 2] bcast_S4x16x1_S4x16x64_0_1_2 (broadcastInDim S4x16x1 ![0, 1] bcast_S4x16_S4x16x1_0_1 (Host.exp x2))))) (Host.sin (mulf x1 (broadcastInDim S4x16x64 ![0, 1, 2] bcast_S4x16x1_S4x16x64_0_1_2 (broadcastInDim S4x16x1 ![0, 1] bcast_S4x16_S4x16x1_0_1 (Host.exp x2)))))) x0) (mulf (subf (mulf (Host.exp (mulf x0 (broadcastInDim S4x16x64 ![0, 1, 2] bcast_S4x16x1_S4x16x64_0_1_2 (broadcastInDim S4x16x1 ![0, 1] bcast_S4x16_S4x16x1_0_1 (Host.exp x2))))) (Host.cos (mulf x1 (broadcastInDim S4x16x64 ![0, 1, 2] bcast_S4x16x1_S4x16x64_0_1_2 (broadcastInDim S4x16x1 ![0, 1] bcast_S4x16_S4x16x1_0_1 (Host.exp x2)))))) (broadcastInDim S4x16x64 ![] bcast_S_S4x16x64 (constant S_ .f32 0x3F800000#32))) x1)) (addf (mulf x0 x0) (mulf x1 x1))))) x4)) shapeCasts_S4x16x64x16_S64x1024 : FVec Ideal S64x1024 .f32) (ix2 r k)
      = bbr (x0 (ix3 ⟨r.val / 16, by omega⟩ ⟨r.val % 16, by omega⟩ ⟨k.val / 16, by omega⟩)) (x1 (ix3 ⟨r.val / 16, by omega⟩ ⟨r.val % 16, by omega⟩ ⟨k.val / 16, by omega⟩)) (x2 (ix2 ⟨r.val / 16, by omega⟩ ⟨r.val % 16, by omega⟩)) (x3 (ix4 ⟨r.val / 16, by omega⟩ ⟨r.val % 16, by omega⟩ ⟨k.val / 16, by omega⟩ ⟨k.val % 16, by omega⟩)) (x4 (ix4 ⟨r.val / 16, by omega⟩ ⟨r.val % 16, by omega⟩ ⟨k.val / 16, by omega⟩ ⟨k.val % 16, by omega⟩)) := by
  pointwise
  rfl

set_option maxHeartbeats 2000000 in
theorem out8 (x0 x1 : FVec Ideal S4x16x64 .f32) (x2 : FVec Ideal S4x16 .f32) (x3 x4 : FVec Ideal S4x16x64x16 .f32) (r : Fin 64) (k : Fin 1024) :
    (shapeCast _ (addf (mulf (broadcastInDim S4x16x64x16 ![0, 1, 2, 3] bcast_S4x16x64x1_S4x16x64x16_0_1_2_3 (broadcastInDim S4x16x64x1 ![0, 1, 2] bcast_S4x16x64_S4x16x64x1_0_1_2 (Host.divf (addf (mulf (subf (mulf (Host.exp (mulf x0 (broadcastInDim S4x16x64 ![0, 1, 2] bcast_S4x16x1_S4x16x64_0_1_2 (broadcastInDim S4x16x1 ![0, 1] bcast_S4x16_S4x16x1_0_1 (Host.exp x2))))) (Host.cos (mulf x1 (broadcastInDim S4x16x64 ![0, 1, 2] bcast_S4x16x1_S4x16x64_0_1_2 (broadcastInDim S4x16x1 ![0, 1] bcast_S4x16_S4x16x1_0_1 (Host.exp x2)))))) (broadcastInDim S4x16x64 ![] bcast_S_S4x16x64 (constant S_ .f32 0x3F800000#32))) x0) (mulf (mulf (Host.exp (mulf x0 (broadcastInDim S4x16x64 ![0, 1, 2] bcast_S4x16x1_S4x16x64_0_1_2 (broadcastInDim S4x16x1 ![0, 1] bcast_S4x16_S4x16x1_0_1 (Host.exp x2))))) (Host.sin (mulf x1 (broadcastInDim S4x16x64 ![0, 1, 2] bcast_S4x16x1_S4x16x64_0_1_2 (broadcastInDim S4x16x1 ![0, 1] bcast_S4x16_S4x16x1_0_1 (Host.exp x2)))))) x1)) (addf (mulf x0 x0) (mulf x1 x1))))) x4) (mulf (broadcastInDim S4x16x64x16 ![0, 1, 2, 3] bcast_S4x16x64x1_S4x16x64x16_0_1_2_3 (broadcastInDim S4x16x64x1 ![0, 1, 2] bcast_S4x16x64_S4x16x64x1_0_1_2 (Host.divf (subf (mulf (mulf (Host.exp (mulf x0 (broadcastInDim S4x16x64 ![0, 1, 2] bcast_S4x16x1_S4x16x64_0_1_2 (broadcastInDim S4x16x1 ![0, 1] bcast_S4x16_S4x16x1_0_1 (Host.exp x2))))) (Host.sin (mulf x1 (broadcastInDim S4x16x64 ![0, 1, 2] bcast_S4x16x1_S4x16x64_0_1_2 (broadcastInDim S4x16x1 ![0, 1] bcast_S4x16_S4x16x1_0_1 (Host.exp x2)))))) x0) (mulf (subf (mulf (Host.exp (mulf x0 (broadcastInDim S4x16x64 ![0, 1, 2] bcast_S4x16x1_S4x16x64_0_1_2 (broadcastInDim S4x16x1 ![0, 1] bcast_S4x16_S4x16x1_0_1 (Host.exp x2))))) (Host.cos (mulf x1 (broadcastInDim S4x16x64 ![0, 1, 2] bcast_S4x16x1_S4x16x64_0_1_2 (broadcastInDim S4x16x1 ![0, 1] bcast_S4x16_S4x16x1_0_1 (Host.exp x2)))))) (broadcastInDim S4x16x64 ![] bcast_S_S4x16x64 (constant S_ .f32 0x3F800000#32))) x1)) (addf (mulf x0 x0) (mulf x1 x1))))) x3)) shapeCasts_S4x16x64x16_S64x1024 : FVec Ideal S64x1024 .f32) (ix2 r k)
      = bbi (x0 (ix3 ⟨r.val / 16, by omega⟩ ⟨r.val % 16, by omega⟩ ⟨k.val / 16, by omega⟩)) (x1 (ix3 ⟨r.val / 16, by omega⟩ ⟨r.val % 16, by omega⟩ ⟨k.val / 16, by omega⟩)) (x2 (ix2 ⟨r.val / 16, by omega⟩ ⟨r.val % 16, by omega⟩)) (x3 (ix4 ⟨r.val / 16, by omega⟩ ⟨r.val % 16, by omega⟩ ⟨k.val / 16, by omega⟩ ⟨k.val % 16, by omega⟩)) (x4 (ix4 ⟨r.val / 16, by omega⟩ ⟨r.val % 16, by omega⟩ ⟨k.val / 16, by omega⟩ ⟨k.val % 16, by omega⟩)) := by
  pointwise
  rfl

end Cert.Reference5Ideal.Disc

end
-- ==== Proof.Prep.lean ====
/- The preparation of the experts' weights: the call's results and its reference's, index by index. -/
module

public import proofs.«01_k».proof.Proof.Gen.Kernel3Ideal.Value
public import proofs.«01_k».proof.Proof.Gen.Reference3Ideal.Run
public import Idealize.ShloMosaic.Lib.Pointwise
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.Kernel3Ideal.Prep

open Idealize.ShloMosaic Idealize.ShloMosaic.TcCoe Idealize.ShloMosaic.Tactic
open Idealize.SL.Sem
open Cert.Kernel3Ideal.Gen

variable (m : (ℓ : Loc nD τ sig) → Buf (Elt Ideal) ℓ)

/-- The weights as launched. -/
def A1 (c : Dev nD) : S4x32x1024x2048.Idx → EReal := m (c, Proc.devRef .tc main_arg0)
def A2 (c : Dev nD) : S4x32x1024x1024.Idx → EReal := m (c, Proc.devRef .tc main_arg1)

/-- Where the column `j` comes from, within its block of 256: even columns first, then odd ones. -/
def src (j : Fin 256) : Fin 256 := ⟨if j.val < 128 then 2 * j.val else 2 * (j.val - 128) + 1, by split <;> omega⟩

/-- The word that the body computes for it. -/
theorem src_word : ∀ j : Fin 256, Scalar.select (IntOp.cmpi CmpIPredicate.slt (BitVec.ofNat 32 j.val) 128#32)
      (IntOp.muli (2#32) (BitVec.ofNat 32 j.val)) (IntOp.addi (IntOp.muli (2#32) (IntOp.subi (BitVec.ofNat 32 j.val) 128#32)) 1#32)
    = BitVec.ofNat 32 (src j).val := by decide +kernel

theorem one_hot (x y : Fin 256) :
    (FloatOps.sitofp (F := Ideal) FTy.f32 (BitVec.setWidth 32 (IntOp.cmpi CmpIPredicate.eq (BitVec.ofNat 32 x.val) (BitVec.ofNat 32 y.val))) : EReal)
      = if x = y then 1 else 0 := by
  by_cases h : x = y
  · subst h
    have e : IntOp.cmpi CmpIPredicate.eq (BitVec.ofNat 32 x.val) (BitVec.ofNat 32 x.val) = 1#1 := by simp [IntOp.cmpi]
    rw [e, if_pos rfl]
    simp [FloatOps.sitofp]
  · have hne : BitVec.ofNat 32 x.val ≠ BitVec.ofNat 32 y.val := fun e => h (Fin.ext (by
      have e' := congrArg BitVec.toNat e
      simp only [BitVec.toNat_ofNat] at e'
      omega))
    have e : IntOp.cmpi CmpIPredicate.eq (BitVec.ofNat 32 x.val) (BitVec.ofNat 32 y.val) = 0#1 :=
      congrArg BitVec.ofBool (beq_eq_false_iff_ne.mpr hne)
    rw [e, if_neg h]
    simp [FloatOps.sitofp]

/-- The permutation matrix's entries. -/
theorem perm (x j : Fin 256) : (k0_pay2 (F := Ideal) (ix2 x j) : EReal) = if x = src j then 1 else 0 := by
  refine Eq.trans ?_ (one_hot x (src j))
  rw [← src_word j]
  pointwise [k0_pay2]

theorem pay5_apply (p : FVec Ideal S256x256 .bf16) (v : Vec Ideal S1x1x1024x256 .f32) (d : Fin 1024) (j : Fin 256) :
    k0_pay5 (F := Ideal) p v (ix4 0 0 d j) = (∑ x : Fin 256, v (ix4 0 0 d x) * p (ix2 x j) : EReal) := by
  pointwise [k0_pay5]

/-- A block of 256 columns times the permutation matrix is the block with its columns moved. -/
theorem moved (v : Vec Ideal S1x1x1024x256 .f32) (d : Fin 1024) (j : Fin 256) :
    k0_pay5 (F := Ideal) k0_pay2 v (ix4 0 0 d j) = (v (ix4 0 0 d (src j)) : EReal) := by
  refine (pay5_apply _ v d j).trans ?_
  have e : ∀ x : Fin 256, (v (ix4 0 0 d x) * k0_pay2 (F := Ideal) (ix2 x j) : EReal) = if x = src j then (v (ix4 0 0 d (src j)) : EReal) else 0 := by
    intro x
    rw [perm]
    by_cases h : x = src j
    · rw [if_pos h, if_pos h, h]; exact mul_one _
    · rw [if_neg h, if_neg h]; exact mul_zero _
  refine (Finset.sum_congr rfl fun x _ => e x).trans ?_
  rw [Finset.sum_ite_eq' Finset.univ (src j), if_pos (Finset.mem_univ _)]

/-- Where the column `j` of all 2048 comes from. -/
def col (j : Fin 2048) : Fin 2048 := ⟨j.val / 256 * 256 + (src ⟨j.val % 256, Nat.mod_lt _ (by decide)⟩).val, by
  have := (src ⟨j.val % 256, Nat.mod_lt _ (by decide)⟩).isLt; omega⟩

/-- The block after the body. -/
def G (x0 : Vec Ideal S1x1x1024x2048 .f32) : Vec Ideal S1x1x1024x2048 .bf16 := fun y => x0 (ix4 0 0 (y 2) (col (y 3)))

theorem piece (x0 : Vec Ideal S1x1x1024x2048 .f32) (n : Fin 8) (o : ℕ) (ho : o = 256 * n.val)
    (inb : ∀ a, (![0, 0, 0, o] : Fin 4 → ℕ) a + S1x1x1024x256.size a ≤ S1x1x1024x2048.size a) (y : S1x1x1024x256.Idx) :
    k0_pay5 (F := Ideal) k0_pay2 (View.ld x0 (Rect.unit (s := S1x1x1024x2048) ![0, 0, 0, o] S1x1x1024x256.size inb)) y
      = G x0 ((Rect.unit (s := S1x1x1024x2048) ![0, 0, 0, o] S1x1x1024x256.size inb).emb y) := by
  subst ho
  obtain ⟨d, j, rfl⟩ : ∃ (d : Fin 1024) (j : Fin 256), y = ix4 0 0 d j :=
    ⟨y 2, y 3, by funext a; fin_cases a; exacts [Subsingleton.elim (α := Fin 1) _ _, Subsingleton.elim (α := Fin 1) _ _, rfl, rfl]⟩
  refine (moved _ d j).trans (congrArg x0 (funext fun a => Fin.ext ?_))
  have hj : (0 + 1 * j.val : ℕ) = j.val := by omega
  have e : (256 * n.val + 1 * j.val) % 256 = j.val := by omega
  fin_cases a
  · rfl
  · rfl
  · rfl
  · show 256 * n.val + 1 * (src j).val = (256 * n.val + 1 * j.val) / 256 * 256 + (src ⟨(256 * n.val + 1 * j.val) % 256, _⟩).val
    simp only [e, Fin.eta]
    omega

theorem out2_apply (x0 : Vec Ideal S1x1x1024x2048 .f32) (x1 : Vec Ideal S1x1x1024x1024 .f32) : out0_2 x0 x1 = G x0 := by
  funext y
  unfold out0_2
  refine View.canon_apply_of_pieces (G x0) _ ?_ y (cover0_2 _ _ _ _ _ _ _ _ y)
  simp only [List.forall_mem_cons]
  exact ⟨piece x0 7 _ rfl _, piece x0 6 _ rfl _, piece x0 5 _ rfl _, piece x0 4 _ rfl _, piece x0 3 _ rfl _, piece x0 2 _ rfl _,
    piece x0 1 _ rfl _, piece x0 0 _ rfl _, fun _ h => nomatch h⟩

theorem out3_apply (x0 : Vec Ideal S1x1x1024x2048 .f32) (x1 : Vec Ideal S1x1x1024x1024 .f32) (d k : Fin 1024) :
    out0_3 x0 x1 (ix4 0 0 d k) = (x1 (ix4 0 0 d k) : EReal) := by
  have hz : (![0, 0, 0, 0] : Fin 4 → ℕ) = fun _ => 0 := by funext a; fin_cases a <;> rfl
  unfold out0_3
  rw [View.canon_unit_zero hz, View.ld_unit_zero hz]
  pointwise [k0_pay1, k0_pay12]

theorem index0 : ∀ t : Fin grid0.N, win0_0.index t = ![t.val / 32, t.val % 32, 0, 0] := by decide +kernel
theorem index1 : ∀ t : Fin grid0.N, win0_1.index t = ![t.val / 32, t.val % 32, 0, 0] := by decide +kernel
theorem index2 : ∀ t : Fin grid0.N, win0_2.index t = ![t.val / 32, t.val % 32, 0, 0] := by decide +kernel
theorem index3 : ∀ t : Fin grid0.N, win0_3.index t = ![t.val / 32, t.val % 32, 0, 0] := by decide +kernel

theorem emb0 (t : Fin grid0.N) (d : Fin 1024) (k : Fin 2048) : (win0_0.blk t).view.emb (ix4 0 0 d k)
    = ix4 ⟨t.val / 32, by have := t.isLt; have := N_0; omega⟩ ⟨t.val % 32, Nat.mod_lt _ (by decide)⟩ d k := by
  have e0 : win0_0.index t (0 : Fin 4) = t.val / 32 := congrFun (index0 t) (0 : Fin 4)
  have e1 : win0_0.index t (1 : Fin 4) = t.val % 32 := congrFun (index0 t) (1 : Fin 4)
  have e2 : win0_0.index t (2 : Fin 4) = 0 := congrFun (index0 t) (2 : Fin 4)
  have e3 : win0_0.index t (3 : Fin 4) = 0 := congrFun (index0 t) (3 : Fin 4)
  blk_ext [e0, e1, e2, e3]
theorem emb1 (t : Fin grid0.N) (d : Fin 1024) (k : Fin 1024) : (win0_1.blk t).view.emb (ix4 0 0 d k)
    = ix4 ⟨t.val / 32, by have := t.isLt; have := N_0; omega⟩ ⟨t.val % 32, Nat.mod_lt _ (by decide)⟩ d k := by
  have e0 : win0_1.index t (0 : Fin 4) = t.val / 32 := congrFun (index1 t) (0 : Fin 4)
  have e1 : win0_1.index t (1 : Fin 4) = t.val % 32 := congrFun (index1 t) (1 : Fin 4)
  have e2 : win0_1.index t (2 : Fin 4) = 0 := congrFun (index1 t) (2 : Fin 4)
  have e3 : win0_1.index t (3 : Fin 4) = 0 := congrFun (index1 t) (3 : Fin 4)
  blk_ext [e0, e1, e2, e3]
theorem emb2 (t : Fin grid0.N) (d : Fin 1024) (k : Fin 2048) : (win0_2.blk t).view.emb (ix4 0 0 d k)
    = ix4 ⟨t.val / 32, by have := t.isLt; have := N_0; omega⟩ ⟨t.val % 32, Nat.mod_lt _ (by decide)⟩ d k := by
  have e0 : win0_2.index t (0 : Fin 4) = t.val / 32 := congrFun (index2 t) (0 : Fin 4)
  have e1 : win0_2.index t (1 : Fin 4) = t.val % 32 := congrFun (index2 t) (1 : Fin 4)
  have e2 : win0_2.index t (2 : Fin 4) = 0 := congrFun (index2 t) (2 : Fin 4)
  have e3 : win0_2.index t (3 : Fin 4) = 0 := congrFun (index2 t) (3 : Fin 4)
  blk_ext [e0, e1, e2, e3]
theorem emb3 (t : Fin grid0.N) (d : Fin 1024) (k : Fin 1024) : (win0_3.blk t).view.emb (ix4 0 0 d k)
    = ix4 ⟨t.val / 32, by have := t.isLt; have := N_0; omega⟩ ⟨t.val % 32, Nat.mod_lt _ (by decide)⟩ d k := by
  have e0 : win0_3.index t (0 : Fin 4) = t.val / 32 := congrFun (index3 t) (0 : Fin 4)
  have e1 : win0_3.index t (1 : Fin 4) = t.val % 32 := congrFun (index3 t) (1 : Fin 4)
  have e2 : win0_3.index t (2 : Fin 4) = 0 := congrFun (index3 t) (2 : Fin 4)
  have e3 : win0_3.index t (3 : Fin 4) = 0 := congrFun (index3 t) (3 : Fin 4)
  blk_ext [e0, e1, e2, e3]

/-- The two results: the first matrices with their columns moved, and the second ones. -/
def out1 (c : Dev nD) : S4x32x1024x2048.Idx → EReal := fun i => A1 m c (ix4 (i 0) (i 1) (i 2) (col (i 3)))

theorem covers2 : (cfg0.win 2).Covers := by
  refine (cfg0.win 2).covers_of_index_surj rfl (show ∀ x : Fin 4, 0 < ![1, 1, 1024, 2048] x by decide) fun β => ?_
  have h0 : (β (0 : Fin 4)).val < 4 := Nat.lt_of_lt_of_eq (β (0 : Fin 4)).isLt (show (4 + 1 - 1) / 1 = 4 by norm_num)
  have h1 : (β (1 : Fin 4)).val < 32 := Nat.lt_of_lt_of_eq (β (1 : Fin 4)).isLt (show (32 + 1 - 1) / 1 = 32 by norm_num)
  have h2 : (β (2 : Fin 4)).val < 1 := Nat.lt_of_lt_of_eq (β (2 : Fin 4)).isLt (show (1024 + 1024 - 1) / 1024 = 1 by norm_num)
  have h3 : (β (3 : Fin 4)).val < 1 := Nat.lt_of_lt_of_eq (β (3 : Fin 4)).isLt (show (2048 + 2048 - 1) / 2048 = 1 by norm_num)
  have hN : grid0.N = 128 := N_0
  have ht : 32 * (β (0 : Fin 4)).val + (β (1 : Fin 4)).val < grid0.N := by omega
  have e := index2 ⟨32 * (β (0 : Fin 4)).val + (β (1 : Fin 4)).val, ht⟩
  refine ⟨⟨32 * (β (0 : Fin 4)).val + (β (1 : Fin 4)).val, ht⟩, fun x => ?_⟩
  obtain rfl | rfl | rfl | rfl : x = (0 : Fin 4) ∨ x = (1 : Fin 4) ∨ x = (2 : Fin 4) ∨ x = (3 : Fin 4) :=
    (by decide : ∀ x : Fin 4, x = 0 ∨ x = 1 ∨ x = 2 ∨ x = 3) x
  · exact (congrFun e (0 : Fin 4)).trans (show (32 * (β (0 : Fin 4)).val + (β (1 : Fin 4)).val) / 32 = (β (0 : Fin 4)).val by omega)
  · exact (congrFun e (1 : Fin 4)).trans (show (32 * (β (0 : Fin 4)).val + (β (1 : Fin 4)).val) % 32 = (β (1 : Fin 4)).val by omega)
  · exact (congrFun e (2 : Fin 4)).trans (show 0 = (β (2 : Fin 4)).val by omega)
  · exact (congrFun e (3 : Fin 4)).trans (show 0 = (β (3 : Fin 4)).val by omega)

theorem covers3 : (cfg0.win 3).Covers := by
  refine (cfg0.win 3).covers_of_index_surj rfl (show ∀ x : Fin 4, 0 < ![1, 1, 1024, 1024] x by decide) fun β => ?_
  have h0 : (β (0 : Fin 4)).val < 4 := Nat.lt_of_lt_of_eq (β (0 : Fin 4)).isLt (show (4 + 1 - 1) / 1 = 4 by norm_num)
  have h1 : (β (1 : Fin 4)).val < 32 := Nat.lt_of_lt_of_eq (β (1 : Fin 4)).isLt (show (32 + 1 - 1) / 1 = 32 by norm_num)
  have h2 : (β (2 : Fin 4)).val < 1 := Nat.lt_of_lt_of_eq (β (2 : Fin 4)).isLt (show (1024 + 1024 - 1) / 1024 = 1 by norm_num)
  have h3 : (β (3 : Fin 4)).val < 1 := Nat.lt_of_lt_of_eq (β (3 : Fin 4)).isLt (show (1024 + 1024 - 1) / 1024 = 1 by norm_num)
  have hN : grid0.N = 128 := N_0
  have ht : 32 * (β (0 : Fin 4)).val + (β (1 : Fin 4)).val < grid0.N := by omega
  have e := index3 ⟨32 * (β (0 : Fin 4)).val + (β (1 : Fin 4)).val, ht⟩
  refine ⟨⟨32 * (β (0 : Fin 4)).val + (β (1 : Fin 4)).val, ht⟩, fun x => ?_⟩
  obtain rfl | rfl | rfl | rfl : x = (0 : Fin 4) ∨ x = (1 : Fin 4) ∨ x = (2 : Fin 4) ∨ x = (3 : Fin 4) :=
    (by decide : ∀ x : Fin 4, x = 0 ∨ x = 1 ∨ x = 2 ∨ x = 3) x
  · exact (congrFun e (0 : Fin 4)).trans (show (32 * (β (0 : Fin 4)).val + (β (1 : Fin 4)).val) / 32 = (β (0 : Fin 4)).val by omega)
  · exact (congrFun e (1 : Fin 4)).trans (show (32 * (β (0 : Fin 4)).val + (β (1 : Fin 4)).val) % 32 = (β (1 : Fin 4)).val by omega)
  · exact (congrFun e (2 : Fin 4)).trans (show 0 = (β (2 : Fin 4)).val by omega)
  · exact (congrFun e (3 : Fin 4)).trans (show 0 = (β (3 : Fin 4)).val by omega)

theorem final2 (c : Dev nD) : (dats m 0 c).arrAt 2 cfg0.N = out1 m c := by
  refine (dats m 0 c).arrAt_eq_of_covers 2 (out1 m c) covers2 fun t hf y => ?_
  blk_simp
  rw [after0_2, out2_apply]
  obtain ⟨d, k, rfl⟩ : ∃ (d : Fin 1024) (k : Fin 2048), y = ix4 0 0 d k :=
    ⟨y 2, y 3, by funext a; fin_cases a; exacts [Subsingleton.elim (α := Fin 1) _ _, Subsingleton.elim (α := Fin 1) _ _, rfl, rfl]⟩
  refine Eq.trans ?_ (congrArg (out1 m c) (emb2 t d k)).symm
  exact (congrArg (V m c main_arg0) (emb0 t d (col k))).trans (congrFun (V_main_arg0 m c) _)

theorem final3 (c : Dev nD) : (dats m 0 c).arrAt 3 cfg0.N = A2 m c := by
  refine (dats m 0 c).arrAt_eq_of_covers 3 (A2 m c) covers3 fun t hf y => ?_
  blk_simp
  rw [after0_3]
  obtain ⟨d, k, rfl⟩ : ∃ (d k : Fin 1024), y = ix4 0 0 d k :=
    ⟨y 2, y 3, by funext a; fin_cases a; exacts [Subsingleton.elim (α := Fin 1) _ _, Subsingleton.elim (α := Fin 1) _ _, rfl, rfl]⟩
  refine (out3_apply _ _ d k).trans (Eq.trans ?_ (congrArg (A2 m c) (emb3 t d k)).symm)
  exact (congrArg (V m c main_arg1) (emb1 t d k)).trans (congrFun (V_main_arg1 m c) _)

end Cert.Kernel3Ideal.Prep

namespace Cert.Reference3Ideal.Prep

open Idealize.ShloMosaic Idealize.ShloMosaic.TcCoe Idealize.ShloMosaic.Tactic
open Idealize.SL.Sem
open Cert.Reference3Ideal.Gen
open Cert.Kernel3Ideal.Prep (col src)

/-- The reference's first result: the even columns of each 256, then the odd ones. -/
theorem out3 (x : FVec Ideal S4x32x1024x2048 .f32) (i : S4x32x1024x2048.Idx) :
    truncf (F := Ideal) .bf16 (shapeCast _ (transpose S4x32x1024x8x2x128 [0, 1, 2, 3, 5, 4] (shapeCast _ x shapeCasts_S4x32x1024x2048_S4x32x1024x8x128x2) transposes_S4x32x1024x8x128x2_S4x32x1024x8x2x128_0_1_2_3_5_4) shapeCasts_S4x32x1024x8x2x128_S4x32x1024x2048) bitsLt_bf16_f32 i
      = (x (ix4 (i 0) (i 1) (i 2) (col (i 3))) : EReal) := by
  obtain ⟨l, e, d, k, rfl⟩ : ∃ (l : Fin 4) (e : Fin 32) (d : Fin 1024) (k : Fin 2048), i = ix4 l e d k :=
    ⟨i 0, i 1, i 2, i 3, by funext a; fin_cases a <;> rfl⟩
  pointwise
  refine congrArg x (congrArg (ix4 l e d) (Fin.ext ?_))
  show k.val / 256 * 256 + k.val % 128 * 2 + k.val / 128 % 2 = k.val / 256 * 256 + (if k.val % 256 < 128 then 2 * (k.val % 256) else 2 * (k.val % 256 - 128) + 1)
  split_ifs <;> omega

end Cert.Reference3Ideal.Prep

end
-- ==== Proof.Rows.lean ====
/- The input projection of the sample rows: the call's result and its reference's, index by index. -/
module

public import proofs.«01_k».proof.Proof.Gen.Kernel4Ideal.Value
public import proofs.«01_k».proof.Proof.Gen.Reference4Ideal.Run
public import Idealize.ShloMosaic.Lib.Pointwise
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.RowsSpec

open Idealize.ShloMosaic

/-- The columns in the order of the call: the HGRN2 columns, of GLA the values, the gates, the queries, the keys and the low-rank
    part, 112 columns without weights (`z`), the RWKV columns, the S5 columns. -/
def lay (z : EReal) (g : Fin 2960 → EReal) (j : Fin 3072) : EReal :=
  if h : j.val < 1024 then g ⟨896 + j.val, by omega⟩
  else if h : j.val - 1024 < 256 then g ⟨1920 + (256 + (j.val - 1024)), by omega⟩
  else if h : j.val - 1024 - 256 < 256 then g ⟨1920 + (528 + (j.val - 1024 - 256)), by omega⟩
  else if h : j.val - 1024 - 256 - 256 < 128 then g ⟨1920 + (j.val - 1024 - 256 - 256), by omega⟩
  else if h : j.val - 1024 - 256 - 256 - 128 < 128 then g ⟨1920 + (128 + (j.val - 1024 - 256 - 256 - 128)), by omega⟩
  else if h : j.val - 1024 - 256 - 256 - 128 - 128 < 16 then g ⟨1920 + (512 + (j.val - 1024 - 256 - 256 - 128 - 128)), by omega⟩
  else if h : j.val - 1024 - 256 - 256 - 128 - 128 - 16 < 112 then z
  else if h : j.val - 1024 - 256 - 256 - 128 - 128 - 16 - 112 < 896 then g ⟨j.val - 1024 - 256 - 256 - 128 - 128 - 16 - 112, by omega⟩
  else g ⟨2704 + (j.val - 1024 - 256 - 256 - 128 - 128 - 16 - 112 - 896), by omega⟩

/-- A choice that takes one entry of `g`, or takes `z`. -/
def Sel (f : EReal → (Fin 2960 → EReal) → EReal) : Prop := (∃ n, ∀ z g, f z g = g n) ∨ ∀ z g, f z g = z

theorem sel_dite {p : Prop} [Decidable p] {a : p → EReal → (Fin 2960 → EReal) → EReal} {b : ¬p → EReal → (Fin 2960 → EReal) → EReal}
    (ha : ∀ h, Sel (a h)) (hb : ∀ h, Sel (b h)) : Sel (fun z g => if h : p then a h z g else b h z g) := by
  by_cases h : p
  · exact (ha h).imp (fun ⟨n, e⟩ => ⟨n, fun z g => (dif_pos h).trans (e z g)⟩) (fun e z g => (dif_pos h).trans (e z g))
  · exact (hb h).imp (fun ⟨n, e⟩ => ⟨n, fun z g => (dif_neg h).trans (e z g)⟩) (fun e z g => (dif_neg h).trans (e z g))

theorem sel_lay (j : Fin 3072) : Sel (fun z g => lay z g j) :=
  sel_dite (fun _ => .inl ⟨_, fun _ _ => rfl⟩) fun _ => sel_dite (fun _ => .inl ⟨_, fun _ _ => rfl⟩) fun _ =>
  sel_dite (fun _ => .inl ⟨_, fun _ _ => rfl⟩) fun _ => sel_dite (fun _ => .inl ⟨_, fun _ _ => rfl⟩) fun _ =>
  sel_dite (fun _ => .inl ⟨_, fun _ _ => rfl⟩) fun _ => sel_dite (fun _ => .inl ⟨_, fun _ _ => rfl⟩) fun _ =>
  sel_dite (fun _ => .inr fun _ _ => rfl) fun _ => sel_dite (fun _ => .inl ⟨_, fun _ _ => rfl⟩) fun _ => .inl ⟨_, fun _ _ => rfl⟩

/-- A product with the columns in that order is the product, its columns in that order. -/
theorem sum_lay (x : Fin 1024 → EReal) (w : Fin 1024 → Fin 2960 → EReal) (j : Fin 3072) :
    ∑ k : Fin 1024, x k * lay 0 (w k) j = lay 0 (fun n => ∑ k : Fin 1024, x k * w k n) j := by
  obtain ⟨n, e⟩ | e := sel_lay j
  · exact (Finset.sum_congr rfl fun k _ => congrArg (x k * ·) (e 0 (w k))).trans (e 0 (fun n => ∑ k : Fin 1024, x k * w k n)).symm
  · refine (Finset.sum_eq_zero fun k _ => ?_).trans (e 0 (fun n => ∑ k : Fin 1024, x k * w k n)).symm
    exact (congrArg (x k * ·) (e 0 (w k))).trans (mul_zero _)

end Cert.RowsSpec

namespace Cert.Kernel4Ideal.Rows

open Idealize.ShloMosaic Idealize.ShloMosaic.TcCoe Idealize.ShloMosaic.Tactic
open Idealize.SL.Sem
open Cert.Kernel4Ideal.Gen
open Cert.RowsSpec

variable (m : (ℓ : Loc nD τ sig) → Buf (Elt Ideal) ℓ)

/-- The rows and the weights as launched. -/
def X (c : Dev nD) : S16896x1024.Idx → EReal := m (c, Proc.devRef .tc main_arg0)
def W (c : Dev nD) : S4x1024x2960.Idx → EReal := m (c, Proc.devRef .tc main_arg1)

theorem V13 (c : Dev nD) (k : Fin 1024) (j : Fin 3072) :
    V m c main_v13 (ix2 k j) = (lay 0 (fun n => W m c (ix3 0 k n)) j : EReal) := by
  unfold V hostOps0
  after_reads_at
  repeat after_reads_at
  rfl

theorem out_apply (x0 : Vec Ideal S256x1024 .f32) (x1 : Vec Ideal S1024x3072 .bf16) (r : Fin 256) (j : Fin 3072) :
    out0_2 x0 x1 (ix2 r j) = (∑ k : Fin 1024, x0 (ix2 r k) * x1 (ix2 k j) : EReal) := by
  have hz : (![0, 0] : Fin 2 → ℕ) = fun _ => 0 := by funext a; fin_cases a <;> rfl
  unfold out0_2
  rw [View.canon_unit_zero hz, View.ld_unit_zero hz, View.ld_unit_zero hz]
  pointwise [k0_pay1]

theorem index0 : ∀ t : Fin grid0.N, win0_0.index t = ![64 + t.val, 0] := by decide
theorem index1 : ∀ t : Fin grid0.N, win0_1.index t = ![0, 0] := by decide
theorem index2 : ∀ t : Fin grid0.N, win0_2.index t = ![t.val, 0] := by decide

theorem emb0 (t : Fin grid0.N) (r : Fin 256) (k : Fin 1024) :
    (win0_0.blk t).view.emb (ix2 r k) = ix2 ⟨16384 + (256 * t.val + r.val), by have := t.isLt; have := N_0; omega⟩ k := by
  have e0 : win0_0.index t (0 : Fin 2) = 64 + t.val := congrFun (index0 t) (0 : Fin 2)
  have e1 : win0_0.index t (1 : Fin 2) = 0 := congrFun (index0 t) (1 : Fin 2)
  blk_ext [e0, e1]
theorem emb1 (t : Fin grid0.N) (k : Fin 1024) (j : Fin 3072) : (win0_1.blk t).view.emb (ix2 k j) = ix2 k j := by
  have e0 : win0_1.index t (0 : Fin 2) = 0 := congrFun (index1 t) (0 : Fin 2)
  have e1 : win0_1.index t (1 : Fin 2) = 0 := congrFun (index1 t) (1 : Fin 2)
  blk_ext [e0, e1]
theorem emb2 (t : Fin grid0.N) (r : Fin 256) (j : Fin 3072) :
    (win0_2.blk t).view.emb (ix2 r j) = ix2 ⟨256 * t.val + r.val, by have := t.isLt; have := N_0; omega⟩ j := by
  have e0 : win0_2.index t (0 : Fin 2) = t.val := congrFun (index2 t) (0 : Fin 2)
  have e1 : win0_2.index t (1 : Fin 2) = 0 := congrFun (index2 t) (1 : Fin 2)
  blk_ext [e0, e1]

/-- The projected rows. -/
def outArr (c : Dev nD) : S512x3072.Idx → EReal := fun i =>
  lay 0 (fun n => ∑ k : Fin 1024, X m c (ix2 ⟨16384 + (i 0).val, Nat.lt_of_lt_of_eq (Nat.add_lt_add_left (i 0).isLt 16384) rfl⟩ k) * W m c (ix3 0 k n)) (i 1)

theorem block (c : Dev nD) (t : Fin grid0.N) (r : Fin 256) (j : Fin 3072) :
    out0_2 (iblk m c 0 t) (iblk m c 1 t) (ix2 r j) = outArr m c (ix2 ⟨256 * t.val + r.val, by have := t.isLt; have := N_0; omega⟩ j) := by
  refine (out_apply _ _ r j).trans (Eq.trans (Finset.sum_congr rfl fun k _ => ?_) (sum_lay _ _ j))
  refine congrArg₂ (· * · : EReal → EReal → EReal) ?_ ?_
  · exact (congrArg (V m c main_arg0) (emb0 t r k)).trans (congrFun (V_main_arg0 m c) _)
  · exact (congrArg (V m c main_v13) (emb1 t k j)).trans (V13 m c k j)

theorem covers2 : (cfg0.win 2).Covers := by
  refine (cfg0.win 2).covers_of_index_surj rfl (show ∀ x : Fin 2, 0 < ![256, 3072] x by decide) fun β => ?_
  have h0 : (β (0 : Fin 2)).val < 2 := Nat.lt_of_lt_of_eq (β (0 : Fin 2)).isLt (show (512 + 256 - 1) / 256 = 2 by norm_num)
  have h1 : (β (1 : Fin 2)).val < 1 := Nat.lt_of_lt_of_eq (β (1 : Fin 2)).isLt (show (3072 + 3072 - 1) / 3072 = 1 by norm_num)
  have hN : grid0.N = 2 := N_0
  refine ⟨⟨(β (0 : Fin 2)).val, by show _ < grid0.N; omega⟩, fun x => ?_⟩
  have e := index2 ⟨(β (0 : Fin 2)).val, by omega⟩
  obtain rfl | rfl : x = (0 : Fin 2) ∨ x = (1 : Fin 2) := (by decide : ∀ x : Fin 2, x = 0 ∨ x = 1) x
  · exact congrFun e (0 : Fin 2)
  · exact (congrFun e (1 : Fin 2)).trans (show 0 = (β (1 : Fin 2)).val by omega)

theorem final2 (c : Dev nD) : (dats m 0 c).arrAt 2 cfg0.N = outArr m c := by
  refine (dats m 0 c).arrAt_eq_of_covers 2 (outArr m c) covers2 fun t hf y => ?_
  blk_simp
  rw [after0_2]
  obtain ⟨r, l, rfl⟩ : ∃ (r : Fin 256) (l : Fin 3072), y = ix2 r l := ⟨y 0, y 1, by funext a; fin_cases a <;> rfl⟩
  exact (block m c t r l).trans (congrArg (outArr m c) (emb2 t r l)).symm

end Cert.Kernel4Ideal.Rows

namespace Cert.Reference4Ideal.Rows

open Idealize.ShloMosaic Idealize.ShloMosaic.TcCoe Idealize.ShloMosaic.Tactic
open Idealize.SL.Sem
open Cert.RowsSpec

variable (m : (ℓ : Loc nD τ sig) → Buf (Elt Ideal) ℓ)

/-- The rows and the weights as launched. -/
def X (c : Dev nD) : S16896x1024.Idx → EReal := m (c, Proc.devRef .tc main_arg0)
def W (c : Dev nD) : S4x1024x2960.Idx → EReal := m (c, Proc.devRef .tc main_arg1)

theorem out14 (c : Dev nD) (r : Fin 512) (j : Fin 3072) : Value.res_main_v14 (F := Ideal) m c (ix2 r j)
    = (lay 0 (fun n => ∑ k : Fin 1024, X m c (ix2 ⟨16384 + r.val, by omega⟩ k) * W m c (ix3 0 k n)) j : EReal) := by
  unfold Value.res_main_v14
  pointwise
  rfl

end Cert.Reference4Ideal.Rows

end
-- ==== Proof.MoeBody.lean ====
/- One grid point of the experts' kernel: what the body leaves in its output block and in its two-slot scratch, as plain
   functions of the blocks it is handed, and the triples that say so, one for each kind of point. -/
module

public import proofs.«01_k».proof.Proof.Gen.Kernel2Ideal.Skeleton
public import proofs.«01_k».proof.Proof.Gen.Kernel2Ideal.Launch
public import Idealize.ShloMosaic.Lib.Tactic
public import Idealize.ShloMosaic.Lib.VecWindow
public import Idealize.ShloMosaic.Lib.Pipeline.Value
public import Idealize.ShloMosaic.Lib.Pointwise.Index

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## The values -/

/-- The rows of a block that hold column chunk `j`: row `8 r + j` is chunk `j` of token `r`. -/
def xr (x : Vec F S4096x128 .f32) (j : ℕ) : Vec F S512x128 .f32 := fun y =>
  x (ix2 ⟨(j + 8 * (y 0).val) % 4096, Nat.mod_lt _ (by decide)⟩ ⟨(y 1).val, (y 1).isLt⟩)

/-- A block's tokens, in the narrower format. -/
def xcat (x : Vec F S4096x128 .f32) : FVec F S512x1024 .bf16 :=
  k0_pay7 (xr x 0) (xr x 1) (xr x 2) (xr x 3) (xr x 4) (xr x 5) (xr x 6) (xr x 7)

/-- Columns `512 q …` of the first weight, and of its bias. -/
def wq (w : Vec F S1x1x1024x2048 .bf16) (q : ℕ) : Vec F S1x1x1024x512 .bf16 := fun y =>
  w (ix4 ⟨0, by decide⟩ ⟨0, by decide⟩ ⟨(y 2).val, (y 2).isLt⟩ ⟨(512 * q + (y 3).val) % 2048, Nat.mod_lt _ (by decide)⟩)
def bq (b : Vec F S1x1x1x2048 .f32) (q : ℕ) : Vec F S1x1x1x512 .f32 := fun y =>
  b (ix4 ⟨0, by decide⟩ ⟨0, by decide⟩ ⟨0, by decide⟩ ⟨(512 * q + (y 3).val) % 2048, Nat.mod_lt _ (by decide)⟩)

/-- The hidden layer of a tile: columns `256 q …` come of the weight's columns `512 q …`. -/
def hid (x : Vec F S4096x128 .f32) (w : Vec F S1x1x1024x2048 .bf16) (b : Vec F S1x1x1x2048 .f32) : Vec F S1x512x1024 .bf16 := fun y =>
  k0_pay44 (xcat x) (wq w ((y 2).val / 256)) (bq b ((y 2).val / 256))
    (ix3 ⟨0, by decide⟩ ⟨(y 1).val, (y 1).isLt⟩ ⟨(y 2).val % 256, Nat.mod_lt _ (by decide)⟩)

/-- A tile's output block: row `8 r + j` is chunk `j` of token `r`. -/
def outB (h : Vec F S1x512x1024 .bf16) (w : Vec F S1x1x1024x1024 .bf16) (b : Vec F S1x1x1x1024 .f32) : Vec F S4096x128 .f32 := fun y =>
  k0_pay24 h w b (ix2 ⟨(y 0).val / 8, by have h0 : (y 0).val < 4096 := (y 0).isLt; omega⟩
    ⟨128 * ((y 0).val % 8) + (y 1).val, by have h1 : (y 1).val < 128 := (y 1).isLt; omega⟩)

/-- Slot `p` of the scratch. -/
def slot (d : Vec F S2x512x1024 .bf16) (p : ℕ) : Vec F S1x512x1024 .bf16 := fun y =>
  d (ix3 ⟨p % 2, Nat.mod_lt _ (by decide)⟩ ⟨(y 1).val, (y 1).isLt⟩ ⟨(y 2).val, (y 2).isLt⟩)

/-! ## The payloads -/

theorem pay11_eq (x0 x1 x2 x3 x4 x5 x6 x7 : Vec F S512x128 .f32) (w b) :
    k0_pay11 (k0_pay9 x0 x1 x2 x3 x4 x5 x6 x7 w b) (k0_pay10 x0 x1 x2 x3 x4 x5 x6 x7 w b) (Scalar.ofBits .f32 0xC0E00000#32)
      = k0_pay44 (k0_pay7 x0 x1 x2 x3 x4 x5 x6 x7) w b := rfl
theorem pay43_eq (a : FVec F S512x1024 .bf16) (w b) : k0_pay43 (k0_pay42 a w b) = k0_pay44 a w b := rfl
theorem pay2_eq (a : FVec F S512x1024 .bf16) (w b) : k0_pay2 (k0_pay45 a w b) = k0_pay44 a w b := rfl
theorem pay41_eq (x0 x1 x2 x3 x4 x5 x6 x7 : Vec F S512x128 .f32) (w b) :
    k0_pay41 (k0_pay40 (k0_pay33 x0) (k0_pay34 x1) (k0_pay35 x2) (k0_pay36 x3) (k0_pay37 x4) (k0_pay38 x5) x6 x7 w b)
      = k0_pay44 (k0_pay7 x0 x1 x2 x3 x4 x5 x6 x7) w b := rfl
theorem pay39_eq (x0 x1 x2 x3 x4 x5 x6 x7 : Vec F S512x128 .f32) :
    k0_pay39 (k0_pay33 x0) (k0_pay34 x1) (k0_pay35 x2) (k0_pay36 x3) (k0_pay37 x4) (k0_pay38 x5) x6 x7
      = k0_pay7 x0 x1 x2 x3 x4 x5 x6 x7 := rfl
theorem pay46_eq (h : Vec F S1x512x1024 .bf16) (w b) : k0_pay46 h w b = k0_pay24 h w b := rfl

/-! ## The offsets -/

theorem off3_eq : ∀ i : grid0.Coords, k0_off3 i = ![((i 0).val + 1) % 2, 0, 0] := by decide +kernel
theorem off4_eq : ∀ i : grid0.Coords, k0_off4 i = ![(i 0).val % 2, 0, 0] := by decide +kernel
theorem off5_eq : ∀ i : grid0.Coords, k0_off5 i = ![(i 0).val % 2, 0, 256] := by decide +kernel
theorem off6_eq : ∀ i : grid0.Coords, k0_off6 i = ![(i 0).val % 2, 0, 512] := by decide +kernel
theorem off7_eq : ∀ i : grid0.Coords, k0_off7 i = ![(i 0).val % 2, 0, 768] := by decide +kernel
theorem off8_eq : ∀ i : grid0.Coords, k0_off8 i = ![((i 0).val + 1) % 2, 0, 0] := by decide +kernel

instance closedOff3 (i : grid0.Coords) : ClosedOff (k0_off3 i) := ⟨_, off3_eq i⟩
instance closedOff4 (i : grid0.Coords) : ClosedOff (k0_off4 i) := ⟨_, off4_eq i⟩
instance closedOff5 (i : grid0.Coords) : ClosedOff (k0_off5 i) := ⟨_, off5_eq i⟩
instance closedOff6 (i : grid0.Coords) : ClosedOff (k0_off6 i) := ⟨_, off6_eq i⟩
instance closedOff7 (i : grid0.Coords) : ClosedOff (k0_off7 i) := ⟨_, off7_eq i⟩
instance closedOff8 (i : grid0.Coords) : ClosedOff (k0_off8 i) := ⟨_, off8_eq i⟩

/-! ## Reading the stores back -/

/-- A store of every eighth row, read back: the rows it wrote, and what was there before elsewhere. -/
theorem row_step (v : View sig .tc .vmem S4096x128 .f32) (f : v.ty.Contents (Elt F)) (j : ℕ) (hj : j < 8)
    (h : ∀ a, S512x128.size a = 0 ∨ (![j, 0] : Fin 2 → ℕ) a + (![8, 1] : Fin 2 → ℕ) a * (S512x128.size a - 1) < S4096x128.size a) (hs)
    (w : Vec F S512x128 .f32) (L : List (View.Piece (Elt F) S4096x128 .f32)) (y : S4096x128.Idx) :
    v.read (Elt F) (v.writes (Elt F) f
        ((⟨⟨(⟨![j, 0], S512x128.size, ![8, 1], h⟩ : LoadRect S4096x128), hs⟩, w⟩ : View.Piece (Elt F) S4096x128 .f32) :: L)) y
      = if (y 0).val % 8 = j then w (ix2 ⟨(y 0).val / 8, by have h0 : (y 0).val < 4096 := (y 0).isLt; omega⟩ ⟨(y 1).val, (y 1).isLt⟩)
        else v.read (Elt F) (v.writes (Elt F) f L) y := by
  split
  · rename_i hm
    have e : ∀ a : Fin 2, (y a).val = (![j, 0] : Fin 2 → ℕ) a + (![8, 1] : Fin 2 → ℕ) a
        * ((ix2 (⟨(y 0).val / 8, by have h0 : (y 0).val < 4096 := (y 0).isLt; omega⟩ : Fin 512) (⟨(y 1).val, (y 1).isLt⟩ : Fin 128)) a).val := by
      intro a; fin_cases a
      · show (y 0).val = j + 8 * ((y 0).val / 8)
        omega
      · show (y 1).val = 0 + 1 * (y 1).val
        omega
    exact View.read_writes_cons_hit_of_coords v f ⟨(⟨![j, 0], S512x128.size, ![8, 1], h⟩ : LoadRect S4096x128), hs⟩ w L
      (ix2 (⟨(y 0).val / 8, by have h0 : (y 0).val < 4096 := (y 0).isLt; omega⟩ : Fin 512) (⟨(y 1).val, (y 1).isLt⟩ : Fin 128)) y e
  · rename_i hm
    refine View.read_writes_cons_miss v f _ L y ?_
    intro hy
    obtain ⟨k, hk, e⟩ := ((LoadRect.mem_set _).mp hy) 0
    have e' : (y 0).val = j + 8 * k := e
    omega

/-- A slice of 128 columns. -/
theorem slice_at (g : FVec F S512x1024 .f32) (o : ℕ) (ho : o + 128 ≤ 1024) (h) (x : S512x128.Idx) :
    extractStridedSlice S512x128 ![0, o] g h x
      = g (ix2 ⟨(x 0).val, (x 0).isLt⟩ ⟨o + (x 1).val, by have h1 : (x 1).val < 128 := (x 1).isLt; omega⟩) := by
  refine extractStridedSlice_apply _ _ _ _ _ ?_
  intro a; fin_cases a
  · show (x 0).val = 0 + (x 0).val
    omega
  · rfl

/-- The eight stores of a tile's output, read back. -/
theorem read_rows (v : View sig .tc .vmem S4096x128 .f32) (f : v.ty.Contents (Elt F)) (g : FVec F S512x1024 .f32)
    (h0 h1 h2 h3 h4 h5 h6 h7 s0 s1 s2 s3 s4 s5 s6 s7 c0 c1 c2 c3 c4 c5 c6 c7) (y : S4096x128.Idx) :
    v.read (Elt F) (v.writes (Elt F) f
      [(⟨⟨(⟨![7, 0], S512x128.size, ![8, 1], h7⟩ : LoadRect S4096x128), s7⟩, extractStridedSlice S512x128 ![0, 896] g c7⟩ : View.Piece (Elt F) S4096x128 .f32),
       ⟨⟨(⟨![6, 0], S512x128.size, ![8, 1], h6⟩ : LoadRect S4096x128), s6⟩, extractStridedSlice S512x128 ![0, 768] g c6⟩,
       ⟨⟨(⟨![5, 0], S512x128.size, ![8, 1], h5⟩ : LoadRect S4096x128), s5⟩, extractStridedSlice S512x128 ![0, 640] g c5⟩,
       ⟨⟨(⟨![4, 0], S512x128.size, ![8, 1], h4⟩ : LoadRect S4096x128), s4⟩, extractStridedSlice S512x128 ![0, 512] g c4⟩,
       ⟨⟨(⟨![3, 0], S512x128.size, ![8, 1], h3⟩ : LoadRect S4096x128), s3⟩, extractStridedSlice S512x128 ![0, 384] g c3⟩,
       ⟨⟨(⟨![2, 0], S512x128.size, ![8, 1], h2⟩ : LoadRect S4096x128), s2⟩, extractStridedSlice S512x128 ![0, 256] g c2⟩,
       ⟨⟨(⟨![1, 0], S512x128.size, ![8, 1], h1⟩ : LoadRect S4096x128), s1⟩, extractStridedSlice S512x128 ![0, 128] g c1⟩,
       ⟨⟨(⟨![0, 0], S512x128.size, ![8, 1], h0⟩ : LoadRect S4096x128), s0⟩, extractStridedSlice S512x128 ![0, 0] g c0⟩]) y
     = g (ix2 ⟨(y 0).val / 8, by have h0 : (y 0).val < 4096 := (y 0).isLt; omega⟩
          ⟨128 * ((y 0).val % 8) + (y 1).val, by have h1 : (y 1).val < 128 := (y 1).isLt; omega⟩) := by
  have y1 : (y 1).val < 128 := (y 1).isLt
  have y8 : (y 0).val % 8 < 8 := Nat.mod_lt _ (by decide)
  have key (j : ℕ) (ho : 128 * j + 128 ≤ 1024) (c) (e : (y 0).val % 8 = j) (h0) :
      extractStridedSlice S512x128 ![0, 128 * j] g c (ix2 ⟨(y 0).val / 8, h0⟩ ⟨(y 1).val, (y 1).isLt⟩)
        = g (ix2 ⟨(y 0).val / 8, h0⟩ ⟨128 * ((y 0).val % 8) + (y 1).val, by omega⟩) :=
    (slice_at g _ ho c _).trans (congrArg g (congrArg₂ ix2 rfl (Fin.ext (by subst e; rfl))))
  rw [row_step v f 7 (by decide)]; split
  · exact key 7 (by decide) c7 ‹_› _
  rw [row_step v f 6 (by decide)]; split
  · exact key 6 (by decide) c6 ‹_› _
  rw [row_step v f 5 (by decide)]; split
  · exact key 5 (by decide) c5 ‹_› _
  rw [row_step v f 4 (by decide)]; split
  · exact key 4 (by decide) c4 ‹_› _
  rw [row_step v f 3 (by decide)]; split
  · exact key 3 (by decide) c3 ‹_› _
  rw [row_step v f 2 (by decide)]; split
  · exact key 2 (by decide) c2 ‹_› _
  rw [row_step v f 1 (by decide)]; split
  · exact key 1 (by decide) c1 ‹_› _
  rw [row_step v f 0 (by decide)]; split
  · exact key 0 (by decide) c0 ‹_› _
  omega

/-- A store of 256 columns of one slot, read back in that slot. -/
theorem slot_step (v : View sig .tc .vmem S2x512x1024 .bf16) (f : v.ty.Contents (Elt F)) (p : ℕ) (q : ℕ)
    {off : Fin 3 → ℕ} (hoff : off = ![p, 0, 256 * q]) (h) (w : Vec F S1x512x256 .bf16)
    (L : List (View.Piece (Elt F) S2x512x1024 .bf16)) (y : S2x512x1024.Idx) (hp : (y 0).val = p) :
    v.read (Elt F) (v.writes (Elt F) f ((⟨Rect.unit (s := S2x512x1024) off S1x512x256.size h, w⟩ : View.Piece (Elt F) S2x512x1024 .bf16) :: L)) y
      = if (y 2).val / 256 = q then w (ix3 ⟨0, by decide⟩ ⟨(y 1).val, (y 1).isLt⟩ ⟨(y 2).val % 256, Nat.mod_lt _ (by decide)⟩)
        else v.read (Elt F) (v.writes (Elt F) f L) y := by
  split
  · rename_i hq
    refine View.read_writes_cons_unit_of_mem _ _ _ _ _ y _ hoff ?_
    intro a; fin_cases a
    · show (y 0).val = p + 0
      omega
    · show (y 1).val = 0 + (y 1).val
      omega
    · show (y 2).val = 256 * q + (y 2).val % 256
      omega
  · rename_i hq
    refine View.read_writes_cons_unit_of_not_mem _ _ _ _ _ y hoff 2 ?_
    show (y 2).val < 256 * q ∨ 256 * q + 256 ≤ (y 2).val
    omega

/-- The four stores of a slot, read back. -/
theorem read_slot (v : View sig .tc .vmem S2x512x1024 .bf16) (f : v.ty.Contents (Elt F)) (p : ℕ)
    {o0 o1 o2 o3 : Fin 3 → ℕ} (e0 : o0 = ![p % 2, 0, 0]) (e1 : o1 = ![p % 2, 0, 256]) (e2 : o2 = ![p % 2, 0, 512]) (e3 : o3 = ![p % 2, 0, 768])
    (h0 h1 h2 h3) (x : Vec F S4096x128 .f32) (w : Vec F S1x1x1024x2048 .bf16) (b : Vec F S1x1x1x2048 .f32)
    {w0 w1 w2 w3 : Vec F S1x512x256 .bf16} (i0 : w0 = k0_pay44 (xcat x) (wq w 0) (bq b 0)) (i1 : w1 = k0_pay44 (xcat x) (wq w 1) (bq b 1))
    (i2 : w2 = k0_pay44 (xcat x) (wq w 2) (bq b 2)) (i3 : w3 = k0_pay44 (xcat x) (wq w 3) (bq b 3)) :
    slot (v.read (Elt F) (v.writes (Elt F) f
      [(⟨Rect.unit (s := S2x512x1024) o3 S1x512x256.size h3, w3⟩ : View.Piece (Elt F) S2x512x1024 .bf16),
       ⟨Rect.unit (s := S2x512x1024) o2 S1x512x256.size h2, w2⟩, ⟨Rect.unit (s := S2x512x1024) o1 S1x512x256.size h1, w1⟩,
       ⟨Rect.unit (s := S2x512x1024) o0 S1x512x256.size h0, w0⟩])) p = hid x w b := by
  funext y
  have y2 : (y 2).val < 1024 := (y 2).isLt
  have key (q : ℕ) (e : (y 2).val / 256 = q) (k) : k0_pay44 (xcat x) (wq w q) (bq b q) k
      = k0_pay44 (xcat x) (wq w ((y 2).val / 256)) (bq b ((y 2).val / 256)) k := by rw [e]
  unfold slot hid
  refine (slot_step v f (p % 2) 3 e3 h3 w3 _ _ rfl).trans ?_
  split
  · rw [i3]; exact key 3 ‹_› _
  refine (slot_step v f (p % 2) 2 e2 h2 w2 _ _ rfl).trans ?_
  split
  · rw [i2]; exact key 2 ‹_› _
  refine (slot_step v f (p % 2) 1 e1 h1 w1 _ _ rfl).trans ?_
  split
  · rw [i1]; exact key 1 ‹_› _
  refine (slot_step v f (p % 2) 0 e0 h0 w0 _ _ rfl).trans ?_
  split
  · rw [i0]; exact key 0 ‹_› _
  · exfalso
    rename_i a3 a2 a1 a0
    have b3 : ¬ (y 2).val / 256 = 3 := a3
    have b2 : ¬ (y 2).val / 256 = 2 := a2
    have b1 : ¬ (y 2).val / 256 = 1 := a1
    have b0 : ¬ (y 2).val / 256 = 0 := a0
    omega

/-! ## Reading the blocks -/

theorem read_xr (v : View sig .tc .vmem S4096x128 .f32) (f : v.ty.Contents (Elt F)) (x : Vec F S4096x128 .f32)
    (hf : v.read (Elt F) f = x) (j : ℕ) (hj : j < 8) (h) :
    v.readAt (Elt F) (⟨![j, 0], S512x128.size, ![8, 1], h⟩ : LoadRect S4096x128) f = xr x j := by
  subst hf
  funext y
  have y0 : (y 0).val < 512 := (y 0).isLt
  rw [View.readAt_apply]
  refine congrArg (v.read (Elt F) f) (funext fun a => Fin.ext ?_)
  fin_cases a
  · show j + 8 * (y 0).val = (j + 8 * (y 0).val) % 4096
    omega
  · show 0 + 1 * (y 1).val = (y 1).val
    omega

theorem read_wq (v : View sig .tc .vmem S1x1x1024x2048 .bf16) (f : v.ty.Contents (Elt F)) (x : Vec F S1x1x1024x2048 .bf16)
    (hf : v.read (Elt F) f = x) (q : ℕ) (hq : q < 4) (h) :
    v.readAt (Elt F) (Rect.unit (s := S1x1x1024x2048) ![0, 0, 0, 512 * q] S1x1x1024x512.size h).toLoadRect f = wq x q := by
  rw [View.readAt_unit _ _ _ rfl h, hf]
  funext y
  refine congrArg x (funext fun a => Fin.ext ?_)
  have y0 : (y 0).val < 1 := (y 0).isLt
  have y1 : (y 1).val < 1 := (y 1).isLt
  have y3 : (y 3).val < 512 := (y 3).isLt
  fin_cases a
  · show 0 + 1 * (y 0).val = 0
    omega
  · show 0 + 1 * (y 1).val = 0
    omega
  · show 0 + 1 * (y 2).val = (y 2).val
    omega
  · show 512 * q + 1 * (y 3).val = (512 * q + (y 3).val) % 2048
    omega

theorem read_bq (v : View sig .tc .vmem S1x1x1x2048 .f32) (f : v.ty.Contents (Elt F)) (x : Vec F S1x1x1x2048 .f32)
    (hf : v.read (Elt F) f = x) (q : ℕ) (hq : q < 4) (h) :
    v.readAt (Elt F) (Rect.unit (s := S1x1x1x2048) ![0, 0, 0, 512 * q] S1x1x1x512.size h).toLoadRect f = bq x q := by
  rw [View.readAt_unit _ _ _ rfl h, hf]
  funext y
  refine congrArg x (funext fun a => Fin.ext ?_)
  have y0 : (y 0).val < 1 := (y 0).isLt
  have y1 : (y 1).val < 1 := (y 1).isLt
  have y2 : (y 2).val < 1 := (y 2).isLt
  have y3 : (y 3).val < 512 := (y 3).isLt
  fin_cases a
  · show 0 + 1 * (y 0).val = 0
    omega
  · show 0 + 1 * (y 1).val = 0
    omega
  · show 0 + 1 * (y 2).val = 0
    omega
  · show 512 * q + 1 * (y 3).val = (512 * q + (y 3).val) % 2048
    omega

theorem read_slotAt (v : View sig .tc .vmem S2x512x1024 .bf16) (f : v.ty.Contents (Elt F)) (d : Vec F S2x512x1024 .bf16)
    (hf : v.read (Elt F) f = d) (p : ℕ) {off : Fin 3 → ℕ} (e : off = ![p % 2, 0, 0]) (h) :
    v.readAt (Elt F) (Rect.unit (s := S2x512x1024) off S1x512x1024.size h).toLoadRect f = slot d p := by
  subst e
  rw [View.readAt_unit _ _ _ rfl h, hf]
  funext y
  refine congrArg d (funext fun a => Fin.ext ?_)
  have y0 : (y 0).val < 1 := (y 0).isLt
  fin_cases a
  · show p % 2 + 1 * (y 0).val = p % 2
    omega
  · show 0 + 1 * (y 1).val = (y 1).val
    omega
  · show 0 + 1 * (y 2).val = (y 2).val
    omega

/-- The condition of the body's first branch, as the kernel computes it. -/
abbrev cond1 (i : grid0.Coords) : Prop :=
  (Scalar.cmpi .ne (Scalar.extui (Scalar.cmpi .eq (BitVec.ofNat 32 (i 0).val) 0#32) : BitVec 32) 0#32 : BitVec 1) = 1#1

set_option maxHeartbeats 1600000 in
/-- A point past the last real tile: the block is filled with zeros. -/
theorem body_zero (c : Dev nD) (i : grid0.Coords) (arg1 : Memref sig .tc .smem S164 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .bf16) (harg4 : arg4.IsWhole) (arg5 : Memref sig .tc .vmem S1x1x1x2048 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S2x512x1024 .bf16) (harg9 : arg9.IsWhole)
    (q : PosShare TreeShare) (nr : BitVec 32)
    (f2 : Buf (Elt F) (arg2.view.loc (c : Thread nD τ))) (hf2 : (arg2.access (Rect.unit (s := S1) ![0] S1.size inb_S1_S1_0)).read (Elt F) f2 (Shape.Idx.first (numel1_S1.symm ▸ Nat.one_pos)) = nr)
    (h1 : ¬ cond1 i)
    (h2 : ¬ k0_cond2 i nr = 1#1) (h3 : ¬ k0_cond3 i nr = 1#1) (h4 : k0_cond4 i nr = 1#1) (K : PUnit → sProp 𝕄) :
    iprop((arg2.view.loc (c : Thread nD τ) ↦{q} f2)
        ∗ (∃ d, owns (c : Thread nD τ) arg8 fullShare d)
        ∗ (iprop((arg2.view.loc (c : Thread nD τ) ↦{q} f2) ∗ owns (c : Thread nD τ) arg8 fullShare (k0_pay6 (F := F))) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9) K := by
  subst hf2
  simp only [cc0_moe_experts_eq_skeleton]; unfold cc0_moe_experts_skel owns
  iintro ⟨H2, ⟨%d8, %f8, -, H8⟩, Hk⟩
  sl_exec (disch := first | sl_exact h1 | sl_exact h2 | sl_exact h3 | sl_exact h4)
  sl_step
  iapply Hk
  isplitl [H2]; · iexact H2
  iexists _; isplitr
  swap; · iexact H8
  ipureintro
  exact View.read_writes_full _ _ _ _ _

set_option maxHeartbeats 4000000 in
/-- The point after the last real tile's: the last real tile's output, from the slot its hidden layer is in. -/
theorem body_last (c : Dev nD) (i : grid0.Coords) (arg1 : Memref sig .tc .smem S164 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .bf16) (harg4 : arg4.IsWhole) (arg5 : Memref sig .tc .vmem S1x1x1x2048 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S2x512x1024 .bf16) (harg9 : arg9.IsWhole)
    (q : PosShare TreeShare) (nr : BitVec 32)
    (f2 : Buf (Elt F) (arg2.view.loc (c : Thread nD τ))) (hf2 : (arg2.access (Rect.unit (s := S1) ![0] S1.size inb_S1_S1_0)).read (Elt F) f2 (Shape.Idx.first (numel1_S1.symm ▸ Nat.one_pos)) = nr)
    (h1 : ¬ cond1 i) (h2 : ¬ k0_cond2 i nr = 1#1) (h3 : k0_cond3 i nr = 1#1) (h4 : ¬ k0_cond4 i nr = 1#1)
    (x6 : Vec F S1x1x1024x1024 .bf16) (x7 : Vec F S1x1x1x1024 .f32) (d9 : Vec F S2x512x1024 .bf16) (K : PUnit → sProp 𝕄) :
    iprop((arg2.view.loc (c : Thread nD τ) ↦{q} f2)
        ∗ owns (c : Thread nD τ) arg6 fullShare x6 ∗ owns (c : Thread nD τ) arg7 fullShare x7
        ∗ (∃ d, owns (c : Thread nD τ) arg8 fullShare d) ∗ owns (c : Thread nD τ) arg9 fullShare d9
        ∗ (iprop((arg2.view.loc (c : Thread nD τ) ↦{q} f2) ∗ owns (c : Thread nD τ) arg6 fullShare x6 ∗ owns (c : Thread nD τ) arg7 fullShare x7
            ∗ owns (c : Thread nD τ) arg8 fullShare (outB (slot d9 ((i 0).val + 1)) x6 x7) ∗ owns (c : Thread nD τ) arg9 fullShare d9) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9) K := by
  subst hf2
  simp only [cc0_moe_experts_eq_skeleton]; unfold cc0_moe_experts_skel
  simp only [k0_part11_eq_skeleton]; unfold k0_part11_skel owns
  iintro ⟨H2, ⟨%f6, %hf6, H6⟩, ⟨%f7, %hf7, H7⟩, ⟨%d8, %f8, -, H8⟩, ⟨%f9, %hf9, H9⟩, Hk⟩
  have e6 : arg6.view.readAt (Elt F) (Rect.unit (s := S1x1x1024x1024) ![0, 0, 0, 0] S1x1x1024x1024.size inb_S1x1x1024x1024_S1x1x1024x1024_0_0_0_0).toLoadRect f6 = x6 := by
    rw [View.readAt_full, hf6]
  have e7 : arg7.view.readAt (Elt F) (Rect.unit (s := S1x1x1x1024) ![0, 0, 0, 0] S1x1x1x1024.size inb_S1x1x1x1024_S1x1x1x1024_0_0_0_0).toLoadRect f7 = x7 := by
    rw [View.readAt_full, hf7]
  have e9 : arg9.view.readAt (Elt F) (Rect.unit (s := S2x512x1024) (k0_off8 i) S1x512x1024.size (k0_off8_inb i)).toLoadRect f9 = slot d9 ((i 0).val + 1) :=
    read_slotAt _ _ _ hf9 _ (off8_eq i) _
  sl_exec (disch := first | sl_exact h1 | sl_exact h2 | sl_exact h3 | sl_exact h4)
  sl_step
  iapply Hk
  isplitl [H2]; · iexact H2
  isplitl [H6]; · iexists f6; isplitr; (ipureintro; exact hf6); iexact H6
  isplitl [H7]; · iexists f7; isplitr; (ipureintro; exact hf7); iexact H7
  isplitl [H8]
  · iexists _; isplitr
    swap; · iexact H8
    ipureintro
    funext y
    exact read_rows arg8.view f8 (k0_pay24 (slot d9 ((i 0).val + 1)) x6 x7) _ _ _ _ _ _ _ _ _ _ _ _ _ _ _ _
      slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128 y
  iexists f9; isplitr
  · ipureintro; exact hf9
  iexact H9

set_option maxHeartbeats 4000000 in
/-- The first point: the first tile's hidden layer, into slot 0. -/
theorem body_first (c : Dev nD) (i : grid0.Coords) (arg1 : Memref sig .tc .smem S164 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .bf16) (harg4 : arg4.IsWhole) (arg5 : Memref sig .tc .vmem S1x1x1x2048 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S2x512x1024 .bf16) (harg9 : arg9.IsWhole)
    (q : PosShare TreeShare) (nr : BitVec 32)
    (f2 : Buf (Elt F) (arg2.view.loc (c : Thread nD τ))) (hf2 : (arg2.access (Rect.unit (s := S1) ![0] S1.size inb_S1_S1_0)).read (Elt F) f2 (Shape.Idx.first (numel1_S1.symm ▸ Nat.one_pos)) = nr)
    (h1 : cond1 i) (h2 : ¬ k0_cond2 i nr = 1#1) (h3 : ¬ k0_cond3 i nr = 1#1) (h4 : ¬ k0_cond4 i nr = 1#1)
    (x3 : Vec F S4096x128 .f32) (x4 : Vec F S1x1x1024x2048 .bf16) (x5 : Vec F S1x1x1x2048 .f32) (K : PUnit → sProp 𝕄) :
    iprop((arg2.view.loc (c : Thread nD τ) ↦{q} f2)
        ∗ owns (c : Thread nD τ) arg3 fullShare x3 ∗ owns (c : Thread nD τ) arg4 fullShare x4 ∗ owns (c : Thread nD τ) arg5 fullShare x5
        ∗ (∃ d, owns (c : Thread nD τ) arg9 fullShare d)
        ∗ (iprop((arg2.view.loc (c : Thread nD τ) ↦{q} f2)
            ∗ owns (c : Thread nD τ) arg3 fullShare x3 ∗ owns (c : Thread nD τ) arg4 fullShare x4 ∗ owns (c : Thread nD τ) arg5 fullShare x5
            ∗ (∃ d, ⌜slot d 0 = hid x3 x4 x5⌝ ∗ owns (c : Thread nD τ) arg9 fullShare d)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9) K := by
  subst hf2
  simp only [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel owns
  iintro ⟨H2, ⟨%f3, %hf3, H3⟩, ⟨%f4, %hf4, H4⟩, ⟨%f5, %hf5, H5⟩, ⟨%d9, %f9, -, H9⟩, Hk⟩
  have e30 : arg3.view.readAt (Elt F) (⟨![0, 0], S512x128.size, ![8, 1], inb_S4096x128_S512x128_0_0_s_8_1⟩ : LoadRect S4096x128) f3 = xr x3 0 := read_xr _ _ _ hf3 0 (by decide) _
  have e31 : arg3.view.readAt (Elt F) (⟨![1, 0], S512x128.size, ![8, 1], inb_S4096x128_S512x128_1_0_s_8_1⟩ : LoadRect S4096x128) f3 = xr x3 1 := read_xr _ _ _ hf3 1 (by decide) _
  have e32 : arg3.view.readAt (Elt F) (⟨![2, 0], S512x128.size, ![8, 1], inb_S4096x128_S512x128_2_0_s_8_1⟩ : LoadRect S4096x128) f3 = xr x3 2 := read_xr _ _ _ hf3 2 (by decide) _
  have e33 : arg3.view.readAt (Elt F) (⟨![3, 0], S512x128.size, ![8, 1], inb_S4096x128_S512x128_3_0_s_8_1⟩ : LoadRect S4096x128) f3 = xr x3 3 := read_xr _ _ _ hf3 3 (by decide) _
  have e34 : arg3.view.readAt (Elt F) (⟨![4, 0], S512x128.size, ![8, 1], inb_S4096x128_S512x128_4_0_s_8_1⟩ : LoadRect S4096x128) f3 = xr x3 4 := read_xr _ _ _ hf3 4 (by decide) _
  have e35 : arg3.view.readAt (Elt F) (⟨![5, 0], S512x128.size, ![8, 1], inb_S4096x128_S512x128_5_0_s_8_1⟩ : LoadRect S4096x128) f3 = xr x3 5 := read_xr _ _ _ hf3 5 (by decide) _
  have e36 : arg3.view.readAt (Elt F) (⟨![6, 0], S512x128.size, ![8, 1], inb_S4096x128_S512x128_6_0_s_8_1⟩ : LoadRect S4096x128) f3 = xr x3 6 := read_xr _ _ _ hf3 6 (by decide) _
  have e37 : arg3.view.readAt (Elt F) (⟨![7, 0], S512x128.size, ![8, 1], inb_S4096x128_S512x128_7_0_s_8_1⟩ : LoadRect S4096x128) f3 = xr x3 7 := read_xr _ _ _ hf3 7 (by decide) _
  have e40 : arg4.view.readAt (Elt F) (Rect.unit (s := S1x1x1024x2048) ![0, 0, 0, 0] S1x1x1024x512.size inb_S1x1x1024x2048_S1x1x1024x512_0_0_0_0).toLoadRect f4 = wq x4 0 := read_wq _ _ _ hf4 0 (by decide) _
  have e50 : arg5.view.readAt (Elt F) (Rect.unit (s := S1x1x1x2048) ![0, 0, 0, 0] S1x1x1x512.size inb_S1x1x1x2048_S1x1x1x512_0_0_0_0).toLoadRect f5 = bq x5 0 := read_bq _ _ _ hf5 0 (by decide) _
  have e41 : arg4.view.readAt (Elt F) (Rect.unit (s := S1x1x1024x2048) ![0, 0, 0, 512] S1x1x1024x512.size inb_S1x1x1024x2048_S1x1x1024x512_0_0_0_512).toLoadRect f4 = wq x4 1 := read_wq _ _ _ hf4 1 (by decide) _
  have e51 : arg5.view.readAt (Elt F) (Rect.unit (s := S1x1x1x2048) ![0, 0, 0, 512] S1x1x1x512.size inb_S1x1x1x2048_S1x1x1x512_0_0_0_512).toLoadRect f5 = bq x5 1 := read_bq _ _ _ hf5 1 (by decide) _
  have e42 : arg4.view.readAt (Elt F) (Rect.unit (s := S1x1x1024x2048) ![0, 0, 0, 1024] S1x1x1024x512.size inb_S1x1x1024x2048_S1x1x1024x512_0_0_0_1024).toLoadRect f4 = wq x4 2 := read_wq _ _ _ hf4 2 (by decide) _
  have e52 : arg5.view.readAt (Elt F) (Rect.unit (s := S1x1x1x2048) ![0, 0, 0, 1024] S1x1x1x512.size inb_S1x1x1x2048_S1x1x1x512_0_0_0_1024).toLoadRect f5 = bq x5 2 := read_bq _ _ _ hf5 2 (by decide) _
  have e43 : arg4.view.readAt (Elt F) (Rect.unit (s := S1x1x1024x2048) ![0, 0, 0, 1536] S1x1x1024x512.size inb_S1x1x1024x2048_S1x1x1024x512_0_0_0_1536).toLoadRect f4 = wq x4 3 := read_wq _ _ _ hf4 3 (by decide) _
  have e53 : arg5.view.readAt (Elt F) (Rect.unit (s := S1x1x1x2048) ![0, 0, 0, 1536] S1x1x1x512.size inb_S1x1x1x2048_S1x1x1x512_0_0_0_1536).toLoadRect f5 = bq x5 3 := read_bq _ _ _ hf5 3 (by decide) _
  sl_exec (disch := first | sl_exact h1 | sl_exact h2 | sl_exact h3 | sl_exact h4)
  sl_step
  iapply Hk
  isplitl [H2]; · iexact H2
  isplitl [H3]; · iexists f3; isplitr; (ipureintro; exact hf3); iexact H3
  isplitl [H4]; · iexists f4; isplitr; (ipureintro; exact hf4); iexact H4
  isplitl [H5]; · iexists f5; isplitr; (ipureintro; exact hf5); iexact H5
  iexists _; isplitr
  swap
  · iexists _; isplitr
    swap; · iexact H9
    ipureintro; rfl
  ipureintro
  exact read_slot arg9.view f9 0 rfl rfl rfl rfl _ _ _ _ x3 x4 x5 rfl rfl rfl rfl

set_option maxHeartbeats 8000000 in
/-- A point between: the previous tile's output from the slot its hidden layer is in, and this tile's hidden layer into the
    other. -/
theorem body_mid (c : Dev nD) (i : grid0.Coords) (arg1 : Memref sig .tc .smem S164 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .bf16) (harg4 : arg4.IsWhole) (arg5 : Memref sig .tc .vmem S1x1x1x2048 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S2x512x1024 .bf16) (harg9 : arg9.IsWhole)
    (q : PosShare TreeShare) (nr : BitVec 32)
    (f2 : Buf (Elt F) (arg2.view.loc (c : Thread nD τ))) (hf2 : (arg2.access (Rect.unit (s := S1) ![0] S1.size inb_S1_S1_0)).read (Elt F) f2 (Shape.Idx.first (numel1_S1.symm ▸ Nat.one_pos)) = nr)
    (h1 : ¬ cond1 i) (h2 : k0_cond2 i nr = 1#1) (h3 : ¬ k0_cond3 i nr = 1#1) (h4 : ¬ k0_cond4 i nr = 1#1)
    (x3 : Vec F S4096x128 .f32) (x4 : Vec F S1x1x1024x2048 .bf16) (x5 : Vec F S1x1x1x2048 .f32)
    (x6 : Vec F S1x1x1024x1024 .bf16) (x7 : Vec F S1x1x1x1024 .f32) (d9 : Vec F S2x512x1024 .bf16) (K : PUnit → sProp 𝕄) :
    iprop((arg2.view.loc (c : Thread nD τ) ↦{q} f2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ owns (c : Thread nD τ) arg9 fullShare d9
        ∗ (iprop((arg2.view.loc (c : Thread nD τ) ↦{q} f2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (outB (slot d9 ((i 0).val + 1)) x6 x7)
            ∗ (∃ d, ⌜slot d (i 0).val = hid x3 x4 x5⌝ ∗ owns (c : Thread nD τ) arg9 fullShare d)) -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9) K := by
  subst hf2
  simp only [cc0_moe_experts_eq_skeleton]; unfold cc0_moe_experts_skel
  simp only [k0_part5_eq_skeleton, k0_part6_eq_skeleton, k0_part7_eq_skeleton, k0_part8_eq_skeleton, k0_part9_eq_skeleton, k0_part10_eq_skeleton]
  unfold k0_part10_skel
  simp only [k0_part5_eq_skeleton, k0_part6_eq_skeleton, k0_part7_eq_skeleton, k0_part8_eq_skeleton, k0_part9_eq_skeleton]
  unfold k0_part5_skel k0_part6_skel k0_part7_skel k0_part8_skel k0_part9_skel owns
  iintro ⟨H2, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  have e30 : arg3.view.readAt (Elt F) (⟨![0, 0], S512x128.size, ![8, 1], inb_S4096x128_S512x128_0_0_s_8_1⟩ : LoadRect S4096x128) f3 = xr x3 0 := read_xr _ _ _ hf3 0 (by decide) _
  have e31 : arg3.view.readAt (Elt F) (⟨![1, 0], S512x128.size, ![8, 1], inb_S4096x128_S512x128_1_0_s_8_1⟩ : LoadRect S4096x128) f3 = xr x3 1 := read_xr _ _ _ hf3 1 (by decide) _
  have e32 : arg3.view.readAt (Elt F) (⟨![2, 0], S512x128.size, ![8, 1], inb_S4096x128_S512x128_2_0_s_8_1⟩ : LoadRect S4096x128) f3 = xr x3 2 := read_xr _ _ _ hf3 2 (by decide) _
  have e33 : arg3.view.readAt (Elt F) (⟨![3, 0], S512x128.size, ![8, 1], inb_S4096x128_S512x128_3_0_s_8_1⟩ : LoadRect S4096x128) f3 = xr x3 3 := read_xr _ _ _ hf3 3 (by decide) _
  have e34 : arg3.view.readAt (Elt F) (⟨![4, 0], S512x128.size, ![8, 1], inb_S4096x128_S512x128_4_0_s_8_1⟩ : LoadRect S4096x128) f3 = xr x3 4 := read_xr _ _ _ hf3 4 (by decide) _
  have e35 : arg3.view.readAt (Elt F) (⟨![5, 0], S512x128.size, ![8, 1], inb_S4096x128_S512x128_5_0_s_8_1⟩ : LoadRect S4096x128) f3 = xr x3 5 := read_xr _ _ _ hf3 5 (by decide) _
  have e36 : arg3.view.readAt (Elt F) (⟨![6, 0], S512x128.size, ![8, 1], inb_S4096x128_S512x128_6_0_s_8_1⟩ : LoadRect S4096x128) f3 = xr x3 6 := read_xr _ _ _ hf3 6 (by decide) _
  have e37 : arg3.view.readAt (Elt F) (⟨![7, 0], S512x128.size, ![8, 1], inb_S4096x128_S512x128_7_0_s_8_1⟩ : LoadRect S4096x128) f3 = xr x3 7 := read_xr _ _ _ hf3 7 (by decide) _
  have e40 : arg4.view.readAt (Elt F) (Rect.unit (s := S1x1x1024x2048) ![0, 0, 0, 0] S1x1x1024x512.size inb_S1x1x1024x2048_S1x1x1024x512_0_0_0_0).toLoadRect f4 = wq x4 0 := read_wq _ _ _ hf4 0 (by decide) _
  have e50 : arg5.view.readAt (Elt F) (Rect.unit (s := S1x1x1x2048) ![0, 0, 0, 0] S1x1x1x512.size inb_S1x1x1x2048_S1x1x1x512_0_0_0_0).toLoadRect f5 = bq x5 0 := read_bq _ _ _ hf5 0 (by decide) _
  have e41 : arg4.view.readAt (Elt F) (Rect.unit (s := S1x1x1024x2048) ![0, 0, 0, 512] S1x1x1024x512.size inb_S1x1x1024x2048_S1x1x1024x512_0_0_0_512).toLoadRect f4 = wq x4 1 := read_wq _ _ _ hf4 1 (by decide) _
  have e51 : arg5.view.readAt (Elt F) (Rect.unit (s := S1x1x1x2048) ![0, 0, 0, 512] S1x1x1x512.size inb_S1x1x1x2048_S1x1x1x512_0_0_0_512).toLoadRect f5 = bq x5 1 := read_bq _ _ _ hf5 1 (by decide) _
  have e42 : arg4.view.readAt (Elt F) (Rect.unit (s := S1x1x1024x2048) ![0, 0, 0, 1024] S1x1x1024x512.size inb_S1x1x1024x2048_S1x1x1024x512_0_0_0_1024).toLoadRect f4 = wq x4 2 := read_wq _ _ _ hf4 2 (by decide) _
  have e52 : arg5.view.readAt (Elt F) (Rect.unit (s := S1x1x1x2048) ![0, 0, 0, 1024] S1x1x1x512.size inb_S1x1x1x2048_S1x1x1x512_0_0_0_1024).toLoadRect f5 = bq x5 2 := read_bq _ _ _ hf5 2 (by decide) _
  have e43 : arg4.view.readAt (Elt F) (Rect.unit (s := S1x1x1024x2048) ![0, 0, 0, 1536] S1x1x1024x512.size inb_S1x1x1024x2048_S1x1x1024x512_0_0_0_1536).toLoadRect f4 = wq x4 3 := read_wq _ _ _ hf4 3 (by decide) _
  have e53 : arg5.view.readAt (Elt F) (Rect.unit (s := S1x1x1x2048) ![0, 0, 0, 1536] S1x1x1x512.size inb_S1x1x1x2048_S1x1x1x512_0_0_0_1536).toLoadRect f5 = bq x5 3 := read_bq _ _ _ hf5 3 (by decide) _
  have e6 : arg6.view.readAt (Elt F) (Rect.unit (s := S1x1x1024x1024) ![0, 0, 0, 0] S1x1x1024x1024.size inb_S1x1x1024x1024_S1x1x1024x1024_0_0_0_0).toLoadRect f6 = x6 := by
    rw [View.readAt_full, hf6]
  have e7 : arg7.view.readAt (Elt F) (Rect.unit (s := S1x1x1x1024) ![0, 0, 0, 0] S1x1x1x1024.size inb_S1x1x1x1024_S1x1x1x1024_0_0_0_0).toLoadRect f7 = x7 := by
    rw [View.readAt_full, hf7]
  have e9 : arg9.view.readAt (Elt F) (Rect.unit (s := S2x512x1024) (k0_off3 i) S1x512x1024.size (k0_off3_inb i)).toLoadRect f9 = slot d9 ((i 0).val + 1) :=
    read_slotAt _ _ _ hf9 _ (off3_eq i) _
  sl_exec (disch := first | sl_exact h1 | sl_exact h2 | sl_exact h3 | sl_exact h4)
  sl_step
  iapply Hk
  isplitl [H2]; · iexact H2
  isplitl [H3]; · iexists f3; isplitr; (ipureintro; exact hf3); iexact H3
  isplitl [H4]; · iexists f4; isplitr; (ipureintro; exact hf4); iexact H4
  isplitl [H5]; · iexists f5; isplitr; (ipureintro; exact hf5); iexact H5
  isplitl [H6]; · iexists f6; isplitr; (ipureintro; exact hf6); iexact H6
  isplitl [H7]; · iexists f7; isplitr; (ipureintro; exact hf7); iexact H7
  isplitl [H8]
  · iexists _; isplitr
    swap; · iexact H8
    ipureintro
    funext y
    exact read_rows arg8.view f8 (k0_pay24 (slot d9 ((i 0).val + 1)) x6 x7) _ _ _ _ _ _ _ _ _ _ _ _ _ _ _ _
      slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128 y
  iexists _; isplitr
  swap
  · iexists _; isplitr
    swap; · iexact H9
    ipureintro; rfl
  ipureintro
  exact read_slot arg9.view f9 (i 0).val (off4_eq i) (off5_eq i) (off6_eq i) (off7_eq i) _ _ _ _ x3 x4 x5 rfl rfl rfl rfl

end Cert.Kernel2Ideal.Moe

end
-- ==== Proof.MoeTables.lean ====
/- The experts kernel's two tables in range: which blocks each point reads, which branch of the body it takes. -/
module

public import proofs.«01_k».proof.Proof.MoeBody
public import Idealize.ShloMosaic.Lib.Claim
public import Idealize.ShloMosaic.Lib.WordCmp

@[expose] public section

set_option maxRecDepth 16384

noncomputable section

namespace Cert.Kernel2Ideal.Moe

open Idealize.ShloMosaic Idealize.ShloMosaic.TcCoe Idealize.ShloMosaic.Tactic
open Cert.Kernel2Ideal.Gen

variable {F : FTy → Type} [FloatOps F]

/-- The tiles' experts, the first table, as numbers, -/
def te (pf : pre0.Contents (Elt F)) (k : ℕ) : ℕ := BitVec.toNat (pf 0 (ix1 (⟨min k 163, by omega⟩ : Fin 164)) : BitVec 32)
/-- and the number of tiles in use, the second: its one word. -/
def nrW (pf : pre0.Contents (Elt F)) : BitVec 32 := pf 1 (ix1 (0 : Fin 1))

/-- The tables in range: every tile's expert one of the 32, at least one tile in use and at most all. -/
structure Routed (pf : pre0.Contents (Elt F)) : Prop where
  te : ∀ k : Fin 164, BitVec.toNat (pf 0 (ix1 k) : BitVec 32) < 32
  lo : 1 ≤ (nrW pf).toNat
  hi : (nrW pf).toNat ≤ 164

theorem Routed.te_lt {pf : pre0.Contents (Elt F)} (h : Routed pf) (k : ℕ) : Moe.te pf k < 32 := h.te _

theorem nr_ofNat (pf : pre0.Contents (Elt F)) : nrW pf = BitVec.ofNat 32 (nrW pf).toNat := by simp

theorem at1_eq (pf : pre0.Contents (Elt F)) : pf.at 1 (Rect.unit (s := S1) ![0] S1.size inb_S1_S1_0) numel1_S1 = nrW pf :=
  congrArg (pf 1) (funext fun a => by fin_cases a; exact Subsingleton.elim (α := Fin 1) _ _)

theorem atD1_eq (pf : pre0.Contents (Elt F)) : pf.atD 1 ![0] = nrW pf := by
  refine (dif_pos (show ∀ a : Fin 1, (![0] : Fin 1 → ℕ) a + 1 ≤ S1.size a by decide)).trans ?_
  exact congrArg (pf 1) (funext fun a => by fin_cases a; exact Subsingleton.elim (α := Fin 1) _ _)

theorem read2_eq (pf : pre0.Contents (Elt F)) :
    ((Memref.whole main_arg1 : Memref sig .tc .smem S1 .i32).access (Rect.unit (s := S1) ![0] S1.size inb_S1_S1_0)).read (Elt F) (pf 1)
      (Shape.Idx.first (numel1_S1.symm ▸ Nat.one_pos)) = nrW pf :=
  congrArg (pf 1) (funext fun a => by fin_cases a; exact Subsingleton.elim (α := Fin 1) _ _)

theorem off1_eq : ∀ i : grid0.Coords, k0_off1 i = ![min (i 0).val 163] := by decide +kernel
theorem off2_eq : ∀ i : grid0.Coords, k0_off2 i = ![(i 0).val - 1] := by decide +kernel

theorem tr5_eq : ∀ i : grid0.Coords, cc0_transform_5 i = ![(i 0).val - 1, 0] := by decide +kernel

theorem at0_eq (pf : pre0.Contents (Elt F)) (v : ℕ) (hv : v < 164) (h) :
    (pf.at 0 (Rect.unit (s := S164) ![v] S1.size h) numel1_S1 : BitVec 32).toNat = te pf v :=
  congrArg (fun z : S164.Idx => BitVec.toNat (pf 0 z : BitVec 32)) (funext fun a => by
    fin_cases a; refine Fin.ext ?_; show v + 1 * _ = min v 163; rw [min_eq_left (by omega)]; rfl)

theorem coord_lt (i : grid0.Coords) : (i 0).val < 165 := (i 0).isLt

theorem tr0_eq (pf : pre0.Contents (Elt F)) (h : Routed pf) (i : grid0.Coords) :
    cc0_transform_0 inb_S1_S1_0 numel1_S1 pf i = ![min (i 0).val ((nrW pf).toNat - 1), 0] := by
  have hi := coord_lt i
  have h1 := h.lo
  have h2 := h.hi
  unfold cc0_transform_0
  rw [at1_eq]
  obtain ⟨n, hn⟩ : ∃ n, n = (nrW pf).toNat := ⟨_, rfl⟩
  rw [nr_ofNat pf, ← hn]
  rw [← hn] at h1 h2
  have e : (Scalar.minsi (BitVec.ofNat 32 (i 0).val) (Scalar.subi (BitVec.ofNat 32 n) 1#32)).toNat = min (i 0).val (n - 1) := by
    have e1 : Scalar.subi (BitVec.ofNat 32 n) 1#32 = BitVec.ofNat 32 (n - 1) := by
      apply BitVec.eq_of_toNat_eq; simp [Scalar.subi, IntOp.subi, BitVec.toNat_sub]; omega
    rw [e1]
    have q1 : (BitVec.ofNat 32 (i 0).val).toInt = (i 0).val := by
      rw [BitVec.toInt_eq_toNat_cond, BitVec.toNat_ofNat, Nat.mod_eq_of_lt (by omega), if_pos (by omega)]
    have q2 : (BitVec.ofNat 32 (n - 1)).toInt = ((n - 1 : ℕ) : ℤ) := by
      rw [BitVec.toInt_eq_toNat_cond, BitVec.toNat_ofNat, Nat.mod_eq_of_lt (by omega), if_pos (by omega)]
    simp only [Scalar.minsi, IntOp.minsi, BitVec.slt, q1, q2, decide_eq_true_eq]
    split
    · rw [BitVec.toNat_ofNat, Nat.mod_eq_of_lt (by omega)]; omega
    · rw [BitVec.toNat_ofNat, Nat.mod_eq_of_lt (by omega)]; omega
  show ![(Scalar.minsi (BitVec.ofNat 32 (i 0).val) (Scalar.subi (BitVec.ofNat 32 n) 1#32)).toNat, 0] = _
  rw [e, BitVec.toNat_ofNat, Nat.mod_eq_of_lt (by omega)]

theorem tr1_eq (pf : pre0.Contents (Elt F)) (i : grid0.Coords) :
    cc0_transform_1 k0_off1_inb numel1_S1 pf i = ![0, te pf (min (i 0).val 163), 0, 0] := by
  have hi := coord_lt i
  have e := congrFun (off1_eq i) 0
  have := at0_eq pf (min (i 0).val 163) (by omega) (by intro a; fin_cases a; show min (i 0).val 163 + 1 ≤ 164; omega)
  rw [← this]
  show ![0, BitVec.toNat (pf 0 _ : BitVec 32), 0, 0] = _
  refine congrArg (fun z : S164.Idx => ![0, BitVec.toNat (pf 0 z : BitVec 32), 0, 0]) (funext fun a => by
    fin_cases a; refine Fin.ext ?_; exact congrArg (· + _) e)

theorem tr2_eq (pf : pre0.Contents (Elt F)) (i : grid0.Coords) :
    cc0_transform_2 k0_off1_inb numel1_S1 pf i = ![0, te pf (min (i 0).val 163), 0, 0] := tr1_eq pf i

theorem tr3_eq (pf : pre0.Contents (Elt F)) (i : grid0.Coords) :
    cc0_transform_3 k0_off2_inb numel1_S1 pf i = ![0, te pf ((i 0).val - 1), 0, 0] := by
  have hi := coord_lt i
  have e := congrFun (off2_eq i) 0
  have := at0_eq pf ((i 0).val - 1) (by omega) (by intro a; fin_cases a; show (i 0).val - 1 + 1 ≤ 164; omega)
  rw [← this]
  show ![0, BitVec.toNat (pf 0 _ : BitVec 32), 0, 0] = _
  refine congrArg (fun z : S164.Idx => ![0, BitVec.toNat (pf 0 z : BitVec 32), 0, 0]) (funext fun a => by
    fin_cases a; refine Fin.ext ?_; exact congrArg (· + _) e)

theorem tr4_eq (pf : pre0.Contents (Elt F)) (i : grid0.Coords) :
    cc0_transform_4 k0_off2_inb numel1_S1 pf i = ![0, te pf ((i 0).val - 1), 0, 0] := tr3_eq pf i

/-- Tables in range pass the launch's check: every block inside its array. -/
theorem ok_of_routed (pf : pre0.Contents (Elt F)) (h : Routed pf) : ok0 pf := by
  have h1 := h.lo
  have h2 := h.hi
  have h3 := h.te_lt
  refine ⟨fun i => ⟨?_, .inl rfl⟩, fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · rw [tr0_eq pf h]; intro a
    have := coord_lt i
    fin_cases a
    · show (min (i 0).val ((nrW pf).toNat - 1) + 1) * 4096 ≤ 671744; omega
    · show (0 + 1) * 128 ≤ 128; omega
  · rw [tr1_eq pf]; intro a
    have := h3 (min (i 0).val 163)
    fin_cases a
    · show (0 + 1) * 1 ≤ 4; omega
    · show (te pf (min (i 0).val 163) + 1) * 1 ≤ 32; omega
    · show (0 + 1) * 1024 ≤ 1024; omega
    · show (0 + 1) * 2048 ≤ 2048; omega
  · rw [tr2_eq pf]; intro a
    have := h3 (min (i 0).val 163)
    fin_cases a
    · show (0 + 1) * 1 ≤ 4; omega
    · show (te pf (min (i 0).val 163) + 1) * 1 ≤ 32; omega
    · show (0 + 1) * 1 ≤ 1; omega
    · show (0 + 1) * 2048 ≤ 2048; omega
  · rw [tr3_eq pf]; intro a
    have := h3 ((i 0).val - 1)
    fin_cases a
    · show (0 + 1) * 1 ≤ 4; omega
    · show (te pf ((i 0).val - 1) + 1) * 1 ≤ 32; omega
    · show (0 + 1) * 1024 ≤ 1024; omega
    · show (0 + 1) * 1024 ≤ 1024; omega
  · rw [tr4_eq pf]; intro a
    have := h3 ((i 0).val - 1)
    fin_cases a
    · show (0 + 1) * 1 ≤ 4; omega
    · show (te pf ((i 0).val - 1) + 1) * 1 ≤ 32; omega
    · show (0 + 1) * 1 ≤ 1; omega
    · show (0 + 1) * 1024 ≤ 1024; omega

/-! ## The branches -/

theorem hcond1 (i : grid0.Coords) : cond1 i ↔ (i 0).val = 0 := by
  have hi := coord_lt i
  simp only [cond1]
  word_cmp

theorem hcond2 (i : grid0.Coords) (n : ℕ) (hn : n ≤ 164) : k0_cond2 i (BitVec.ofNat 32 n) = 1#1 ↔ 0 < (i 0).val ∧ (i 0).val < n := by
  have hi := coord_lt i
  unfold k0_cond2
  simp only []
  word_cmp

theorem hcond3 (i : grid0.Coords) (n : ℕ) (hn : n ≤ 164) : k0_cond3 i (BitVec.ofNat 32 n) = 1#1 ↔ 0 < (i 0).val ∧ (i 0).val = n := by
  have hi := coord_lt i
  unfold k0_cond3
  simp only []
  word_cmp

theorem hcond4 (i : grid0.Coords) (n : ℕ) (hn : n ≤ 164) : k0_cond4 i (BitVec.ofNat 32 n) = 1#1 ↔ n < (i 0).val := by
  have hi := coord_lt i
  unfold k0_cond4
  simp only []
  word_cmp

theorem coords_0 (t : Fin grid0.N) : (grid0.coords t 0).val = t.val := by
  have ht : t.val < 165 := Nat.lt_of_lt_of_eq t.isLt N_0
  have e : (grid0.coords t 0).val = t.val / 1 % 165 := Pipeline.Grid.coords_val t 0 (by decide) rfl
  rw [e]
  omega

end Cert.Kernel2Ideal.Moe

end
-- ==== Proof.MoeRun.lean ====
/- The experts kernel's run: what its scratch carries from point to point, the proof data, the body's obligation at every
   point, and the launch at tables in range. Over any float values; the frames of the kernel and of its ideal form are both
   read off it. -/
module

public import proofs.«01_k».proof.Proof.MoeTables

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- A core's buffers when the region is entered: after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The tables, one family of one. -/
abbrev adm : (p : Fin 1) → (pcfgs (F := F) p).Adm := fun _ => a

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is as launched. -/
theorem V_of (c : Dev nD) (b : Ref sig .tc) (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_of m c main_arg0 (by
    simp only [hostOps0, List.Forall, StableHlo.unary_writes, StableHlo.reshape_writes, Finset.mem_singleton]
    repeat' apply And.intro
    all_goals exact StableHlo.devRef_ne_of_ne (by decide))
theorem V_main_arg1 (c : Dev nD) : V m c main_arg1 = m ((c : Thread nD τ).loc main_arg1) :=
  V_of m c main_arg1 (by
    simp only [hostOps0, List.Forall, StableHlo.unary_writes, StableHlo.reshape_writes, Finset.mem_singleton]
    repeat' apply And.intro
    all_goals exact StableHlo.devRef_ne_of_ne (by decide))
theorem V_main_arg2 (c : Dev nD) : V m c main_arg2 = m ((c : Thread nD τ).loc main_arg2) :=
  V_of m c main_arg2 (by
    simp only [hostOps0, List.Forall, StableHlo.unary_writes, StableHlo.reshape_writes, Finset.mem_singleton]
    repeat' apply And.intro
    all_goals exact StableHlo.devRef_ne_of_ne (by decide))
theorem V_main_arg3 (c : Dev nD) : V m c main_arg3 = m ((c : Thread nD τ).loc main_arg3) :=
  V_of m c main_arg3 (by
    simp only [hostOps0, List.Forall, StableHlo.unary_writes, StableHlo.reshape_writes, Finset.mem_singleton]
    repeat' apply And.intro
    all_goals exact StableHlo.devRef_ne_of_ne (by decide))
theorem V_main_arg4 (c : Dev nD) : V m c main_arg4 = m ((c : Thread nD τ).loc main_arg4) :=
  V_of m c main_arg4 (by
    simp only [hostOps0, List.Forall, StableHlo.unary_writes, StableHlo.reshape_writes, Finset.mem_singleton]
    repeat' apply And.intro
    all_goals exact StableHlo.devRef_ne_of_ne (by decide))
theorem V_main_arg5 (c : Dev nD) : V m c main_arg5 = m ((c : Thread nD τ).loc main_arg5) :=
  V_of m c main_arg5 (by
    simp only [hostOps0, List.Forall, StableHlo.unary_writes, StableHlo.reshape_writes, Finset.mem_singleton]
    repeat' apply And.intro
    all_goals exact StableHlo.devRef_ne_of_ne (by decide))
theorem V_main_arg6 (c : Dev nD) : V m c main_arg6 = m ((c : Thread nD τ).loc main_arg6) :=
  V_of m c main_arg6 (by
    simp only [hostOps0, List.Forall, StableHlo.unary_writes, StableHlo.reshape_writes, Finset.mem_singleton]
    repeat' apply And.intro
    all_goals exact StableHlo.devRef_ne_of_ne (by decide))

/-- Window `w`'s block at point `t`, read off its array as the region finds it. -/
def iblk (c : Dev nD) (w : Fin 6) (t : Fin grid0.N) : ((win0 a w).xblock (grid0.coords t)).Idx → Elt F (win0 a w).elt :=
  ((win0 a w).blk t).view.read (Elt F) (V m c (Pipeline.arrRef spec0 w))

abbrev b0 (c : Dev nD) (t : Fin grid0.N) : Vec F S4096x128 .f32 := iblk m a c 0 t
abbrev b1 (c : Dev nD) (t : Fin grid0.N) : Vec F S1x1x1024x2048 .bf16 := iblk m a c 1 t
abbrev b2 (c : Dev nD) (t : Fin grid0.N) : Vec F S1x1x1x2048 .f32 := iblk m a c 2 t
abbrev b3 (c : Dev nD) (t : Fin grid0.N) : Vec F S1x1x1024x1024 .bf16 := iblk m a c 3 t
abbrev b4 (c : Dev nD) (t : Fin grid0.N) : Vec F S1x1x1x1024 .f32 := iblk m a c 4 t

/-- The hidden layer of the tile point `n` reads. -/
def hidAt (c : Dev nD) (n : ℕ) (h : n < grid0.N) : Vec F S1x512x1024 .bf16 := hid (b0 m a c ⟨n, h⟩) (b1 m a c ⟨n, h⟩) (b2 m a c ⟨n, h⟩)

/-- What point `t` writes back: the tile before its own, or zeros past the tiles in use. -/
def outAt (c : Dev nD) (t : Fin grid0.N) : Vec F S4096x128 .f32 :=
  if t.val ≤ (nrW a.1).toNat then outB (hidAt m a c (t.val - 1) (Nat.lt_of_le_of_lt (Nat.sub_le _ _) t.isLt)) (b3 m a c t) (b4 m a c t) else k0_pay6

abbrev scM : Memref sig .tc .vmem S2x512x1024 .bf16 := Memref.whole cc0_scratch0

/-- The two tables, as the body holds them. -/
def tabs (c : Dev nD) : sProp 𝕄 :=
  iprop((((c : Thread nD τ).loc main_arg0) ↦{fullShare.right} (show Buf (Elt F) ((c : Thread nD τ).loc main_arg0) from a.1 0))
          ∗ (((c : Thread nD τ).loc main_arg1) ↦{fullShare.right} (show Buf (Elt F) ((c : Thread nD τ).loc main_arg1) from a.1 1)))

theorem tabs_eq (c : Dev nD) : (Pipeline.ΦT pre0 a.1 c : sProp 𝕄) = tabs a c := by
  show Pipeline.prefHeld pre0 c (fun _ => fullShare.right) a.1 = _
  unfold Pipeline.prefHeld
  rw [show (Finset.univ : Finset (Fin 2)) = insert 0 {1} from by decide, bigSep_insert (by decide), bigSep_singleton]
  rfl

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The region's invariant before point `n`: after a point that used a tile its hidden layer is in its slot. -/
def PhiS (c : Dev nD) : (n : ℕ) → n ≤ grid0.N → sProp 𝕄
  | 0, _ => iprop(((∃ d, owns (c : Thread nD τ) scM fullShare d) ∗ (∃ r, prngReg c r)) ∗ tabs a c)
  | n + 1, hn => iprop(((∃ d, ⌜n < (nrW a.1).toNat → slot d n = hidAt m a c n hn⌝ ∗ owns (c : Thread nD τ) scM fullShare d) ∗ (∃ r, prngReg c r)) ∗ tabs a c)

theorem PhiS_zero (c : Dev nD) (n : ℕ) (h : n ≤ grid0.N) (hz : n = 0) :
    PhiS m a c n h = iprop(((∃ d, owns (c : Thread nD τ) scM fullShare d) ∗ (∃ r, prngReg c r)) ∗ tabs a c) := by
  subst hz; rfl

theorem PhiS_pos (c : Dev nD) (n : ℕ) (h : n ≤ grid0.N) (hz : n ≠ 0) :
    PhiS m a c n h = iprop(((∃ d, ⌜n - 1 < (nrW a.1).toNat → slot d (n - 1) = hidAt m a c (n - 1) (by omega)⌝ ∗ owns (c : Thread nD τ) scM fullShare d) ∗ (∃ r, prngReg c r)) ∗ tabs a c) := by
  cases n with
  | zero => exact absurd rfl hz
  | succ n => rfl

theorem PhiS_succ (c : Dev nD) (n : ℕ) (hn : n < grid0.N) :
    PhiS m a c (n + 1) hn = iprop(((∃ d, ⌜n < (nrW a.1).toNat → slot d n = hidAt m a c n hn⌝ ∗ owns (c : Thread nD τ) scM fullShare d) ∗ (∃ r, prngReg c r)) ∗ tabs a c) := rfl

/-- The pipeline's proof data. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c t
  Φ t := PhiS m a c t.val (Nat.le_of_lt_succ t.isLt)
  q _ := fullShare
  owed _ := 0

theorem A_eq (c : Dev nD) (w : Fin 6) : (dats m a 0 c).A w = V m c (Pipeline.arrRef spec0 w) := by
  dsimp only [dats]

theorem Phi_castSucc (c : Dev nD) (t : Fin grid0.N) :
    (dats m a 0 c).Φ t.castSucc = PhiS m a c t.val (Nat.le_of_lt t.isLt) := by
  dsimp only [dats]; exact Pipeline.Dat.Φ_castSucc (PhiS m a c) t

theorem after_0 (c : Dev nD) (t : Fin grid0.N) : (dats m a 0 c).after 0 t = iblk m a c 0 t := by dsimp only [dats]; rfl
theorem after_1 (c : Dev nD) (t : Fin grid0.N) : (dats m a 0 c).after 1 t = iblk m a c 1 t := by dsimp only [dats]; rfl
theorem after_2 (c : Dev nD) (t : Fin grid0.N) : (dats m a 0 c).after 2 t = iblk m a c 2 t := by dsimp only [dats]; rfl
theorem after_3 (c : Dev nD) (t : Fin grid0.N) : (dats m a 0 c).after 3 t = iblk m a c 3 t := by dsimp only [dats]; rfl
theorem after_4 (c : Dev nD) (t : Fin grid0.N) : (dats m a 0 c).after 4 t = iblk m a c 4 t := by dsimp only [dats]; rfl
theorem after_5 (c : Dev nD) (t : Fin grid0.N) : (dats m a 0 c).after 5 t = outAt m a c t := by dsimp only [dats]; rfl

theorem before_0 (c : Dev nD) (t : Fin grid0.N) (d) : (dats m a 0 c).before 0 t d = iblk m a c 0 t :=
  ((dats m a 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin grid0.N) (d) : (dats m a 0 c).before 1 t d = iblk m a c 1 t :=
  ((dats m a 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin grid0.N) (d) : (dats m a 0 c).before 2 t d = iblk m a c 2 t :=
  ((dats m a 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin grid0.N) (d) : (dats m a 0 c).before 3 t d = iblk m a c 3 t :=
  ((dats m a 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin grid0.N) (d) : (dats m a 0 c).before 4 t d = iblk m a c 4 t :=
  ((dats m a 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem slot_add_two (d : Vec F S2x512x1024 .bf16) (p : ℕ) : slot d (p + 2) = slot d p := by
  funext y
  unfold slot
  exact congrArg d (funext fun b => by fin_cases b <;> first | rfl | exact Fin.ext (Nat.add_mod_right p 2))

theorem slot_before (d : Vec F S2x512x1024 .bf16) (t : ℕ) (ht : t ≠ 0) : slot d (t + 1) = slot d (t - 1) := by
  rw [show t + 1 = (t - 1) + 2 by omega, slot_add_two]

abbrev ms_0 (t : Fin grid0.N) : Memref sig .tc .vmem S4096x128 .f32 := spec0_0.stage ((cfg0 a).slots t 0)
abbrev ms_1 (t : Fin grid0.N) : Memref sig .tc .vmem S1x1x1024x2048 .bf16 := spec0_1.stage ((cfg0 a).slots t 1)
abbrev ms_2 (t : Fin grid0.N) : Memref sig .tc .vmem S1x1x1x2048 .f32 := spec0_2.stage ((cfg0 a).slots t 2)
abbrev ms_3 (t : Fin grid0.N) : Memref sig .tc .vmem S1x1x1024x1024 .bf16 := spec0_3.stage ((cfg0 a).slots t 3)
abbrev ms_4 (t : Fin grid0.N) : Memref sig .tc .vmem S1x1x1x1024 .f32 := spec0_4.stage ((cfg0 a).slots t 4)
abbrev ms_5 (t : Fin grid0.N) : Memref sig .tc .vmem S4096x128 .f32 := spec0_5.stage ((cfg0 a).slots t 5)

/-- The body at a point, on the buffers the pipeline calls it with. -/
abbrev bodyAt (t : Fin grid0.N) : Prog (TpuEff nD τ sig (Elt F) Λ₀ .tc) PUnit :=
  cc0_moe_experts (grid0.coords t) (Memref.whole main_arg0) (Memref.isWhole_whole _) (Memref.whole main_arg1) (Memref.isWhole_whole _)
    (ms_0 a t) (hstage0_0 (((cfg0 a).slots t 0).cast nbuf0_0)) (ms_1 a t) (hstage0_1 (((cfg0 a).slots t 1).cast nbuf0_1))
    (ms_2 a t) (hstage0_2 (((cfg0 a).slots t 2).cast nbuf0_2)) (ms_3 a t) (hstage0_3 (((cfg0 a).slots t 3).cast nbuf0_3))
    (ms_4 a t) (hstage0_4 (((cfg0 a).slots t 4).cast nbuf0_4)) (ms_5 a t) (hstage0_5 (((cfg0 a).slots t 5).cast nbuf0_5))
    (Memref.whole cc0_scratch0) (Memref.isWhole_whole _)

/-- What the body is called with at point `t`, -/
def bodyPre (c : Dev nD) (t : Fin grid0.N) : sProp 𝕄 :=
  iprop((dats m a 0 c).Φ t.castSucc ∗ (dats m a 0 c).owesAt () t.castSucc
    ∗ (∃ d, owns (c : Thread nD τ) (ms_0 a t) fullShare ((dats m a 0 c).before 0 t d))
    ∗ (∃ d, owns (c : Thread nD τ) (ms_1 a t) fullShare ((dats m a 0 c).before 1 t d))
    ∗ (∃ d, owns (c : Thread nD τ) (ms_2 a t) fullShare ((dats m a 0 c).before 2 t d))
    ∗ (∃ d, owns (c : Thread nD τ) (ms_3 a t) fullShare ((dats m a 0 c).before 3 t d))
    ∗ (∃ d, owns (c : Thread nD τ) (ms_4 a t) fullShare ((dats m a 0 c).before 4 t d))
    ∗ (∃ d, owns (c : Thread nD τ) (ms_5 a t) fullShare ((dats m a 0 c).before 5 t d)))

/-- and what it returns, its output block in the state `P`. -/
def bodyPost (c : Dev nD) (t : Fin grid0.N) (P : sProp 𝕄) : sProp 𝕄 :=
  iprop((dats m a 0 c).Φ t.succ ∗ (dats m a 0 c).owesAt () t.succ
    ∗ owns (c : Thread nD τ) (ms_0 a t) fullShare ((dats m a 0 c).after 0 t)
    ∗ owns (c : Thread nD τ) (ms_1 a t) fullShare ((dats m a 0 c).after 1 t)
    ∗ owns (c : Thread nD τ) (ms_2 a t) fullShare ((dats m a 0 c).after 2 t)
    ∗ owns (c : Thread nD τ) (ms_3 a t) fullShare ((dats m a 0 c).after 3 t)
    ∗ owns (c : Thread nD τ) (ms_4 a t) fullShare ((dats m a 0 c).after 4 t)
    ∗ P)

variable {a}

theorem cond1_at (t : Fin grid0.N) : cond1 (grid0.coords t) ↔ t.val = 0 := by rw [hcond1, coords_0]
theorem cond2_at (hr : Routed a.1) (t : Fin grid0.N) : k0_cond2 (grid0.coords t) (nrW a.1) = 1#1 ↔ 0 < t.val ∧ t.val < (nrW a.1).toNat := by
  have e := hcond2 (grid0.coords t) (nrW a.1).toNat hr.hi
  rw [← nr_ofNat, coords_0] at e; exact e
theorem cond3_at (hr : Routed a.1) (t : Fin grid0.N) : k0_cond3 (grid0.coords t) (nrW a.1) = 1#1 ↔ 0 < t.val ∧ t.val = (nrW a.1).toNat := by
  have e := hcond3 (grid0.coords t) (nrW a.1).toNat hr.hi
  rw [← nr_ofNat, coords_0] at e; exact e
theorem cond4_at (hr : Routed a.1) (t : Fin grid0.N) : k0_cond4 (grid0.coords t) (nrW a.1) = 1#1 ↔ (nrW a.1).toNat < t.val := by
  have e := hcond4 (grid0.coords t) (nrW a.1).toNat hr.hi
  rw [← nr_ofNat, coords_0] at e; exact e

variable (hr : Routed a.1)
include hr

set_option maxHeartbeats 1600000 in
/-- The first point: the output block is left as found. -/
theorem sound_first (c : Dev nD) (t : Fin grid0.N) (hz : t.val = 0) :
    bodyPre m a c t ⊢ wp frame (wpE (defs₀ (F := F)) Variants.none c none) Set.univ (bodyAt a t)
      (fun _ => bodyPost m a c t iprop(∃ d, owns (c : Thread nD τ) (ms_5 a t) fullShare ((dats m a 0 c).before 5 t d))) := by
  have h1 := hr.lo
  unfold bodyPre bodyPost bodyAt
  simp only [before_0, before_1, before_2, before_3, before_4]
  rw [show (dats m a 0 c).owesAt () t.succ = (dats m a 0 c).owesAt () t.castSucc from rfl,
    after_0, after_1, after_2, after_3, after_4, Phi_castSucc m a c t, PhiS_zero m a c _ _ hz,
    show (dats m a 0 c).Φ t.succ = PhiS m a c (t.val + 1) t.isLt from rfl, PhiS_succ]
  unfold tabs
  iintro ⟨⟨⟨HS, Hg⟩, HT0, HT1⟩, Ho, ⟨%d0, H0⟩, ⟨%d1, H1⟩, ⟨%d2, H2⟩, ⟨%d3, H3⟩, ⟨%d4, H4⟩, H5⟩
  iapply (body_first c (grid0.coords t) _ _ _ _ _ _ _ _ _ _ _ _ _ _ _ _ _ (Memref.isWhole_whole _) fullShare.right (nrW a.1) (a.1 1) (read2_eq a.1)
    ((cond1_at t).mpr hz) (fun h => by have := (cond2_at hr t).mp h; omega) (fun h => by have := (cond3_at hr t).mp h; omega)
    (fun h => by have := (cond4_at hr t).mp h; omega) (b0 m a c t) (b1 m a c t) (b2 m a c t) _)
  isplitl [HT1]; · iexact HT1
  isplitl [H0]; · iexact H0
  isplitl [H1]; · iexact H1
  isplitl [H2]; · iexact H2
  isplitl [HS]; · iexact HS
  iintro ⟨HT1, H0, H1, H2, ⟨%d, %hd, HS⟩⟩
  isplitl [HS Hg HT0 HT1]
  · isplitl [HS Hg]
    · isplitl [HS]
      · iexists d
        isplitr
        · ipureintro
          exact fun _ => (congrArg (slot d) hz).trans hd
        · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- A point with a tile of its own and one before it. -/
theorem sound_mid (c : Dev nD) (t : Fin grid0.N) (hz : t.val ≠ 0) (hlt : t.val < (nrW a.1).toNat) :
    bodyPre m a c t ⊢ wp frame (wpE (defs₀ (F := F)) Variants.none c none) Set.univ (bodyAt a t)
      (fun _ => bodyPost m a c t (owns (c : Thread nD τ) (ms_5 a t) fullShare (outAt m a c t))) := by
  unfold bodyPre bodyPost bodyAt
  simp only [before_0, before_1, before_2, before_3, before_4]
  rw [show (dats m a 0 c).owesAt () t.succ = (dats m a 0 c).owesAt () t.castSucc from rfl,
    after_0, after_1, after_2, after_3, after_4, Phi_castSucc m a c t, PhiS_pos m a c _ _ hz,
    show (dats m a 0 c).Φ t.succ = PhiS m a c (t.val + 1) t.isLt from rfl, PhiS_succ]
  unfold tabs
  iintro ⟨⟨⟨⟨%d9, %h9, HS⟩, Hg⟩, HT0, HT1⟩, Ho, ⟨%d0, H0⟩, ⟨%d1, H1⟩, ⟨%d2, H2⟩, ⟨%d3, H3⟩, ⟨%d4, H4⟩, ⟨%d5, H5⟩⟩
  have ho : outAt m a c t = outB (slot d9 ((grid0.coords t 0).val + 1)) (b3 m a c t) (b4 m a c t) := by
    unfold outAt
    rw [if_pos (by omega), coords_0, slot_before d9 t.val hz, h9 (by omega)]
  rw [ho]
  iapply (body_mid c (grid0.coords t) _ _ _ _ _ _ _ _ _ _ _ _ _ _ _ _ _ (Memref.isWhole_whole _) fullShare.right (nrW a.1) (a.1 1) (read2_eq a.1)
    (fun h => hz ((cond1_at t).mp h)) ((cond2_at hr t).mpr (by omega)) (fun h => by have := (cond3_at hr t).mp h; omega) (fun h => by have := (cond4_at hr t).mp h; omega) (b0 m a c t) (b1 m a c t) (b2 m a c t) (b3 m a c t) (b4 m a c t) d9 _)
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨HT1, H0, H1, H2, H3, H4, H5, ⟨%d, %hd, HS⟩⟩
  isplitl [HS Hg HT0 HT1]
  · isplitl [HS Hg]
    · isplitl [HS]
      · iexists d
        isplitr
        · ipureintro
          exact fun _ => (congrArg (slot d) (coords_0 t).symm).trans hd
        · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The point after the last tile in use. -/
theorem sound_last (c : Dev nD) (t : Fin grid0.N) (hz : t.val ≠ 0) (hlt : t.val = (nrW a.1).toNat) :
    bodyPre m a c t ⊢ wp frame (wpE (defs₀ (F := F)) Variants.none c none) Set.univ (bodyAt a t)
      (fun _ => bodyPost m a c t (owns (c : Thread nD τ) (ms_5 a t) fullShare (outAt m a c t))) := by
  unfold bodyPre bodyPost bodyAt
  simp only [before_0, before_1, before_2, before_3, before_4]
  rw [show (dats m a 0 c).owesAt () t.succ = (dats m a 0 c).owesAt () t.castSucc from rfl,
    after_0, after_1, after_2, after_3, after_4, Phi_castSucc m a c t, PhiS_pos m a c _ _ hz,
    show (dats m a 0 c).Φ t.succ = PhiS m a c (t.val + 1) t.isLt from rfl, PhiS_succ]
  unfold tabs
  iintro ⟨⟨⟨⟨%d9, %h9, HS⟩, Hg⟩, HT0, HT1⟩, Ho, ⟨%d0, H0⟩, ⟨%d1, H1⟩, ⟨%d2, H2⟩, ⟨%d3, H3⟩, ⟨%d4, H4⟩, ⟨%d5, H5⟩⟩
  have ho : outAt m a c t = outB (slot d9 ((grid0.coords t 0).val + 1)) (b3 m a c t) (b4 m a c t) := by
    unfold outAt
    rw [if_pos (by omega), coords_0, slot_before d9 t.val hz, h9 (by omega)]
  rw [ho]
  iapply (body_last c (grid0.coords t) _ _ _ _ _ _ _ _ _ _ _ _ _ _ _ _ _ (Memref.isWhole_whole _) fullShare.right (nrW a.1) (a.1 1) (read2_eq a.1)
    (fun h => hz ((cond1_at t).mp h)) (fun h => by have := (cond2_at hr t).mp h; omega) ((cond3_at hr t).mpr (by omega)) (fun h => by have := (cond4_at hr t).mp h; omega) (b3 m a c t) (b4 m a c t) d9 _)
  isplitl [HT1]; · iexact HT1
  isplitl [H3]; · iexact H3
  isplitl [H4]; · iexact H4
  isplitl [H5]; · iexists _; iexact H5
  isplitl [HS]; · iexact HS
  iintro ⟨HT1, H3, H4, H5, HS⟩
  isplitl [HS Hg HT0 HT1]
  · isplitl [HS Hg]
    · isplitl [HS]
      · iexists d9
        isplitr
        · ipureintro
          exact fun h => absurd h (by omega)
        · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- A point past it. -/
theorem sound_zero (c : Dev nD) (t : Fin grid0.N) (hz : t.val ≠ 0) (hlt : (nrW a.1).toNat < t.val) :
    bodyPre m a c t ⊢ wp frame (wpE (defs₀ (F := F)) Variants.none c none) Set.univ (bodyAt a t)
      (fun _ => bodyPost m a c t (owns (c : Thread nD τ) (ms_5 a t) fullShare (outAt m a c t))) := by
  unfold bodyPre bodyPost bodyAt
  simp only [before_0, before_1, before_2, before_3, before_4]
  rw [show (dats m a 0 c).owesAt () t.succ = (dats m a 0 c).owesAt () t.castSucc from rfl,
    after_0, after_1, after_2, after_3, after_4, Phi_castSucc m a c t, PhiS_pos m a c _ _ hz,
    show (dats m a 0 c).Φ t.succ = PhiS m a c (t.val + 1) t.isLt from rfl, PhiS_succ]
  unfold tabs
  iintro ⟨⟨⟨⟨%d9, %h9, HS⟩, Hg⟩, HT0, HT1⟩, Ho, ⟨%d0, H0⟩, ⟨%d1, H1⟩, ⟨%d2, H2⟩, ⟨%d3, H3⟩, ⟨%d4, H4⟩, ⟨%d5, H5⟩⟩
  rw [show outAt m a c t = k0_pay6 from if_neg (by omega)]
  iapply (body_zero c (grid0.coords t) _ _ _ _ _ _ _ _ _ _ _ _ _ _ _ _ _ (Memref.isWhole_whole _) fullShare.right (nrW a.1) (a.1 1) (read2_eq a.1)
    (fun h => hz ((cond1_at t).mp h)) (fun h => by have := (cond2_at hr t).mp h; omega) (fun h => by have := (cond3_at hr t).mp h; omega) ((cond4_at hr t).mpr (by omega)) _)
  isplitl [HT1]; · iexact HT1
  isplitl [H5]; · iexists _; iexact H5
  iintro ⟨HT1, H5⟩
  isplitl [HS Hg HT0 HT1]
  · isplitl [HS Hg]
    · isplitl [HS]
      · iexists d9
        isplitr
        · ipureintro
          exact fun h => absurd h (by omega)
        · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem sound_rest (c : Dev nD) (t : Fin grid0.N) (hz : t.val ≠ 0) :
    bodyPre m a c t ⊢ wp frame (wpE (defs₀ (F := F)) Variants.none c none) Set.univ (bodyAt a t)
      (fun _ => bodyPost m a c t (owns (c : Thread nD τ) (ms_5 a t) fullShare (outAt m a c t))) := by
  rcases Nat.lt_trichotomy t.val (nrW a.1).toNat with h | h | h
  · exact sound_mid m hr c t hz h
  · exact sound_last m hr c t hz h
  · exact sound_zero m hr c t hz h

omit hr in
theorem defs₀_row (t : Fin grid0.N) :
    defs₀ (F := F) .tc (cfg0 a).body ((cfg0 a).bodyArgs t ((cfg0 a).slots t)) = bodyAt a t := by
  unfold defs₀; rw [Defs.onTc_tc]

omit hr in
theorem index5 (t : Fin grid0.N) : ((cfg0 a).win 5).index t = ![t.val - 1, 0] := by
  show cc0_transform_5 (grid0.coords t) = _
  rw [tr5_eq, coords_0]

/-- The output block is stored at every point but the first. -/
theorem idle5 (t : Fin grid0.N) (hz : t.val ≠ 0) : (cfg0 a).idle 5 (grid0.coords t) = false := by
  show (!(k0_cond2 (grid0.coords t) (a.1.atD 1 ![0]) == 1#1) && !(k0_cond3 (grid0.coords t) (a.1.atD 1 ![0]) == 1#1) && !(k0_cond4 (grid0.coords t) (a.1.atD 1 ![0]) == 1#1)) = false
  rw [atD1_eq]
  rcases Nat.lt_trichotomy t.val (nrW a.1).toNat with h | h | h
  · rw [(cond2_at hr t).mpr (by omega)]; rfl
  · rw [(cond3_at hr t).mpr (by omega)]; simp
  · rw [(cond4_at hr t).mpr (by omega)]; simp

theorem idle5_zero (t : Fin grid0.N) (hz : t.val = 0) : (cfg0 a).idle 5 (grid0.coords t) = true := by
  have h1 := hr.lo
  have n2 : ¬ k0_cond2 (grid0.coords t) (nrW a.1) = 1#1 := fun h => by have := (cond2_at hr t).mp h; omega
  have n3 : ¬ k0_cond3 (grid0.coords t) (nrW a.1) = 1#1 := fun h => by have := (cond3_at hr t).mp h; omega
  have n4 : ¬ k0_cond4 (grid0.coords t) (nrW a.1) = 1#1 := fun h => by have := (cond4_at hr t).mp h; omega
  show (!(k0_cond2 (grid0.coords t) (a.1.atD 1 ![0]) == 1#1) && !(k0_cond3 (grid0.coords t) (a.1.atD 1 ![0]) == 1#1) && !(k0_cond4 (grid0.coords t) (a.1.atD 1 ![0]) == 1#1)) = true
  rw [atD1_eq]
  simp [n2, n3, n4]

omit hr in
theorem flush5_zero (t : Fin grid0.N) (hz : t.val = 0) : ((cfg0 a).win 5).flush t = false := by
  obtain ⟨n, hn⟩ := t
  obtain rfl : n = 0 := hz
  unfold Pipeline.Window.flush
  simp
  intro _
  have hN : grid0.N = 165 := N_0
  exact ⟨by show ¬ 1 = grid0.N; omega, fun x => (index5 (a := a) ⟨1, x⟩).trans (index5 (a := a) ⟨0, hn⟩).symm⟩

set_option maxHeartbeats 800000 in
theorem body_obligation (c : Dev nD) : BodyObligationLoose (dats m a 0 c) (defs₀ (F := F)) Variants.none () Set.univ := fun t => by
  rw [bigSep_W0, bigSep_W0, defs₀_row]
  by_cases hz : t.val = 0
  · have e1 : (cfg0 a).idle 5 ((cfg0 a).grid.coords t) = true := idle5_zero hr t hz
    have e2 := flush5_zero (a := a) t hz
    refine triple_restated (sound_first m hr c t hz) rfl .rfl fun _ => ?_
    refine sep_mono .rfl (sep_mono .rfl (sep_mono .rfl (sep_mono .rfl (sep_mono .rfl (sep_mono .rfl (sep_mono .rfl ?_))))))
    dsimp only
    split
    · split
      · exact .rfl
      · rename_i h; exact absurd (h.symm.trans e2) (by decide)
    · rename_i h; exact absurd (h.symm.trans e1) (by decide)
  · have e1 : (cfg0 a).idle 5 ((cfg0 a).grid.coords t) = false := idle5 hr t hz
    refine triple_restated (sound_rest m hr c t hz) rfl .rfl fun _ => ?_
    refine sep_mono .rfl (sep_mono .rfl (sep_mono .rfl (sep_mono .rfl (sep_mono .rfl (sep_mono .rfl (sep_mono .rfl ?_))))))
    dsimp only
    split
    · rename_i h; exact absurd (h.symm.trans e1) (by decide)
    · exact .rfl

omit hr in
theorem hin (c : Dev nD) : iprop(Pipeline.ΦA spec0 c ∗ Pipeline.ΦT pre0 a.1 c) ⊢ (dats m a 0 c).Φ 0 := by
  rw [show (dats m a 0 c).Φ 0 = PhiS m a c 0 (Nat.zero_le _) from rfl, PhiS_zero m a c 0 _ rfl, PhiA0_eq, tabs_eq]
  try exact Idealize.SL.BI.Entails.refl _

omit hr in
theorem hout (c : Dev nD) : (dats m a 0 c).Φ (Fin.last grid0.N) ⊢ Pipeline.ΦA spec0 c := by
  have ht : (Fin.last grid0.N).val ≠ 0 := by rw [Fin.val_last]; have : grid0.N = 165 := N_0; omega
  rw [show (dats m a 0 c).Φ (Fin.last grid0.N) = PhiS m a c (Fin.last grid0.N).val (Nat.le_of_lt_succ (Fin.last grid0.N).isLt) from rfl, PhiS_pos m a c _ _ ht, PhiA0_eq]
  iintro ⟨⟨⟨%d, -, HS⟩, Hg⟩, -⟩
  isplitl [HS]
  · iexists d; iexact HS
  iexact Hg

variable (hm : ∀ (c : Dev nD) (k : Fin 2), V m c (pre0.ref k) = a.1 k)
include hm

set_option backward.isDefEq.respectTransparency.types false in
/-- The launch at tables in range, at any float values: every array at what the pipeline's proof data computes, every
    counter at zero. -/
theorem run_main : θ_run defs (onTc (τ := τ) (main (F := F))) (s₀ m ρ)
    (fun r => (Pipeline.FramePost (Pipeline.pin (pcfgs (F := F)) (adm a)) (dats m a) 0 (V m)) r ∧ r.2.sem = fun _ => 0) :=
  Pipeline.θ_run_frameP_track (Q' := _) pcfgs (adm a) (dats m a) (0 : Fin 1) launch0 defs₀ Variants.none m ρ main
    (hbody := fun c => body_obligation m hr c) (hshare := fun c => (dats m a 0 c).share_full fun _ => rfl)
    (howed := fun _ _ => rfl) (V := V m) (hmain := hmain m Variants.none) (hA := A_eq m a) (hpf := hm) (hin := hin m) (hout := hout m)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
    ((h.1 c).2 main_arg0 (Pipeline.mem_restRefs_of main_arg0 (by decide) (show ∀ w : Fin 6, (spec0 w).arr.view.ref ≠ main_arg0 by decide))).trans (V_main_arg0 m c),
    ((h.1 c).2 main_arg1 (Pipeline.mem_restRefs_of main_arg1 (by decide) (show ∀ w : Fin 6, (spec0 w).arr.view.ref ≠ main_arg1 by decide))).trans (V_main_arg1 m c),
    ((h.1 c).2 main_arg2 (Pipeline.mem_restRefs_of main_arg2 (by decide) (show ∀ w : Fin 6, (spec0 w).arr.view.ref ≠ main_arg2 by decide))).trans (V_main_arg2 m c),
    ((h.1 c).1 1).trans (((dats m a 0 c).arrAt_in 1 rfl _).trans ((A_eq m a c 1).trans (V_main_arg3 m c))),
    ((h.1 c).2 main_arg4 (Pipeline.mem_restRefs_of main_arg4 (by decide) (show ∀ w : Fin 6, (spec0 w).arr.view.ref ≠ main_arg4 by decide))).trans (V_main_arg4 m c),
    ((h.1 c).1 3).trans (((dats m a 0 c).arrAt_in 3 rfl _).trans ((A_eq m a c 3).trans (V_main_arg5 m c))),
    ((h.1 c).2 main_arg6 (Pipeline.mem_restRefs_of main_arg6 (by decide) (show ∀ w : Fin 6, (spec0 w).arr.view.ref ≠ main_arg6 by decide))).trans (V_main_arg6 m c)⟩, h.2⟩) (run_main m ρ hr hm)

end Cert.Kernel2Ideal.Moe

end
-- ==== Proof.MoePre.lean ====
/- The experts' precondition read as numbers, and the frame of the kernel from a memory that satisfies it. -/
module

public import proofs.«01_k».proof.Defs
public import proofs.«01_k».proof.Proof.MoeRun
public import proofs.«01_k».proof.Proof.Gen.Pre_routed
public import proofs.«01_k».proof.Proof.Gen.Kernel2
public import Idealize.ShloMosaic.Lib.ReduceAll

@[expose] public section

set_option maxRecDepth 16384

noncomputable section

namespace Cert.Kernel2Ideal.Moe

open Idealize.ShloMosaic Idealize.ShloMosaic.TcCoe Idealize.SL.Sem
open Cert.Kernel2Ideal.Gen

variable {F : FTy → Type} [FloatOps F]

/-- The precondition, decoded: the experts' numbers below 32, the number of tiles in use from 1 to 164. -/
theorem routed_numbers (x0 : IVec S164 32) (x1 : IVec S1 32) (x2 : FVec F S83968x1024 .f32) (x3 : FVec F S4x32x1024x2048 .bf16)
    (x4 : FVec F S4x32x2048 .f32) (x5 : FVec F S4x32x1024x1024 .bf16) (x6 : FVec F S4x32x1024 .f32)
    (h : Cert.Pre_routed.fn (F := F) x0 x1 x2 x3 x4 x5 x6 = fun _ => 1#1) :
    (∀ k : Fin 164, (x0 (ix1 k)).toNat < 32) ∧ 1 ≤ (x1 (ix1 (0 : Fin 1))).toNat ∧ (x1 (ix1 (0 : Fin 1))).toNat ≤ 164 := by
  have andi_one (p q : BitVec 1) : IntOp.andi p q = 1#1 ↔ p = 1#1 ∧ q = 1#1 := by revert p q; decide
  have ofBool_eq_one (p : Bool) : (BitVec.ofBool p = 1#1) ↔ p = true := by cases p <;> decide
  have u1 : ∀ y z : S1.Idx, y = z := by decide
  have hx : ∀ y, x1 y = x1 (ix1 (0 : Fin 1)) := fun y => congrArg x1 (u1 y _)
  have e := congrFun h (fun a => a.elim0)
  simp only [Cert.Pre_routed.fn, andi, cmpi, constantI, shapeCast, andi_one, IntOp.cmpi, ofBool_eq_one, hx] at e
  obtain ⟨⟨e1, e2⟩, e3⟩ := e
  generalize x1 (ix1 (0 : Fin 1)) = n at e2 e3 ⊢
  have hn : 1 ≤ n.toInt ∧ n.toInt ≤ 164 := by
    simp only [BitVec.sle, decide_eq_true_eq] at e2 e3
    exact ⟨e2, e3⟩
  have hn' : n.toInt = n.toNat := by
    rw [BitVec.toInt_eq_toNat_cond] at hn ⊢
    split at hn <;> rename_i hc
    · rw [if_pos hc]
    · have := n.isLt; omega
  refine ⟨fun k => ?_, by omega, by omega⟩
  have e4 := Host.reduce_andi_all _ _ _ _ _ e1 (ix1 k)
  obtain ⟨e5, e6⟩ := (andi_one _ _).1 e4
  replace e5 : BitVec.ofBool ((0#32).sle (x0 (ix1 k))) = 1#1 := e5
  replace e6 : BitVec.ofBool ((x0 (ix1 k)).slt 32#32) = 1#1 := e6
  generalize x0 (ix1 k) = z at e5 e6 ⊢
  simp only [ofBool_eq_one, BitVec.sle, BitVec.slt, decide_eq_true_eq] at e5 e6
  have hz : 0 ≤ z.toInt ∧ z.toInt < 32 := ⟨e5, e6⟩
  rw [BitVec.toInt_eq_toNat_cond] at hz
  split at hz <;> rename_i hc
  · omega
  · have := z.isLt; omega

/-- The tables as the run finds them. -/
def tab (m : (ℓ : Loc nD τ sig) → Buf (Elt F) ℓ) : pre0.Contents (Elt F) := fun k => V m 0 (pre0.ref k)

/-- What the precondition says of a memory. -/
abbrev Pre (m : (ℓ : Loc nD τ sig) → Buf (Elt F) ℓ) : Prop :=
  ∀ c : Dev nD, Cert.Pre_routed.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = fun _ => 1#1

theorem routed_of_pre (m : (ℓ : Loc nD τ sig) → Buf (Elt F) ℓ) (h : Pre m) : Routed (tab m) := by
  obtain ⟨h0, h1, h2⟩ := routed_numbers _ _ _ _ _ _ _ (h 0)
  have e0 : tab m 0 = m (((0 : Dev nD) : Thread nD τ).loc main_arg0) := V_main_arg0 m 0
  have e1 : tab m 1 = m (((0 : Dev nD) : Thread nD τ).loc main_arg1) := V_main_arg1 m 0
  refine ⟨fun k => ?_, ?_, ?_⟩
  · rw [e0]; exact h0 k
  · unfold nrW; rw [e1]; exact h1
  · unfold nrW; rw [e1]; exact h2

/-- The tables, admissible. -/
def tabA (m : (ℓ : Loc nD τ sig) → Buf (Elt F) ℓ) (h : Pre m) : (pcfg0 (F := F)).Adm := ⟨tab m, ok_of_routed _ (routed_of_pre m h)⟩

theorem tab_all (m : (ℓ : Loc nD τ sig) → Buf (Elt F) ℓ) (c : Dev nD) (k : Fin 2) : V m c (pre0.ref k) = tab m k := by
  obtain rfl : c = 0 := Subsingleton.elim _ _
  rfl

/-- The frame from a memory that satisfies the precondition. -/
theorem frame_of_pre (m : (ℓ : Loc nD τ sig) → Buf (Elt F) ℓ) (ρ : Dev nD → PrngReg) (h : Pre m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frame m ρ (a := tabA m h) (routed_of_pre m h) (tab_all m)

end Cert.Kernel2Ideal.Moe

namespace Cert.Proof

open Idealize.ShloMosaic Idealize.SL.Sem

set_option maxHeartbeats 4000000 in
/-- The experts kernel's frame: the run, at bit patterns. -/
theorem frame_kernel2 : Cert.quiescent_Kernel2 := fun m ρ h =>
  Eq.mp (by sl_kernel_rfl) (Cert.Kernel2Ideal.Moe.frame_of_pre (F := Bits) m ρ h)

theorem frame_ideal2 : Cert.quiescent_Kernel2Ideal := fun m ρ h => Cert.Kernel2Ideal.Moe.frame_of_pre (F := Ideal) m ρ h

end Cert.Proof

end
-- ==== Proof.MoeSpec.lean ====
/- The experts over the extended reals: the hidden layer, the output of an expert, and the combination of the tiles in
   use, as plain sums over the arguments. Both programs are compared with these. -/
module

public import Idealize.ShloMosaic.Lib.Pointwise

@[expose] public section

noncomputable section

namespace Cert.MoeSpec

open Idealize.ShloMosaic
open scoped BigOperators

/-- The arguments. -/
structure Args where
  te : (⟨1, ![164]⟩ : Shape).Idx → BitVec 32
  nr : (⟨1, ![1]⟩ : Shape).Idx → BitVec 32
  xs : (⟨2, ![83968, 1024]⟩ : Shape).Idx → EReal
  w1 : (⟨4, ![4, 32, 1024, 2048]⟩ : Shape).Idx → EReal
  b1 : (⟨3, ![4, 32, 2048]⟩ : Shape).Idx → EReal
  w2 : (⟨4, ![4, 32, 1024, 1024]⟩ : Shape).Idx → EReal
  b2 : (⟨3, ![4, 32, 1024]⟩ : Shape).Idx → EReal

variable (A : Args)

/-- The gated activation of the two halves of the first layer. -/
def swi (g l : EReal) : EReal :=
  min g (Ideal.ofBits FTy.f32 1088421888#32)
    * Ideal.div 1 (1 + Ideal.exp (-(Ideal.ofBits FTy.f32 1071242019#32 * min g (Ideal.ofBits FTy.f32 1088421888#32))))
    * (min (Ideal.ofBits FTy.f32 1088421888#32) (max (Ideal.ofBits FTy.f32 3235905536#32) l) + 1)

/-- Where hidden column `f`'s halves lie in the prepared weight. -/
abbrev gc (f : Fin 1024) : Fin 2048 := ⟨f.val / 128 * 256 + f.val % 128, by omega⟩
abbrev lc (f : Fin 1024) : Fin 2048 := ⟨f.val / 128 * 256 + 128 + f.val % 128, by omega⟩

/-- The hidden layer of a row, by expert `e`. -/
def act (r : Fin 83968) (e : Fin 32) (f : Fin 1024) : EReal :=
  swi ((∑ d : Fin 1024, A.xs (ix2 r d) * A.w1 (ix4 0 e d (gc f))) + A.b1 (ix3 0 e ⟨f.val * 2, by omega⟩))
    ((∑ d : Fin 1024, A.xs (ix2 r d) * A.w1 (ix4 0 e d (lc f))) + A.b1 (ix3 0 e ⟨f.val * 2 + 1, by omega⟩))

/-- Expert `e`'s output for a row. -/
def ex (r : Fin 83968) (e : Fin 32) (k : Fin 1024) : EReal :=
  (∑ f : Fin 1024, act A r e f * A.w2 (ix4 0 e f k)) + A.b2 (ix3 0 e k)

/-- The expert of tile `t`. -/
def ept (t : Fin 164) : Fin 32 := ⟨(A.te (ix1 t)).toNat % 32, Nat.mod_lt _ (by decide)⟩

/-- A row's output: its tile's expert, or zero past the tiles in use. -/
def out (r : Fin 83968) (k : Fin 1024) : EReal :=
  if r.val / 512 < (A.nr (ix1 0)).toNat then ex A r (ept A ⟨r.val / 512, by omega⟩) k else 0

end Cert.MoeSpec

end
-- ==== Proof.MoeKernel.lean ====
/- The kernel's value: every block the pipeline writes back, entry by entry, as the sums of `MoeSpec`, and the output array. -/
module

public import proofs.«01_k».proof.Proof.MoePre
public import proofs.«01_k».proof.Proof.MoeSpec
public import Idealize.ShloMosaic.Lib.Pointwise
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.Kernel2Ideal.Moe

open Idealize.ShloMosaic Idealize.ShloMosaic.TcCoe Idealize.ShloMosaic.Tactic
open Idealize.SL.Sem
open Cert.Kernel2Ideal.Gen
open Cert.MoeSpec

/-! ## The body's values -/

/-- A token's column, from the row of its chunk. -/
theorem xcat_apply (x : Vec Ideal S4096x128 .f32) (r : Fin 512) (d : Fin 1024) :
    xcat x (ix2 r d) = (x (ix2 ⟨8 * r.val + d.val / 128, by omega⟩ ⟨d.val % 128, by omega⟩) : EReal) := by
  have h (j : ℕ) (k : Fin 128) (hj : j < 8) (e : d.val = 128 * j + k.val) :
      xr x j (ix2 r k) = (x (ix2 ⟨8 * r.val + d.val / 128, by omega⟩ ⟨d.val % 128, by omega⟩) : EReal) := by
    refine congrArg x (congrArg₂ ix2 (Fin.ext ?_) (Fin.ext ?_))
    · show (j + 8 * r.val) % 4096 = 8 * r.val + d.val / 128
      omega
    · show k.val = d.val % 128
      omega
  unfold xcat
  pointwise [k0_pay7]
  repeat' split
  all_goals first
    | (refine h 0 _ (by decide) ?_; dsimp only; omega) | (refine h 1 _ (by decide) ?_; dsimp only; omega) | (refine h 2 _ (by decide) ?_; dsimp only; omega)
    | (refine h 3 _ (by decide) ?_; dsimp only; omega) | (refine h 4 _ (by decide) ?_; dsimp only; omega) | (refine h 5 _ (by decide) ?_; dsimp only; omega)
    | (refine h 6 _ (by decide) ?_; dsimp only; omega) | (refine h 7 _ (by decide) ?_; dsimp only; omega)

theorem pay24_apply (h : Vec Ideal S1x512x1024 .bf16) (w : Vec Ideal S1x1x1024x1024 .bf16) (b : Vec Ideal S1x1x1x1024 .f32) (r : Fin 512) (k : Fin 1024) :
    k0_pay24 (F := Ideal) h w b (ix2 r k) = ((∑ f : Fin 1024, h (ix3 0 r f) * w (ix4 0 0 f k)) + b (ix4 0 0 0 k) : EReal) := by
  pointwise [k0_pay24]

theorem pay44_apply (x : Vec Ideal S512x1024 .bf16) (w : Vec Ideal S1x1x1024x512 .bf16) (b : Vec Ideal S1x1x1x512 .f32) (r : Fin 512) (k : Fin 256) :
    k0_pay44 (F := Ideal) x w b (ix3 0 r k)
      = swi ((∑ d : Fin 1024, x (ix2 r d) * w (ix4 0 0 d ⟨256 * (k.val / 128) + k.val % 128, by omega⟩)) + b (ix4 0 0 0 ⟨256 * (k.val / 128) + k.val % 128, by omega⟩) : EReal)
        ((∑ d : Fin 1024, x (ix2 r d) * w (ix4 0 0 d ⟨256 * (k.val / 128) + 128 + k.val % 128, by omega⟩)) + b (ix4 0 0 0 ⟨256 * (k.val / 128) + 128 + k.val % 128, by omega⟩) : EReal) := by
  unfold swi
  rw [← zero_sub (Ideal.ofBits FTy.f32 1071242019#32 * _)]
  by_cases h : k.val < 128
  · have e1 : k.val / 128 = 0 := by omega
    have e2 : k.val % 128 = k.val := by omega
    pointwise [k0_pay44]
    simp only [dif_pos h, e1, e2, Nat.mul_zero, Nat.zero_add]
  · have e1 : k.val / 128 = 1 := by omega
    have e2 : k.val % 128 = k.val - 128 := by omega
    pointwise [k0_pay44]
    simp only [dif_neg h, e1, e2, Nat.mul_one]

theorem pay6_apply (i : S4096x128.Idx) : k0_pay6 (F := Ideal) i = (0 : EReal) := by
  obtain ⟨a, b, rfl⟩ : ∃ (a : Fin 4096) (b : Fin 128), i = ix2 a b := ⟨i 0, i 1, by funext a; fin_cases a <;> rfl⟩
  pointwise [k0_pay6]

/-- The hidden layer, from the blocks. -/
theorem hid_apply (x : Vec Ideal S4096x128 .f32) (w : Vec Ideal S1x1x1024x2048 .bf16) (b : Vec Ideal S1x1x1x2048 .f32) (r : Fin 512) (f : Fin 1024) :
    hid x w b (ix3 0 r f)
      = swi ((∑ d : Fin 1024, x (ix2 ⟨8 * r.val + d.val / 128, by omega⟩ ⟨d.val % 128, by omega⟩) * w (ix4 0 0 d (gc f))) + b (ix4 0 0 0 (gc f)) : EReal)
        ((∑ d : Fin 1024, x (ix2 ⟨8 * r.val + d.val / 128, by omega⟩ ⟨d.val % 128, by omega⟩) * w (ix4 0 0 d (lc f))) + b (ix4 0 0 0 (lc f)) : EReal) := by
  have eg : (512 * (f.val / 256) + (256 * (f.val % 256 / 128) + f.val % 256 % 128)) % 2048 = f.val / 128 * 256 + f.val % 128 := by omega
  have el : (512 * (f.val / 256) + (256 * (f.val % 256 / 128) + 128 + f.val % 256 % 128)) % 2048 = f.val / 128 * 256 + 128 + f.val % 128 := by omega
  refine (pay44_apply (xcat x) (wq w (f.val / 256)) (bq b (f.val / 256)) r ⟨f.val % 256, by omega⟩).trans ?_
  refine congrArg₂ swi ?_ ?_
  · refine congrArg₂ (· + · : EReal → EReal → EReal) (Finset.sum_congr rfl fun d _ => congrArg₂ (· * · : EReal → EReal → EReal) (xcat_apply x r d) ?_) ?_
    · exact congrArg w (congrArg (ix4 0 0 d) (Fin.ext eg))
    · exact congrArg b (congrArg (ix4 0 0 0) (Fin.ext eg))
  · refine congrArg₂ (· + · : EReal → EReal → EReal) (Finset.sum_congr rfl fun d _ => congrArg₂ (· * · : EReal → EReal → EReal) (xcat_apply x r d) ?_) ?_
    · exact congrArg w (congrArg (ix4 0 0 d) (Fin.ext el))
    · exact congrArg b (congrArg (ix4 0 0 0) (Fin.ext el))

/-- An output block, from the hidden layer. -/
theorem outB_apply (h : Vec Ideal S1x512x1024 .bf16) (w : Vec Ideal S1x1x1024x1024 .bf16) (b : Vec Ideal S1x1x1x1024 .f32) (r : Fin 4096) (l : Fin 128) :
    outB h w b (ix2 r l) = ((∑ f : Fin 1024, h (ix3 0 ⟨r.val / 8, by omega⟩ f) * w (ix4 0 0 f ⟨128 * (r.val % 8) + l.val, by omega⟩))
      + b (ix4 0 0 0 ⟨128 * (r.val % 8) + l.val, by omega⟩) : EReal) :=
  pay24_apply h w b ⟨r.val / 8, by omega⟩ ⟨128 * (r.val % 8) + l.val, by omega⟩

/-! ## What the windows find -/

variable (m : (ℓ : Loc nD τ sig) → Buf (Elt Ideal) ℓ)

/-- The arguments as launched. -/
def args (c : Dev nD) : Args where
  te := m (c, Proc.devRef .tc main_arg0)
  nr := m (c, Proc.devRef .tc main_arg1)
  xs := m (c, Proc.devRef .tc main_arg2)
  w1 := m (c, Proc.devRef .tc main_arg3)
  b1 := m (c, Proc.devRef .tc main_arg4)
  w2 := m (c, Proc.devRef .tc main_arg5)
  b2 := m (c, Proc.devRef .tc main_arg6)

theorem V2 (c : Dev nD) (e : Fin 32) (k : Fin 2048) : V m c main_v2 (ix4 0 e 0 k)
    = ((args m c).b1 (ix3 0 e ⟨k.val / 256 * 256 + k.val % 128 * 2 + k.val / 128 % 2, by omega⟩) : EReal) := by
  unfold V hostOps0
  after_reads_at
  rfl
theorem V3 (c : Dev nD) (r : Fin 671744) (l : Fin 128) : V m c main_v3 (ix2 r l)
    = ((args m c).xs (ix2 ⟨r.val / 8, by omega⟩ ⟨r.val % 8 * 128 + l.val, by omega⟩) : EReal) := by
  unfold V hostOps0
  after_reads_at
  rfl
theorem V4 (c : Dev nD) (e : Fin 32) (k : Fin 1024) : V m c main_v4 (ix4 0 e 0 k) = ((args m c).b2 (ix3 0 e k) : EReal) := by
  unfold V hostOps0
  after_reads_at
  rfl

variable {a : (pcfg0 (F := Ideal)).Adm}

theorem index0 (hr : Routed a.1) (t : Fin grid0.N) : ((cfg0 a).win 0).index t = ![min t.val ((nrW a.1).toNat - 1), 0] := by
  show cc0_transform_0 inb_S1_S1_0 numel1_S1 a.1 (grid0.coords t) = _
  rw [tr0_eq a.1 hr, coords_0]
theorem index1 (t : Fin grid0.N) : ((cfg0 a).win 1).index t = ![0, te a.1 (min t.val 163), 0, 0] := by
  show cc0_transform_1 k0_off1_inb numel1_S1 a.1 (grid0.coords t) = _
  rw [tr1_eq, coords_0]
theorem index2 (t : Fin grid0.N) : ((cfg0 a).win 2).index t = ![0, te a.1 (min t.val 163), 0, 0] := by
  show cc0_transform_2 k0_off1_inb numel1_S1 a.1 (grid0.coords t) = _
  rw [tr2_eq, coords_0]
theorem index3 (t : Fin grid0.N) : ((cfg0 a).win 3).index t = ![0, te a.1 (t.val - 1), 0, 0] := by
  show cc0_transform_3 k0_off2_inb numel1_S1 a.1 (grid0.coords t) = _
  rw [tr3_eq, coords_0]
theorem index4 (t : Fin grid0.N) : ((cfg0 a).win 4).index t = ![0, te a.1 (t.val - 1), 0, 0] := by
  show cc0_transform_4 k0_off2_inb numel1_S1 a.1 (grid0.coords t) = _
  rw [tr4_eq, coords_0]

theorem lt165 (t : Fin grid0.N) : t.val < 165 := Nat.lt_of_lt_of_eq t.isLt N_0

theorem emb0 (hr : Routed a.1) (t : Fin grid0.N) (ht : t.val < (nrW a.1).toNat) (r : Fin 4096) (l : Fin 128) :
    ((win0 a 0).blk t).view.emb (ix2 r l) = ix2 ⟨4096 * t.val + r.val, by have := hr.hi; omega⟩ l := by
  have e0 : (win0 a 0).index t (0 : Fin 2) = min t.val ((nrW a.1).toNat - 1) := congrFun (index0 hr t) (0 : Fin 2)
  have e1 : (win0 a 0).index t (1 : Fin 2) = 0 := congrFun (index0 hr t) (1 : Fin 2)
  have e2 : min t.val ((nrW a.1).toNat - 1) = t.val := by omega
  rw [e2] at e0
  blk_ext [e0, e1]
theorem emb1 (hr : Routed a.1) (t : Fin grid0.N) (d : Fin 1024) (k : Fin 2048) :
    ((win0 a 1).blk t).view.emb (ix4 0 0 d k) = ix4 0 ⟨te a.1 (min t.val 163), hr.te_lt _⟩ d k := by
  have e0 : (win0 a 1).index t (0 : Fin 4) = 0 := congrFun (index1 (a := a) t) (0 : Fin 4)
  have e1 : (win0 a 1).index t (1 : Fin 4) = te a.1 (min t.val 163) := congrFun (index1 (a := a) t) (1 : Fin 4)
  have e2 : (win0 a 1).index t (2 : Fin 4) = 0 := congrFun (index1 (a := a) t) (2 : Fin 4)
  have e3 : (win0 a 1).index t (3 : Fin 4) = 0 := congrFun (index1 (a := a) t) (3 : Fin 4)
  blk_ext [e0, e1, e2, e3]
theorem emb2 (hr : Routed a.1) (t : Fin grid0.N) (k : Fin 2048) :
    ((win0 a 2).blk t).view.emb (ix4 0 0 0 k) = ix4 0 ⟨te a.1 (min t.val 163), hr.te_lt _⟩ 0 k := by
  have e0 : (win0 a 2).index t (0 : Fin 4) = 0 := congrFun (index2 (a := a) t) (0 : Fin 4)
  have e1 : (win0 a 2).index t (1 : Fin 4) = te a.1 (min t.val 163) := congrFun (index2 (a := a) t) (1 : Fin 4)
  have e2 : (win0 a 2).index t (2 : Fin 4) = 0 := congrFun (index2 (a := a) t) (2 : Fin 4)
  have e3 : (win0 a 2).index t (3 : Fin 4) = 0 := congrFun (index2 (a := a) t) (3 : Fin 4)
  blk_ext [e0, e1, e2, e3]
theorem emb3 (hr : Routed a.1) (t : Fin grid0.N) (f : Fin 1024) (k : Fin 1024) :
    ((win0 a 3).blk t).view.emb (ix4 0 0 f k) = ix4 0 ⟨te a.1 (t.val - 1), hr.te_lt _⟩ f k := by
  have e0 : (win0 a 3).index t (0 : Fin 4) = 0 := congrFun (index3 (a := a) t) (0 : Fin 4)
  have e1 : (win0 a 3).index t (1 : Fin 4) = te a.1 (t.val - 1) := congrFun (index3 (a := a) t) (1 : Fin 4)
  have e2 : (win0 a 3).index t (2 : Fin 4) = 0 := congrFun (index3 (a := a) t) (2 : Fin 4)
  have e3 : (win0 a 3).index t (3 : Fin 4) = 0 := congrFun (index3 (a := a) t) (3 : Fin 4)
  blk_ext [e0, e1, e2, e3]
theorem emb4 (hr : Routed a.1) (t : Fin grid0.N) (k : Fin 1024) :
    ((win0 a 4).blk t).view.emb (ix4 0 0 0 k) = ix4 0 ⟨te a.1 (t.val - 1), hr.te_lt _⟩ 0 k := by
  have e0 : (win0 a 4).index t (0 : Fin 4) = 0 := congrFun (index4 (a := a) t) (0 : Fin 4)
  have e1 : (win0 a 4).index t (1 : Fin 4) = te a.1 (t.val - 1) := congrFun (index4 (a := a) t) (1 : Fin 4)
  have e2 : (win0 a 4).index t (2 : Fin 4) = 0 := congrFun (index4 (a := a) t) (2 : Fin 4)
  have e3 : (win0 a 4).index t (3 : Fin 4) = 0 := congrFun (index4 (a := a) t) (3 : Fin 4)
  blk_ext [e0, e1, e2, e3]
theorem emb5 (t : Fin grid0.N) (r : Fin 4096) (l : Fin 128) :
    ((win0 a 5).blk t).view.emb (ix2 r l) = ix2 ⟨4096 * (t.val - 1) + r.val, by have := lt165 t; omega⟩ l := by
  have e0 : (win0 a 5).index t (0 : Fin 2) = t.val - 1 := congrFun (index5 (a := a) t) (0 : Fin 2)
  have e1 : (win0 a 5).index t (1 : Fin 2) = 0 := congrFun (index5 (a := a) t) (1 : Fin 2)
  blk_ext [e0, e1]

/-! ## The blocks, over the arguments -/

section Blocks
variable (hr : Routed a.1) (hm : ∀ (c : Dev nD) (k : Fin 2), V m c (pre0.ref k) = a.1 k)
include hr hm

theorem te_ept (c : Dev nD) (k : ℕ) (hk : k < 164) : (⟨te a.1 k, hr.te_lt _⟩ : Fin 32) = ept (args m c) ⟨k, hk⟩ := by
  have h0 : (args m c).te = a.1 0 := (V_main_arg0 m c).symm.trans (hm c 0)
  have hmin : (⟨min k 163, by omega⟩ : Fin 164) = ⟨k, hk⟩ := Fin.ext (by show min k 163 = k; omega)
  refine Fin.ext ?_
  show (a.1 0 (ix1 ⟨min k 163, by omega⟩)).toNat = ((args m c).te (ix1 ⟨k, hk⟩)).toNat % 32
  rw [hmin, h0, Nat.mod_eq_of_lt (hr.te ⟨k, hk⟩)]
theorem nr_args (c : Dev nD) : ((args m c).nr (ix1 0)).toNat = (nrW a.1).toNat := by
  have h1 : (args m c).nr = a.1 1 := (V_main_arg1 m c).symm.trans (hm c 1)
  rw [h1]
  rfl

omit hm in
theorem b0_apply (c : Dev nD) (t : Fin grid0.N) (ht : t.val < (nrW a.1).toNat) (r : Fin 4096) (l : Fin 128) :
    b0 m a c t (ix2 r l) = ((args m c).xs (ix2 ⟨512 * t.val + r.val / 8, by have := hr.hi; omega⟩ ⟨r.val % 8 * 128 + l.val, by omega⟩) : EReal) := by
  refine (congrArg (V m c main_v3) (emb0 hr t ht r l)).trans ((V3 m c _ l).trans (congrArg (args m c).xs (congrArg₂ ix2 (Fin.ext ?_) (Fin.ext ?_))))
  · show (4096 * t.val + r.val) / 8 = 512 * t.val + r.val / 8
    omega
  · show (4096 * t.val + r.val) % 8 * 128 + l.val = r.val % 8 * 128 + l.val
    omega
theorem b1_apply (c : Dev nD) (t : Fin grid0.N) (ht : t.val < 164) (d : Fin 1024) (k : Fin 2048) :
    b1 m a c t (ix4 0 0 d k) = ((args m c).w1 (ix4 0 (ept (args m c) ⟨t.val, ht⟩) d k) : EReal) := by
  have hmin : min t.val 163 = t.val := by omega
  have e : (⟨te a.1 (min t.val 163), hr.te_lt _⟩ : Fin 32) = ept (args m c) ⟨t.val, ht⟩ := by
    simp only [hmin]
    exact te_ept m hr hm c t.val ht
  refine (congrArg (V m c main_arg3) (emb1 hr t d k)).trans ?_
  rw [e, V_main_arg3]
  rfl
theorem b2_apply (c : Dev nD) (t : Fin grid0.N) (ht : t.val < 164) (f : Fin 1024) :
    b2 m a c t (ix4 0 0 0 (gc f)) = ((args m c).b1 (ix3 0 (ept (args m c) ⟨t.val, ht⟩) ⟨f.val * 2, by omega⟩) : EReal)
      ∧ b2 m a c t (ix4 0 0 0 (lc f)) = ((args m c).b1 (ix3 0 (ept (args m c) ⟨t.val, ht⟩) ⟨f.val * 2 + 1, by omega⟩) : EReal) := by
  have hmin : min t.val 163 = t.val := by omega
  have e : (⟨te a.1 (min t.val 163), hr.te_lt _⟩ : Fin 32) = ept (args m c) ⟨t.val, ht⟩ := by
    simp only [hmin]
    exact te_ept m hr hm c t.val ht
  constructor
  · refine (congrArg (V m c main_v2) (emb2 hr t (gc f))).trans ?_
    rw [e]
    refine (V2 m c _ _).trans (congrArg (args m c).b1 (congrArg (ix3 0 _) (Fin.ext ?_)))
    show (f.val / 128 * 256 + f.val % 128) / 256 * 256 + (f.val / 128 * 256 + f.val % 128) % 128 * 2 + (f.val / 128 * 256 + f.val % 128) / 128 % 2 = f.val * 2
    omega
  · refine (congrArg (V m c main_v2) (emb2 hr t (lc f))).trans ?_
    rw [e]
    refine (V2 m c _ _).trans (congrArg (args m c).b1 (congrArg (ix3 0 _) (Fin.ext ?_)))
    show (f.val / 128 * 256 + 128 + f.val % 128) / 256 * 256 + (f.val / 128 * 256 + 128 + f.val % 128) % 128 * 2
      + (f.val / 128 * 256 + 128 + f.val % 128) / 128 % 2 = f.val * 2 + 1
    omega
theorem b3_apply (c : Dev nD) (t : Fin grid0.N) (ht : t.val - 1 < 164) (f : Fin 1024) (k : Fin 1024) :
    b3 m a c t (ix4 0 0 f k) = ((args m c).w2 (ix4 0 (ept (args m c) ⟨t.val - 1, ht⟩) f k) : EReal) := by
  refine (congrArg (V m c main_arg5) (emb3 hr t f k)).trans ?_
  rw [te_ept m hr hm c (t.val - 1) ht, V_main_arg5]
  rfl
theorem b4_apply (c : Dev nD) (t : Fin grid0.N) (ht : t.val - 1 < 164) (k : Fin 1024) :
    b4 m a c t (ix4 0 0 0 k) = ((args m c).b2 (ix3 0 (ept (args m c) ⟨t.val - 1, ht⟩) k) : EReal) := by
  refine (congrArg (V m c main_v4) (emb4 hr t k)).trans ?_
  rw [te_ept m hr hm c (t.val - 1) ht]
  exact V4 m c _ k

/-- The hidden layer of a tile in use. -/
theorem hidAt_apply (c : Dev nD) (n : ℕ) (h : n < grid0.N) (hn : n < (nrW a.1).toNat) (r : Fin 512) (f : Fin 1024) :
    hidAt m a c n h (ix3 0 r f) = act (args m c) ⟨512 * n + r.val, by have := hr.hi; omega⟩ (ept (args m c) ⟨n, by have := hr.hi; omega⟩) f := by
  have hn' : n < 164 := by have := hr.hi; omega
  have hx (d : Fin 1024) : b0 m a c ⟨n, h⟩ (ix2 ⟨8 * r.val + d.val / 128, by omega⟩ ⟨d.val % 128, by omega⟩)
      = ((args m c).xs (ix2 ⟨512 * n + r.val, by omega⟩ d) : EReal) := by
    refine (b0_apply m hr c ⟨n, h⟩ hn _ _).trans (congrArg (args m c).xs (congrArg₂ ix2 (Fin.ext ?_) (Fin.ext ?_)))
    · show 512 * n + (8 * r.val + d.val / 128) / 8 = 512 * n + r.val
      omega
    · show (8 * r.val + d.val / 128) % 8 * 128 + d.val % 128 = d.val
      omega
  refine (hid_apply _ _ _ r f).trans ?_
  unfold act
  refine congrArg₂ swi ?_ ?_
  · exact congrArg₂ (· + · : EReal → EReal → EReal) (Finset.sum_congr rfl fun d _ => congrArg₂ (· * · : EReal → EReal → EReal) (hx d) (b1_apply m hr hm c ⟨n, h⟩ hn' d _))
      (b2_apply m hr hm c ⟨n, h⟩ hn' f).1
  · exact congrArg₂ (· + · : EReal → EReal → EReal) (Finset.sum_congr rfl fun d _ => congrArg₂ (· * · : EReal → EReal → EReal) (hx d) (b1_apply m hr hm c ⟨n, h⟩ hn' d _))
      (b2_apply m hr hm c ⟨n, h⟩ hn' f).2

/-- The output array. -/
def outArr (c : Dev nD) : S671744x128.Idx → EReal := fun i =>
  out (args m c) ⟨(i 0).val / 8, by have h0 : (i 0).val < 671744 := (i 0).isLt; omega⟩
    ⟨(i 0).val % 8 * 128 + (i 1).val, by have h1 : (i 1).val < 128 := (i 1).isLt; omega⟩

/-- What a point writes back. -/
theorem outAt_apply (c : Dev nD) (t : Fin grid0.N) (hz : t.val ≠ 0) (r : Fin 4096) (l : Fin 128) :
    outAt m a c t (ix2 r l) = outArr m c (ix2 ⟨4096 * (t.val - 1) + r.val, by have := lt165 t; omega⟩ l) := by
  have h165 := lt165 t
  have hT : t.val - 1 < 164 := by omega
  have er : (⟨(4096 * (t.val - 1) + r.val) / 8, by omega⟩ : Fin 83968) = ⟨512 * (t.val - 1) + r.val / 8, by omega⟩ :=
    Fin.ext (by show (4096 * (t.val - 1) + r.val) / 8 = 512 * (t.val - 1) + r.val / 8; omega)
  have ek : (⟨(4096 * (t.val - 1) + r.val) % 8 * 128 + l.val, by omega⟩ : Fin 1024) = ⟨128 * (r.val % 8) + l.val, by omega⟩ :=
    Fin.ext (by show (4096 * (t.val - 1) + r.val) % 8 * 128 + l.val = 128 * (r.val % 8) + l.val; omega)
  have et : (⟨(512 * (t.val - 1) + r.val / 8) / 512, by omega⟩ : Fin 164) = ⟨t.val - 1, hT⟩ :=
    Fin.ext (by show (512 * (t.val - 1) + r.val / 8) / 512 = t.val - 1; omega)
  have en : (512 * (t.val - 1) + r.val / 8) / 512 = t.val - 1 := by omega
  show _ = out (args m c) ⟨(4096 * (t.val - 1) + r.val) / 8, by omega⟩ ⟨(4096 * (t.val - 1) + r.val) % 8 * 128 + l.val, by omega⟩
  rw [er, ek]
  unfold out outAt
  rw [nr_args m hr hm c, et]
  by_cases hn : t.val ≤ (nrW a.1).toNat
  · rw [if_pos hn, if_pos (by show (512 * (t.val - 1) + r.val / 8) / 512 < _; omega)]
    refine (outB_apply _ _ _ r l).trans ?_
    unfold ex
    exact congrArg₂ (· + · : EReal → EReal → EReal) (Finset.sum_congr rfl fun f _ => congrArg₂ (· * · : EReal → EReal → EReal)
      (hidAt_apply m hr hm c (t.val - 1) _ (by omega) _ f) (b3_apply m hr hm c t hT f _)) (b4_apply m hr hm c t hT _)
  · rw [if_neg hn, if_neg (by show ¬ (512 * (t.val - 1) + r.val / 8) / 512 < _; omega)]
    exact pay6_apply _

theorem block5 (c : Dev nD) (t : Fin grid0.N) (hz : t.val ≠ 0) (y : S4096x128.Idx) :
    outAt m a c t y = outArr m c (((win0 a 5).blk t).view.emb y) := by
  obtain ⟨r, l, rfl⟩ : ∃ (r : Fin 4096) (l : Fin 128), y = ix2 r l := ⟨y 0, y 1, by funext a; fin_cases a <;> rfl⟩
  exact (outAt_apply m hr hm c t hz r l).trans (congrArg (outArr m c) (emb5 t r l)).symm

omit hr hm in
theorem covers5 : ((cfg0 a).win 5).Covers := by
  refine ((cfg0 a).win 5).covers_of_index_surj rfl (show ∀ x : Fin 2, 0 < ![4096, 128] x by decide) fun β => ?_
  have h0 : (β (0 : Fin 2)).val < 164 := Nat.lt_of_lt_of_eq (β (0 : Fin 2)).isLt (show (671744 + 4096 - 1) / 4096 = 164 by norm_num)
  have h1 : (β (1 : Fin 2)).val < 1 := Nat.lt_of_lt_of_eq (β (1 : Fin 2)).isLt (show (128 + 128 - 1) / 128 = 1 by norm_num)
  have hN : grid0.N = 165 := N_0
  refine ⟨⟨(β (0 : Fin 2)).val + 1, by show _ < grid0.N; omega⟩, fun x => ?_⟩
  have e := index5 (a := a) ⟨(β (0 : Fin 2)).val + 1, by omega⟩
  obtain rfl | rfl : x = (0 : Fin 2) ∨ x = (1 : Fin 2) := (by decide : ∀ x : Fin 2, x = 0 ∨ x = 1) x
  · exact (congrFun e (0 : Fin 2)).trans (show (β (0 : Fin 2)).val + 1 - 1 = (β (0 : Fin 2)).val by omega)
  · exact (congrFun e (1 : Fin 2)).trans (show 0 = (β (1 : Fin 2)).val by omega)

theorem final5 (c : Dev nD) : (dats m a 0 c).arrAt 5 (cfg0 a).N = outArr m c := by
  refine (dats m a 0 c).arrAt_eq_of_covers 5 (outArr m c) covers5 fun t hf y => ?_
  blk_simp
  rw [after_5]
  refine block5 m hr hm c t (fun hz => ?_) y
  exact absurd (hf.symm.trans (flush5_zero t hz)) (by decide)

end Blocks

end Cert.Kernel2Ideal.Moe

end
-- ==== Proof.MoeRef.lean ====
/- The reference of the experts: its result, entry by entry, as the sums of `MoeSpec`. -/
module

public import proofs.«01_k».proof.Proof.Gen.Reference2Ideal.Run
public import proofs.«01_k».proof.Proof.MoeSpec

@[expose] public section

set_option maxRecDepth 16384

noncomputable section

namespace Cert.Reference2Ideal.Moe

open Idealize.ShloMosaic Idealize.ShloMosaic.TcCoe Idealize.ShloMosaic.Tactic
open Idealize.SL.Sem
open Cert.Reference2Ideal.Gen
open Cert.MoeSpec

variable (m : (ℓ : Loc nD τ sig) → Buf (Elt Ideal) ℓ)

/-- The arguments as launched. -/
def args (c : Dev nD) : Args where
  te := m (c, Proc.devRef .tc main_arg0)
  nr := m (c, Proc.devRef .tc main_arg1)
  xs := m (c, Proc.devRef .tc main_arg2)
  w1 := m (c, Proc.devRef .tc main_arg3)
  b1 := m (c, Proc.devRef .tc main_arg4)
  w2 := m (c, Proc.devRef .tc main_arg5)
  b2 := m (c, Proc.devRef .tc main_arg6)

theorem cast_rows (x : S83968x1024.Idx → EReal) (r : Fin 671744) (l : Fin 128) :
    shapeCast S671744x128 x shapeCasts_S83968x1024_S671744x128 (ix2 r l) = x (ix2 ⟨r.val / 8, by omega⟩ ⟨r.val % 8 * 128 + l.val, by omega⟩) := by
  pointwise

theorem sum_experts (x : S32x83968x1024.Idx → EReal) (r : Fin 83968) (k : Fin 1024) :
    Host.reduceAdd (F := Ideal) (φ := .f32) x (constant S_ FTy.f32 0#32) reducesTo_S32x83968x1024_S83968x1024_d0 h_S_ (ix2 r k) = ∑ e : Fin 32, x (ix3 e r k) := by
  pointwise

theorem half0 (w : S4x32x1024x2048.Idx → EReal) (e : Fin 32) (d : Fin 1024) (f : Fin 1024) :
    (shapeCast S32x1024x1024 (shapeCast S32x1024x8x128 (extractStridedSlice S32x1024x8x1x128 ![0, 0, 0, 0, 0] (shapeCast S32x1024x8x2x128
      (extf (F := Ideal) (φ := .bf16) FTy.f32 (shapeCast S32x1024x2048 (extractStridedSlice S1x32x1024x2048 ![0, 0, 0, 0] w slices_S4x32x1024x2048_S1x32x1024x2048_0_0_0_0)
        shapeCasts_S1x32x1024x2048_S32x1024x2048) bitsLt_bf16_f32) shapeCasts_S32x1024x2048_S32x1024x8x2x128)
      slices_S32x1024x8x2x128_S32x1024x8x1x128_0_0_0_0_0) shapeCasts_S32x1024x8x1x128_S32x1024x8x128) shapeCasts_S32x1024x8x128_S32x1024x1024) (ix3 e d f)
    = w (ix4 0 e d (gc f)) := by
  pointwise

theorem half1 (w : S4x32x1024x2048.Idx → EReal) (e : Fin 32) (d : Fin 1024) (f : Fin 1024) :
    (shapeCast S32x1024x1024 (shapeCast S32x1024x8x128 (extractStridedSlice S32x1024x8x1x128 ![0, 0, 0, 1, 0] (shapeCast S32x1024x8x2x128
      (extf (F := Ideal) (φ := .bf16) FTy.f32 (shapeCast S32x1024x2048 (extractStridedSlice S1x32x1024x2048 ![0, 0, 0, 0] w slices_S4x32x1024x2048_S1x32x1024x2048_0_0_0_0)
        shapeCasts_S1x32x1024x2048_S32x1024x2048) bitsLt_bf16_f32) shapeCasts_S32x1024x2048_S32x1024x8x2x128)
      slices_S32x1024x8x2x128_S32x1024x8x1x128_0_0_0_1_0) shapeCasts_S32x1024x8x1x128_S32x1024x8x128) shapeCasts_S32x1024x8x128_S32x1024x1024) (ix3 e d f)
    = w (ix4 0 e d (lc f)) := by
  pointwise

theorem prod1 (w : S32x1024x1024.Idx → EReal) (x : S83968x1024.Idx → EReal) (e : Fin 32) (r : Fin 83968) (f : Fin 1024) :
    (transpose S32x83968x1024 [0, 2, 1] (Host.dotGeneral (F := Ideal) (φ₁ := .f32) (φ₂ := .f32) dot_S32x1024x1024_S83968x1024_S32x1024x83968_1_1_02_0_n_n none w x)
      transposes_S32x1024x83968_S32x83968x1024_0_2_1) (ix3 e r f) = ∑ d : Fin 1024, w (ix3 e d f) * x (ix2 r d) := by
  pointwise

theorem bias0 (b : S4x32x2048.Idx → EReal) (e : Fin 32) (r : Fin 83968) (f : Fin 1024) :
    (broadcastInDim S32x83968x1024 ![0, 1, 2] bcast_S32x1x1024_S32x83968x1024_0_1_2 (shapeCast S32x1x1024 (extractStridedSlice S32x1x1024x1 ![0, 0, 0, 0]
      (shapeCast S32x1x1024x2 (shapeCast S32x2048 (extractStridedSlice S1x32x2048 ![0, 0, 0] b slices_S4x32x2048_S1x32x2048_0_0_0)
        shapeCasts_S1x32x2048_S32x2048) shapeCasts_S32x2048_S32x1x1024x2) slices_S32x1x1024x2_S32x1x1024x1_0_0_0_0) shapeCasts_S32x1x1024x1_S32x1x1024)) (ix3 e r f)
    = b (ix3 0 e ⟨f.val * 2, by omega⟩) := by
  pointwise

theorem bias1 (b : S4x32x2048.Idx → EReal) (e : Fin 32) (r : Fin 83968) (f : Fin 1024) :
    (broadcastInDim S32x83968x1024 ![0, 1, 2] bcast_S32x1x1024_S32x83968x1024_0_1_2 (shapeCast S32x1x1024 (extractStridedSlice S32x1x1024x1 ![0, 0, 0, 1]
      (shapeCast S32x1x1024x2 (shapeCast S32x2048 (extractStridedSlice S1x32x2048 ![0, 0, 0] b slices_S4x32x2048_S1x32x2048_0_0_0)
        shapeCasts_S1x32x2048_S32x2048) shapeCasts_S32x2048_S32x1x1024x2) slices_S32x1x1024x2_S32x1x1024x1_0_0_0_1) shapeCasts_S32x1x1024x1_S32x1x1024)) (ix3 e r f)
    = b (ix3 0 e ⟨f.val * 2 + 1, by omega⟩) := by
  pointwise

theorem gate (H L : S32x83968x1024.Idx → EReal) (e : Fin 32) (r : Fin 83968) (f : Fin 1024) :
    (mulf (F := Ideal) (φ := .f32) (mulf (minimumf H (broadcastInDim S32x83968x1024 ![] bcast_S_S32x83968x1024 (constant S_ .f32 0x40E00000#32))) (Host.divf (broadcastInDim S32x83968x1024 ![] bcast_S_S32x83968x1024 (constant S_ .f32 0x3F800000#32)) (addf (broadcastInDim S32x83968x1024 ![] bcast_S_S32x83968x1024 (constant S_ .f32 0x3F800000#32)) (Host.exp (Host.negf (mulf (broadcastInDim S32x83968x1024 ![] bcast_S_S32x83968x1024 (constant S_ .f32 0x3FD9DB23#32)) (minimumf H (broadcastInDim S32x83968x1024 ![] bcast_S_S32x83968x1024 (constant S_ .f32 0x40E00000#32))))))))) (addf (minimumf (broadcastInDim S32x83968x1024 ![] bcast_S_S32x83968x1024 (id (constant S_ .f32 0x40E00000#32))) (maximumf (broadcastInDim S32x83968x1024 ![] bcast_S_S32x83968x1024 (id (constant S_ .f32 0xC0E00000#32))) L)) (broadcastInDim S32x83968x1024 ![] bcast_S_S32x83968x1024 (constant S_ .f32 0x3F800000#32))))
      (ix3 e r f) = swi (H (ix3 e r f)) (L (ix3 e r f)) := by
  unfold swi
  pointwise
  try rfl

theorem prod2 (a : S32x83968x1024.Idx → EReal) (w : S4x32x1024x1024.Idx → EReal) (e : Fin 32) (r : Fin 83968) (k : Fin 1024) :
    Host.dotGeneral (F := Ideal) (φ₁ := .f32) (φ₂ := .f32) dot_S32x83968x1024_S32x1024x1024_S32x83968x1024_2_1_1_2_0_0 none a
      (extf (F := Ideal) (φ := .bf16) FTy.f32 (shapeCast S32x1024x1024 (extractStridedSlice S1x32x1024x1024 ![0, 0, 0, 0] w slices_S4x32x1024x1024_S1x32x1024x1024_0_0_0_0)
        shapeCasts_S1x32x1024x1024_S32x1024x1024) bitsLt_bf16_f32) (ix3 e r k) = ∑ f : Fin 1024, a (ix3 e r f) * w (ix4 0 e f k) := by
  pointwise

theorem bias2 (b : S4x32x1024.Idx → EReal) (e : Fin 32) (r : Fin 83968) (k : Fin 1024) :
    (broadcastInDim S32x83968x1024 ![0, 1, 2] bcast_S32x1x1024_S32x83968x1024_0_1_2 (broadcastInDim S32x1x1024 ![0, 2] bcast_S32x1024_S32x1x1024_0_2
      (shapeCast S32x1024 (extractStridedSlice S1x32x1024 ![0, 0, 0] b slices_S4x32x1024_S1x32x1024_0_0_0) shapeCasts_S1x32x1024_S32x1024))) (ix3 e r k)
    = b (ix3 0 e k) := by
  pointwise

theorem comb (te : S164.Idx → BitVec 32) (nr : S1.Idx → BitVec 32) (e : Fin 32) (r : Fin 83968) (k : Fin 1024) :
    (broadcastInDim S32x83968x1024 ![0, 1, 2] bcast_S32x83968x1_S32x83968x1024_0_1_2 (broadcastInDim S32x83968x1 ![0, 1] bcast_S32x83968_S32x83968x1_0_1 (transpose S32x83968 [1, 0] (shapeCast S83968x32 (broadcastInDim S164x512x32 ![0, 1, 2] bcast_S164x1x32_S164x512x32_0_1_2 (broadcastInDim S164x1x32 ![0, 2] bcast_S164x32_S164x1x32_0_2 (uitofp (F := Ideal) .f32 (andi (cmpi .eq (broadcastInDim S164x32 ![0, 1] bcast_S164x1_S164x32_0_1 (broadcastInDim S164x1 ![0] bcast_S164_S164x1_0 te)) (broadcastInDim S164x32 ![0, 1] bcast_S1x32_S164x32_0_1 (broadcastInDim S1x32 ![1] bcast_S32_S1x32_1 (iotaInDim S32 32 0)))) (broadcastInDim S164x32 ![0, 1] bcast_S164x1_S164x32_0_1 (cmpi .slt (broadcastInDim S164x1 ![0] bcast_S164_S164x1_0 (iotaInDim S164 32 0)) (broadcastInDim S164x1 ![0, 1] bcast_S1x1_S164x1_0_1 (broadcastInDim S1x1 ![1] bcast_S1_S1x1_1 nr)))))))) shapeCasts_S164x512x32_S83968x32) transposes_S83968x32_S32x83968_1_0))) (ix3 e r k)
    = FloatOps.uitofp (F := Ideal) FTy.f32
      (IntOp.andi (IntOp.cmpi CmpIPredicate.eq (te (ix1 ⟨r.val / 512, by omega⟩)) (BitVec.ofNat 32 e.val))
        (IntOp.cmpi CmpIPredicate.slt (BitVec.ofNat 32 (r.val / 512)) (nr (ix1 0)))) := by
  pointwise

/-- The weight of expert `e` for a tile: one for its own, if the tile is in use. -/
theorem weight (w n : BitVec 32) (e t : ℕ) (he : e < 32) (ht : t < 164) (hw : w.toNat < 32) (hn : n.toNat ≤ 164) :
    (FloatOps.uitofp (F := Ideal) FTy.f32 (IntOp.andi (IntOp.cmpi CmpIPredicate.eq w (BitVec.ofNat 32 e)) (IntOp.cmpi CmpIPredicate.slt (BitVec.ofNat 32 t) n)) : EReal)
      = if w.toNat = e ∧ t < n.toNat then 1 else 0 := by
  have h1 : IntOp.cmpi CmpIPredicate.eq w (BitVec.ofNat 32 e) = BitVec.ofBool (decide (w.toNat = e)) := by
    have : (w == BitVec.ofNat 32 e) = decide (w.toNat = e) := by
      rw [Bool.eq_iff_iff, beq_iff_eq, decide_eq_true_eq, ← BitVec.toNat_inj, BitVec.toNat_ofNat, Nat.mod_eq_of_lt (by omega)]
    exact congrArg BitVec.ofBool this
  have h2 : IntOp.cmpi CmpIPredicate.slt (BitVec.ofNat 32 t) n = BitVec.ofBool (decide (t < n.toNat)) := by
    have : (BitVec.ofNat 32 t).slt n = decide (t < n.toNat) := by
      unfold BitVec.slt
      rw [BitVec.toInt_eq_toNat_cond, BitVec.toInt_eq_toNat_cond, BitVec.toNat_ofNat, Nat.mod_eq_of_lt (by omega), if_pos (by omega), if_pos (by omega)]
      simp
    exact congrArg BitVec.ofBool this
  rw [h1, h2]
  by_cases a : w.toNat = e <;> by_cases b : t < n.toNat <;> simp [a, b, FloatOps.uitofp, IntOp.andi]

/-- Only the tile's own expert contributes. -/
theorem pick (w n : BitVec 32) (t : ℕ) (ht : t < 164) (hw : w.toNat < 32) (hn : n.toNat ≤ 164) (y : Fin 32 → EReal) :
    (∑ e : Fin 32, FloatOps.uitofp (F := Ideal) FTy.f32 (IntOp.andi (IntOp.cmpi CmpIPredicate.eq w (BitVec.ofNat 32 e.val)) (IntOp.cmpi CmpIPredicate.slt (BitVec.ofNat 32 t) n)) * y e : EReal)
      = if t < n.toNat then y ⟨w.toNat % 32, Nat.mod_lt _ (by decide)⟩ else 0 := by
  have hm : w.toNat % 32 = w.toNat := Nat.mod_eq_of_lt hw
  rw [Finset.sum_congr rfl fun e _ => congrArg (· * y e : EReal → EReal) (weight w n e.val t e.isLt ht hw hn)]
  rw [Finset.sum_eq_single (⟨w.toNat % 32, Nat.mod_lt _ (by decide)⟩ : Fin 32)]
  · by_cases b : t < n.toNat
    · rw [if_pos ⟨hm.symm, b⟩, if_pos b, one_mul]
    · rw [if_neg (fun h => b h.2), if_neg b, zero_mul]
  · intro e _ he
    rw [if_neg (fun h => he (Fin.ext (h.1.symm.trans hm.symm))), zero_mul]
  · exact fun h => absurd (Finset.mem_univ _) h

/-- One half of the hidden layer's first product, and its bias. -/
theorem lin_half (w : S32x1024x1024.Idx → EReal) (x : S83968x1024.Idx → EReal) (W : Fin 1024 → EReal) (e : Fin 32) (r : Fin 83968) (f : Fin 1024)
    (h : ∀ d : Fin 1024, w (ix3 e d f) = W d) : (∑ d : Fin 1024, w (ix3 e d f) * x (ix2 r d) : EReal) = ∑ d : Fin 1024, x (ix2 r d) * W d :=
  Finset.sum_congr rfl fun d _ => by rw [h d, mul_comm]

set_option maxHeartbeats 2000000 in
/-- The reference's result. -/
theorem out71 (c : Dev nD) (hw : ∀ t : Fin 164, ((args m c).te (ix1 t)).toNat < 32) (hn : ((args m c).nr (ix1 0)).toNat ≤ 164)
    (r : Fin 671744) (l : Fin 128) :
    Value.res_main_v71 m c (ix2 r l) = out (args m c) ⟨r.val / 8, by omega⟩ ⟨r.val % 8 * 128 + l.val, by omega⟩ := by
  unfold Value.res_main_v71
  refine (cast_rows _ r l).trans ((sum_experts _ _ _).trans ?_)
  refine Eq.trans (Finset.sum_congr rfl fun e _ => ?_)
    (pick ((args m c).te (ix1 ⟨r.val / 8 / 512, by omega⟩)) ((args m c).nr (ix1 0)) (r.val / 8 / 512) (by omega) (hw _) hn
      (fun e => ex (args m c) ⟨r.val / 8, by omega⟩ e ⟨r.val % 8 * 128 + l.val, by omega⟩))
  refine congrArg₂ (· * · : EReal → EReal → EReal) (comb _ _ e _ _) (congrArg₂ (· + · : EReal → EReal → EReal) ((prod2 _ _ e _ _).trans ?_) (bias2 _ e _ _))
  refine Finset.sum_congr rfl fun f _ => congrArg (· * _ : EReal → EReal) ((gate _ _ e _ f).trans ?_)
  refine congrArg₂ swi ?_ ?_
  · exact congrArg₂ (· + · : EReal → EReal → EReal) ((prod1 _ _ e _ f).trans (lin_half _ _ _ e _ f fun d => half0 _ e d f)) (bias0 _ e _ f)
  · exact congrArg₂ (· + · : EReal → EReal → EReal) ((prod1 _ _ e _ f).trans (lin_half _ _ _ e _ f fun d => half1 _ e d f)) (bias1 _ e _ f)

end Cert.Reference2Ideal.Moe
end
-- ==== Proof.PromptBody.lean ====
/- One grid point of the prompt's input projection: what the body leaves in its three output blocks, of what it found there and the
   blocks it is handed, and the triple that says so. -/
module

public import proofs.«01_k».proof.Proof.Gen.Kernel6Ideal.Skeleton
public import proofs.«01_k».proof.Proof.Gen.Kernel6Ideal.Launch
public import Idealize.ShloMosaic.Lib.Tactic
public import Idealize.ShloMosaic.Lib.VecWindow
public import Idealize.ShloMosaic.Lib.Pipeline.Value
public import Idealize.ShloMosaic.Lib.Pipeline.FrameBody
public import Idealize.ShloMosaic.Lib.Pointwise.Index

@[expose] public section

set_option maxRecDepth 16384

noncomputable section

namespace Cert.Kernel6Ideal.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal.Gen

variable {F : FTy → Type} [FloatOps F]

local notation "𝕄" => MT nD τ sig Unit (Elt F) ℕ (UR sig nD τ) ℕ

theorem off1_eq : ∀ i : grid0.Coords, k0_off1 i = ![(i 1).val, 0] := by decide +kernel

instance closedOff1 (i : grid0.Coords) : ClosedOff (k0_off1 i) := ⟨_, off1_eq i⟩

/-- A store of every eighth row of one plane, read back: the rows it wrote, and what was there before elsewhere. -/
theorem plane_step7 (v : View sig .tc .vmem S7x2048x128 .f32) (f : v.ty.Contents (Elt F)) (j b : ℕ) (hb : b < 8) (o : Fin 2 → ℕ) (ho : o = ![b, 0])
    (hin : ∀ a, (![j, 0, 0] : Fin 3 → ℕ) a + S1x2048x128.size a ≤ S7x2048x128.size a)
    (hi : ∀ a, S256x128.size a = 0 ∨ o a + (![8, 1] : Fin 2 → ℕ) a * (S256x128.size a - 1) < S2048x128.size a) (hs) (g0) (g1) (h₀)
    (hR : ((⟨(⟨o, S256x128.size, ![8, 1], hi⟩ : LoadRect S2048x128), hs⟩ : Rect S2048x128).consLift ![1, 2048, 128] g0 g1).shape.numel
      = (⟨(⟨o, S256x128.size, ![8, 1], hi⟩ : LoadRect S2048x128), hs⟩ : Rect S2048x128).shape.numel)
    (w : Vec F S256x128 .f32) (L : List (View.Piece (Elt F) S7x2048x128 .f32)) (y : S7x2048x128.Idx) :
    v.read (Elt F) (v.writes (Elt F) f
        ((⟨(Rect.unit (s := S7x2048x128) ![j, 0, 0] S1x2048x128.size hin).within
          ((⟨(⟨o, S256x128.size, ![8, 1], hi⟩ : LoadRect S2048x128), hs⟩ : Rect S2048x128).consLift ![1, 2048, 128] g0 g1) h₀,
          Rect.payAlong hR w⟩ : View.Piece (Elt F) S7x2048x128 .f32) :: L)) y
      = if (y 0).val = j ∧ (y 1).val % 8 = b then w (ix2 ⟨(y 1).val / 8, by have h0 : (y 1).val < 2048 := (y 1).isLt; omega⟩ ⟨(y 2).val, (y 2).isLt⟩)
        else v.read (Elt F) (v.writes (Elt F) f L) y := by
  subst ho
  have h1 : (y 1).val < 2048 := (y 1).isLt
  split
  · rename_i hm
    refine (View.read_writes_cons_hit_of_coords v f _ _ L
      (ix3 (⟨0, by decide⟩ : Fin 1) (⟨(y 1).val / 8, by omega⟩ : Fin 256) (⟨(y 2).val, (y 2).isLt⟩ : Fin 128)) y ?_).trans ?_
    · intro a; fin_cases a
      · show (y 0).val = (j + 0) + 1 * 0
        omega
      · show (y 1).val = (0 + b) + 8 * ((y 1).val / 8)
        omega
      · show (y 2).val = (0 + 0) + 1 * (y 2).val
        omega
    · refine Rect.payAlong_consLift _ _ g0 g1 w hR _ _ ?_
      intro a; fin_cases a <;> rfl
  · rename_i hm
    refine View.read_writes_cons_miss v f _ L y ?_
    intro hy
    obtain ⟨k0, hk0, e0⟩ := ((LoadRect.mem_set _).mp hy) 0
    obtain ⟨k, hk, e⟩ := ((LoadRect.mem_set _).mp hy) 1
    have e0' : (y 0).val = (j + 0) + 1 * k0 := e0
    have e' : (y 1).val = (0 + b) + 8 * k := e
    have hk0' : k0 < 1 := hk0
    omega

/-- A store of every eighth row of one plane, read back: the rows it wrote, and what was there before elsewhere. -/
theorem plane_step2 (v : View sig .tc .vmem S2x2048x128 .f32) (f : v.ty.Contents (Elt F)) (j b : ℕ) (hb : b < 8) (o : Fin 2 → ℕ) (ho : o = ![b, 0])
    (hin : ∀ a, (![j, 0, 0] : Fin 3 → ℕ) a + S1x2048x128.size a ≤ S2x2048x128.size a)
    (hi : ∀ a, S256x128.size a = 0 ∨ o a + (![8, 1] : Fin 2 → ℕ) a * (S256x128.size a - 1) < S2048x128.size a) (hs) (g0) (g1) (h₀)
    (hR : ((⟨(⟨o, S256x128.size, ![8, 1], hi⟩ : LoadRect S2048x128), hs⟩ : Rect S2048x128).consLift ![1, 2048, 128] g0 g1).shape.numel
      = (⟨(⟨o, S256x128.size, ![8, 1], hi⟩ : LoadRect S2048x128), hs⟩ : Rect S2048x128).shape.numel)
    (w : Vec F S256x128 .f32) (L : List (View.Piece (Elt F) S2x2048x128 .f32)) (y : S2x2048x128.Idx) :
    v.read (Elt F) (v.writes (Elt F) f
        ((⟨(Rect.unit (s := S2x2048x128) ![j, 0, 0] S1x2048x128.size hin).within
          ((⟨(⟨o, S256x128.size, ![8, 1], hi⟩ : LoadRect S2048x128), hs⟩ : Rect S2048x128).consLift ![1, 2048, 128] g0 g1) h₀,
          Rect.payAlong hR w⟩ : View.Piece (Elt F) S2x2048x128 .f32) :: L)) y
      = if (y 0).val = j ∧ (y 1).val % 8 = b then w (ix2 ⟨(y 1).val / 8, by have h0 : (y 1).val < 2048 := (y 1).isLt; omega⟩ ⟨(y 2).val, (y 2).isLt⟩)
        else v.read (Elt F) (v.writes (Elt F) f L) y := by
  subst ho
  have h1 : (y 1).val < 2048 := (y 1).isLt
  split
  · rename_i hm
    refine (View.read_writes_cons_hit_of_coords v f _ _ L
      (ix3 (⟨0, by decide⟩ : Fin 1) (⟨(y 1).val / 8, by omega⟩ : Fin 256) (⟨(y 2).val, (y 2).isLt⟩ : Fin 128)) y ?_).trans ?_
    · intro a; fin_cases a
      · show (y 0).val = (j + 0) + 1 * 0
        omega
      · show (y 1).val = (0 + b) + 8 * ((y 1).val / 8)
        omega
      · show (y 2).val = (0 + 0) + 1 * (y 2).val
        omega
    · refine Rect.payAlong_consLift _ _ g0 g1 w hR _ _ ?_
      intro a; fin_cases a <;> rfl
  · rename_i hm
    refine View.read_writes_cons_miss v f _ L y ?_
    intro hy
    obtain ⟨k0, hk0, e0⟩ := ((LoadRect.mem_set _).mp hy) 0
    obtain ⟨k, hk, e⟩ := ((LoadRect.mem_set _).mp hy) 1
    have e0' : (y 0).val = (j + 0) + 1 * k0 := e0
    have e' : (y 1).val = (0 + b) + 8 * k := e
    have hk0' : k0 < 1 := hk0
    omega

/-- The projected rows of a block. -/
def hB (x0 : Vec F S256x1024 .f32) (x1 : Vec F S1024x3072 .bf16) : FVec F S256x3072 .f32 := k0_pay6 x0 x1

/-- Row `8 r + b` of plane `j` takes column chunk `j` of row `r`, from column `o` on; the other rows are as found. -/
def rows7 (b : ℕ) (g : FVec F S256x3072 .f32) (y3 : Vec F S7x2048x128 .f32) : Vec F S7x2048x128 .f32 := fun y =>
  if (y 1).val % 8 = b then g (ix2 ⟨(y 1).val / 8, by have h0 : (y 1).val < 2048 := (y 1).isLt; omega⟩
    ⟨1920 + 128 * (y 0).val + (y 2).val, by have h0 : (y 0).val < 7 := (y 0).isLt; have h2 : (y 2).val < 128 := (y 2).isLt; omega⟩) else y3 y
def rows2 (b : ℕ) (g : FVec F S256x3072 .f32) (y4 : Vec F S2x2048x128 .f32) : Vec F S2x2048x128 .f32 := fun y =>
  if (y 1).val % 8 = b then g (ix2 ⟨(y 1).val / 8, by have h0 : (y 1).val < 2048 := (y 1).isLt; omega⟩
    ⟨2816 + 128 * (y 0).val + (y 2).val, by have h0 : (y 0).val < 2 := (y 0).isLt; have h2 : (y 2).val < 128 := (y 2).isLt; omega⟩) else y4 y

/-- A slice of 128 columns of a slice. -/
theorem slice7 (x0 : Vec F S256x1024 .f32) (x1 : Vec F S1024x3072 .bf16) (o : ℕ) (ho : o + 128 ≤ 896) (h) (x : S256x128.Idx) :
    extractStridedSlice S256x128 ![0, o] (k0_pay8 x0 x1) h x
      = hB x0 x1 (ix2 ⟨(x 0).val, (x 0).isLt⟩ ⟨1920 + o + (x 1).val, by have h1 : (x 1).val < 128 := (x 1).isLt; omega⟩) := by
  refine (extractStridedSlice_apply _ _ _ _ (ix2 ⟨(x 0).val, (x 0).isLt⟩ ⟨o + (x 1).val, by have h1 : (x 1).val < 128 := (x 1).isLt; omega⟩) ?_).trans ?_
  · intro a; fin_cases a
    · show (x 0).val = 0 + (x 0).val
      omega
    · rfl
  · refine extractStridedSlice_apply ![0, 1920] (k0_pay6 x0 x1) slices_S256x3072_o0_1920_S256x896 _ _ ?_
    intro a; fin_cases a
    · show (x 0).val = 0 + (x 0).val
      omega
    · show 1920 + o + (x 1).val = 1920 + (o + (x 1).val)
      omega
theorem slice2 (x0 : Vec F S256x1024 .f32) (x1 : Vec F S1024x3072 .bf16) (o : ℕ) (ho : o + 128 ≤ 256) (h) (x : S256x128.Idx) :
    extractStridedSlice S256x128 ![0, o] (k0_pay3 (k0_pay6 x0 x1)) h x
      = hB x0 x1 (ix2 ⟨(x 0).val, (x 0).isLt⟩ ⟨2816 + o + (x 1).val, by have h1 : (x 1).val < 128 := (x 1).isLt; omega⟩) := by
  refine (extractStridedSlice_apply _ _ _ _ (ix2 ⟨(x 0).val, (x 0).isLt⟩ ⟨o + (x 1).val, by have h1 : (x 1).val < 128 := (x 1).isLt; omega⟩) ?_).trans ?_
  · intro a; fin_cases a
    · show (x 0).val = 0 + (x 0).val
      omega
    · rfl
  · refine extractStridedSlice_apply ![0, 2816] (k0_pay6 x0 x1) slices_S256x3072_o0_2816_S256x256 _ _ ?_
    intro a; fin_cases a
    · show (x 0).val = 0 + (x 0).val
      omega
    · show 2816 + o + (x 1).val = 2816 + (o + (x 1).val)
      omega

/-- The first 1920 columns. -/
def outG (x0 : Vec F S256x1024 .f32) (x1 : Vec F S1024x3072 .bf16) : Vec F S256x1920 .f32 := k0_pay7 x0 x1

theorem outG_apply (x0 : Vec F S256x1024 .f32) (x1 : Vec F S1024x3072 .bf16) (r : Fin 256) (j : Fin 1920) :
    outG x0 x1 (ix2 r j) = hB x0 x1 (ix2 r ⟨j.val, by omega⟩) := by
  refine extractStridedSlice_apply ![0, 0] (k0_pay6 x0 x1) slices_S256x3072_o0_0_S256x1920 (ix2 r j) (ix2 r ⟨j.val, by omega⟩) ?_
  intro a; fin_cases a
  · show r.val = 0 + r.val
    omega
  · show j.val = 0 + j.val
    omega

set_option maxHeartbeats 2000000 in
set_option sl_exec.squeezeSlice true in
/-- The body's triple. -/
theorem body (c : Dev nD) (E : Set ℕ) (i : grid0.Coords)
    (arg2 : Memref sig .tc .vmem S256x1024 .f32) (harg2 : arg2.IsWhole) (arg3 : Memref sig .tc .vmem S1024x3072 .bf16) (harg3 : arg3.IsWhole)
    (arg4 : Memref sig .tc .vmem S256x1920 .f32) (harg4 : arg4.IsWhole) (arg5 : Memref sig .tc .vmem S7x2048x128 .f32) (harg5 : arg5.IsWhole)
    (arg6 : Memref sig .tc .vmem S2x2048x128 .f32) (harg6 : arg6.IsWhole)
    (x0 : Vec F S256x1024 .f32) (x1 : Vec F S1024x3072 .bf16) (y2 : Vec F S256x1920 .f32) (y3 : Vec F S7x2048x128 .f32) (y4 : Vec F S2x2048x128 .f32)
    (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare y4
        ∗ (iprop(owns (c : Thread nD τ) arg2 fullShare x0 ∗ owns (c : Thread nD τ) arg3 fullShare x1 ∗ owns (c : Thread nD τ) arg4 fullShare (outG x0 x1)
        ∗ owns (c : Thread nD τ) arg5 fullShare (rows7 (i 1).val (hB x0 x1) y3) ∗ owns (c : Thread nD τ) arg6 fullShare (rows2 (i 1).val (hB x0 x1) y4)) -∗ K ⟨⟩))
      ⊢ wp frame (wpE (defs₀ (F := F)) Variants.none c none) E (cc0_inproj_prompt i arg2 harg2 arg3 harg3 arg4 harg4 arg5 harg5 arg6 harg6) K := by
  simp only [cc0_inproj_prompt_eq_skeleton]; unfold cc0_inproj_prompt_skel
  unfold owns
  have hz : (![0, 0] : Fin 2 → ℕ) = fun _ => 0 := by funext a; fin_cases a <;> rfl
  have hb : (i 1).val < 8 := (i 1).isLt
  iintro ⟨⟨%f0, %hf0, H0⟩, ⟨%f1, %hf1, H1⟩, ⟨%f2, %hf2, H2⟩, ⟨%f3, %hf3, H3⟩, ⟨%f4, %hf4, H4⟩, Hk⟩
  subst hf0 hf1 hf3 hf4
  have e0 : View.readAt (Elt F) arg2.view (Rect.unit ![0, 0] S256x1024.size inb_S256x1024_S256x1024_0_0).toLoadRect f0
      = View.read (Elt F) arg2.view f0 := View.ld_unit_zero hz _ _
  have e1 : View.readAt (Elt F) arg3.view (Rect.unit ![0, 0] S1024x3072.size inb_S1024x3072_S1024x3072_0_0).toLoadRect f1
      = View.read (Elt F) arg3.view f1 := View.ld_unit_zero hz _ _
  sl_exec
  sl_step
  iapply Hk
  isplitl [H0]
  · iexists _; isplitr
    · ipureintro; rfl
    · iexact H0
  isplitl [H1]
  · iexists _; isplitr
    · ipureintro; rfl
    · iexact H1
  isplitl [H2]
  · iexists _; isplitr
    rotate_left
    · iexact H2
    · ipureintro
      rw [View.read_writes_eq_canon arg4.view f2 _ (fun y => View.cover_of_tiled [⟨_, _⟩] S256x1920.size (by rfl) y)]
      rw [View.canon_unit_zero hz]
      unfold outG
      rfl
  isplitl [H3]
  · iexists _; isplitr
    rotate_left
    · iexact H3
    · ipureintro
      funext y
      rw [plane_step7 _ _ 6 (i 1).val hb (k0_off1 i) (off1_eq i), plane_step7 _ _ 5 (i 1).val hb (k0_off1 i) (off1_eq i),
        plane_step7 _ _ 4 (i 1).val hb (k0_off1 i) (off1_eq i), plane_step7 _ _ 3 (i 1).val hb (k0_off1 i) (off1_eq i),
        plane_step7 _ _ 2 (i 1).val hb (k0_off1 i) (off1_eq i), plane_step7 _ _ 1 (i 1).val hb (k0_off1 i) (off1_eq i),
        plane_step7 _ _ 0 (i 1).val hb (k0_off1 i) (off1_eq i)]
      have h7 : (y 0).val < 7 := (y 0).isLt
      unfold rows7
      by_cases hm : (y 1).val % 8 = (i 1).val
      · rw [if_pos hm]
        rcases (by omega : (y 0).val = 6 ∨ (y 0).val = 5 ∨ (y 0).val = 4 ∨ (y 0).val = 3 ∨ (y 0).val = 2 ∨ (y 0).val = 1 ∨ (y 0).val = 0)
          with h0 | h0 | h0 | h0 | h0 | h0 | h0
        · rw [if_pos ⟨h0, hm⟩]
          refine (slice7 _ _ 768 (by decide) slices_S256x896_o0_768_S256x128 _).trans ?_
          exact congrArg (hB _ _) (congrArg (ix2 _) (Fin.ext (by
            show 1920 + 768 + (y 2).val = 1920 + 128 * (y 0).val + (y 2).val
            omega)))
        · rw [if_neg (by omega), if_pos ⟨h0, hm⟩]
          refine (slice7 _ _ 640 (by decide) slices_S256x896_o0_640_S256x128 _).trans ?_
          exact congrArg (hB _ _) (congrArg (ix2 _) (Fin.ext (by
            show 1920 + 640 + (y 2).val = 1920 + 128 * (y 0).val + (y 2).val
            omega)))
        · rw [if_neg (by omega), if_neg (by omega), if_pos ⟨h0, hm⟩]
          refine (slice7 _ _ 512 (by decide) slices_S256x896_o0_512_S256x128 _).trans ?_
          exact congrArg (hB _ _) (congrArg (ix2 _) (Fin.ext (by
            show 1920 + 512 + (y 2).val = 1920 + 128 * (y 0).val + (y 2).val
            omega)))
        · rw [if_neg (by omega), if_neg (by omega), if_neg (by omega), if_pos ⟨h0, hm⟩]
          refine (slice7 _ _ 384 (by decide) slices_S256x896_o0_384_S256x128 _).trans ?_
          exact congrArg (hB _ _) (congrArg (ix2 _) (Fin.ext (by
            show 1920 + 384 + (y 2).val = 1920 + 128 * (y 0).val + (y 2).val
            omega)))
        · rw [if_neg (by omega), if_neg (by omega), if_neg (by omega), if_neg (by omega), if_pos ⟨h0, hm⟩]
          refine (slice7 _ _ 256 (by decide) slices_S256x896_o0_256_S256x128 _).trans ?_
          exact congrArg (hB _ _) (congrArg (ix2 _) (Fin.ext (by
            show 1920 + 256 + (y 2).val = 1920 + 128 * (y 0).val + (y 2).val
            omega)))
        · rw [if_neg (by omega), if_neg (by omega), if_neg (by omega), if_neg (by omega), if_neg (by omega), if_pos ⟨h0, hm⟩]
          refine (slice7 _ _ 128 (by decide) slices_S256x896_o0_128_S256x128 _).trans ?_
          exact congrArg (hB _ _) (congrArg (ix2 _) (Fin.ext (by
            show 1920 + 128 + (y 2).val = 1920 + 128 * (y 0).val + (y 2).val
            omega)))
        · rw [if_neg (by omega), if_neg (by omega), if_neg (by omega), if_neg (by omega), if_neg (by omega), if_neg (by omega), if_pos ⟨h0, hm⟩]
          refine (slice7 _ _ 0 (by decide) slices_S256x896_o0_0_S256x128 _).trans ?_
          exact congrArg (hB _ _) (congrArg (ix2 _) (Fin.ext (by
            show 1920 + 0 + (y 2).val = 1920 + 128 * (y 0).val + (y 2).val
            omega)))
      · rw [if_neg hm]
        iterate 7 rw [if_neg (fun h => hm h.2)]
        rfl
  · iexists _; isplitr
    rotate_left
    · iexact H4
    · ipureintro
      funext y
      rw [plane_step2 _ _ 1 (i 1).val hb (k0_off1 i) (off1_eq i), plane_step2 _ _ 0 (i 1).val hb (k0_off1 i) (off1_eq i)]
      have h7 : (y 0).val < 2 := (y 0).isLt
      unfold rows2
      by_cases hm : (y 1).val % 8 = (i 1).val
      · rw [if_pos hm]
        rcases (by omega : (y 0).val = 1 ∨ (y 0).val = 0) with h0 | h0
        · rw [if_pos ⟨h0, hm⟩]
          refine (slice2 _ _ 128 (by decide) slices_S256x256_o0_128_S256x128 _).trans ?_
          exact congrArg (hB _ _) (congrArg (ix2 _) (Fin.ext (by
            show 2816 + 128 + (y 2).val = 2816 + 128 * (y 0).val + (y 2).val
            omega)))
        · rw [if_neg (by omega), if_pos ⟨h0, hm⟩]
          refine (slice2 _ _ 0 (by decide) slices_S256x256_o0_0_S256x128 _).trans ?_
          exact congrArg (hB _ _) (congrArg (ix2 _) (Fin.ext (by
            show 2816 + 0 + (y 2).val = 2816 + 128 * (y 0).val + (y 2).val
            omega)))
      · rw [if_neg hm]
        iterate 2 rw [if_neg (fun h => hm h.2)]
        rfl

end Cert.Kernel6Ideal.Prompt

end
-- ==== Proof.PromptRun.lean ====
/- The run of the prompt's input projection: the proof data, which relate what the body leaves in an output block to what it found
   there, the body's obligation at every point, and the launch. Over any float values; the frames of the kernel and of its ideal form
   are both read off it. -/
module

public import proofs.«01_k».proof.Proof.PromptBody
public import Idealize.ShloMosaic.Lib.Pipeline.ArrRel
public import Idealize.ShloMosaic.Lib.Claim

@[expose] public section

set_option maxRecDepth 16384

noncomputable section

namespace Cert.Kernel6Ideal.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
abbrev b0 (c : Dev nD) (t : Fin grid0.N) : Vec F S256x1024 .f32 := iblk m c 0 t
abbrev b1 (c : Dev nD) (t : Fin grid0.N) : Vec F S1024x3072 .bf16 := iblk m c 1 t

/-- What the body leaves in each block, of what it found there. -/
def rel (c : Dev nD) (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun _ X => X = outG (b0 m c t) (b1 m c t)
  | ⟨3, _⟩ => fun Y X => X = rows7 (grid0.coords t 1).val (hB (b0 m c t) (b1 m c t)) Y
  | ⟨4, _⟩ => fun Y X => X = rows2 (grid0.coords t 1).val (hB (b0 m c t) (b1 m c t)) Y

/-- The proof data on a core. -/
def rdat (c : Dev nD) : RDat τ (Elt F) Unit ℕ (UR sig nD τ) ℕ cfg0 c where
  A w := V m c (Pipeline.arrRef spec0 w)
  after := rel m c
  Φ _ := Pipeline.ΦA spec0 c
  q _ := fullShare
  owed _ := 0

theorem A_eq (c : Dev nD) (w : Fin cfg0.W) : (rdat m c).A w = V m c (Pipeline.arrRef spec0 w) := by
  dsimp only [rdat]

theorem finds_0 (c : Dev nD) (t : Fin cfg0.N) (Y) (h : (rdat m c).Finds 0 t Y) : Y = iblk m c 0 t := by
  obtain ⟨d, e⟩ := (rdat m c).finds_in_eq_fetched 0 rfl (fun _ _ _ => rfl) (fun _ _ _ h => h) t Y h
  exact e.trans (by unfold RDat.fetched RDat.blockOf iblk; rw [A_eq]; rfl)
theorem finds_1 (c : Dev nD) (t : Fin cfg0.N) (Y) (h : (rdat m c).Finds 1 t Y) : Y = iblk m c 1 t := by
  obtain ⟨d, e⟩ := (rdat m c).finds_in_eq_fetched 1 rfl (fun _ _ _ => rfl) (fun _ _ _ h => h) t Y h
  exact e.trans (by unfold RDat.fetched RDat.blockOf iblk; rw [A_eq]; rfl)

/-- The body at a point. -/
abbrev bodyAt (t : Fin cfg0.N) : Prog (TpuEff nD τ sig (Elt F) Λ₀ .tc) PUnit :=
  cc0_inproj_prompt (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))

theorem defs₀_row (t : Fin cfg0.N) :
    defs₀ (F := F) .tc cfg0.body (cfg0.bodyArgs t (cfg0.slots t)) = bodyAt t := by
  unfold defs₀; rw [Defs.onTc_tc]

set_option maxHeartbeats 1600000 in
theorem body_obligation (c : Dev nD) : (rdat m c).BodyObligation (defs₀ (F := F)) Variants.none () Set.univ := fun t Y hY => by
  have h0 := finds_0 m c t (Y 0) (hY 0)
  have h1 := finds_1 m c t (Y 1) (hY 1)
  rw [bigSep_W0, bigSep_W0, defs₀_row]
  unfold bodyAt
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply (body c Set.univ (grid0.coords t) _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists _; isplitr
    rotate_left
    · iexact H2
    · ipureintro
      show outG (Y 0) (Y 1) = outG (b0 m c t) (b1 m c t)
      rw [h0, h1]
  isplitl [H3]
  · iexists _; isplitr
    rotate_left
    · iexact H3
    · ipureintro
      show rows7 (grid0.coords t 1).val (hB (Y 0) (Y 1)) (Y 3) = rows7 (grid0.coords t 1).val (hB (b0 m c t) (b1 m c t)) (Y 3)
      rw [h0, h1]
  · iexists _; isplitr
    rotate_left
    · iexact H4
    · ipureintro
      show rows2 (grid0.coords t 1).val (hB (Y 0) (Y 1)) (Y 4) = rows2 (grid0.coords t 1).val (hB (b0 m c t) (b1 m c t)) (Y 4)
      rw [h0, h1]

theorem share_full (c : Dev nD) (w : Fin cfg0.W) : (rdat m c).share w = fullShare := by
  unfold RDat.share; split <;> rfl

set_option backward.isDefEq.respectTransparency.types false in
set_option maxHeartbeats 800000 in
/-- The launch, at any float values: every array at contents the proof data allow, every counter at zero. -/
theorem run_main : θ_run defs (onTc (τ := τ) (main (F := F))) (s₀ m ρ)
    (fun r => (RDat.FramePost cfg0 (rdat m) (V m)) r ∧ r.2.sem = fun _ => 0) :=
  Pipeline.RDat.θ_run_frame (Q' := _) cfgs (0 : Fin 1) launch0 defs₀ Variants.none (rdat m) m ρ main
    (hbody := body_obligation m) (hshare := share_full m) (howed := fun _ _ => rfl) (V := V m) (hmain := hmain m Variants.none)
    (hA := A_eq m) (hΦ := fun _ _ => rfl)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
    (RDat.FramePost.arr_in h.1 c 0 rfl).trans ((A_eq m c 0).trans (V_main_arg0 m c)),
    ((h.1 c).2 main_arg1 (Pipeline.mem_restRefs_of main_arg1 (by decide) (by decide))).trans (V_main_arg1 m c)⟩, h.2⟩) (run_main m ρ)

end Cert.Kernel6Ideal.Prompt

end
-- ==== Proof.PromptRef.lean ====
/- The prompt's input projection: what its three results hold, index by index, and the reference's run to them. -/
module

public import proofs.«01_k».proof.Proof.Rows
public import proofs.«01_k».proof.Proof.Gen.Reference6Ideal.Run
public import Idealize.ShloMosaic.Lib.Pointwise

@[expose] public section

set_option maxRecDepth 16384

noncomputable section

namespace Cert.PromptSpec

open Idealize.ShloMosaic
open Cert.RowsSpec

/-- The RWKV columns and the S5 columns of the order. -/
theorem lay_mid (z : EReal) (g : Fin 2960 → EReal) (j : Fin 3072) (h : 1920 ≤ j.val) (h' : j.val < 2816) : lay z g j = g ⟨j.val - 1920, by omega⟩ := by
  unfold lay
  rw [dif_neg (by omega), dif_neg (by omega), dif_neg (by omega), dif_neg (by omega), dif_neg (by omega), dif_neg (by omega), dif_neg (by omega),
    dif_pos (by omega)]
  exact congrArg g (Fin.ext (by simp only; omega))
theorem lay_last (z : EReal) (g : Fin 2960 → EReal) (j : Fin 3072) (h : 2816 ≤ j.val) : lay z g j = g ⟨2704 + (j.val - 2816), by omega⟩ := by
  unfold lay
  rw [dif_neg (by omega), dif_neg (by omega), dif_neg (by omega), dif_neg (by omega), dif_neg (by omega), dif_neg (by omega), dif_neg (by omega),
    dif_neg (by omega)]
  exact congrArg g (Fin.ext (by simp only; omega))

theorem lay_first (z : EReal) (g : Fin 2960 → EReal) (j : Fin 3072) (hj : j.val < 1920) : lay z g j =
    if h : j.val < 1024 then g ⟨896 + j.val, by omega⟩
    else if h : j.val - 1024 < 256 then g ⟨1920 + (256 + (j.val - 1024)), by omega⟩
    else if h : j.val - 1024 - 256 < 256 then g ⟨1920 + (528 + (j.val - 1024 - 256)), by omega⟩
    else if h : j.val - 1024 - 256 - 256 < 128 then g ⟨1920 + (j.val - 1024 - 256 - 256), by omega⟩
    else if h : j.val - 1024 - 256 - 256 - 128 < 128 then g ⟨1920 + (128 + (j.val - 1024 - 256 - 256 - 128)), by omega⟩
    else if h : j.val - 1024 - 256 - 256 - 128 - 128 < 16 then g ⟨1920 + (512 + (j.val - 1024 - 256 - 256 - 128 - 128)), by omega⟩
    else z := by
  unfold lay
  split_ifs <;> first | rfl | (exfalso; omega)

/-- Entry `(r, j)` of the prompt's projection, its columns in the call's order. -/
def proj (X : Shape.Idx ⟨2, ![16896, 1024]⟩ → EReal) (W : Shape.Idx ⟨3, ![4, 1024, 2960]⟩ → EReal) (r : Fin 16384) (j : Fin 3072) : EReal :=
  lay 0 (fun n => ∑ k : Fin 1024, X (ix2 ⟨r.val, by omega⟩ k) * W (ix3 0 k n)) j

/-- The first result: the first 1920 columns. -/
def arrG (X : Shape.Idx ⟨2, ![16896, 1024]⟩ → EReal) (W : Shape.Idx ⟨3, ![4, 1024, 2960]⟩ → EReal) : Shape.Idx ⟨2, ![16384, 1920]⟩ → EReal := fun i =>
  proj X W ⟨(i 0).val, (i 0).isLt⟩ ⟨(i 1).val, by have h1 : (i 1).val < 1920 := (i 1).isLt; omega⟩

theorem arrG_apply (X : Shape.Idx ⟨2, ![16896, 1024]⟩ → EReal) (W : Shape.Idx ⟨3, ![4, 1024, 2960]⟩ → EReal) (r : Fin 16384) (j : Fin 1920) :
    arrG X W (ix2 r j) =
    if h : j.val < 1024 then ∑ k : Fin 1024, X (ix2 ⟨r.val, by omega⟩ k) * W (ix3 0 k ⟨896 + j.val, by omega⟩)
    else if h : j.val - 1024 < 256 then ∑ k : Fin 1024, X (ix2 ⟨r.val, by omega⟩ k) * W (ix3 0 k ⟨1920 + (256 + (j.val - 1024)), by omega⟩)
    else if h : j.val - 1024 - 256 < 256 then ∑ k : Fin 1024, X (ix2 ⟨r.val, by omega⟩ k) * W (ix3 0 k ⟨1920 + (528 + (j.val - 1024 - 256)), by omega⟩)
    else if h : j.val - 1024 - 256 - 256 < 128 then
      ∑ k : Fin 1024, X (ix2 ⟨r.val, by omega⟩ k) * W (ix3 0 k ⟨1920 + (j.val - 1024 - 256 - 256), by omega⟩)
    else if h : j.val - 1024 - 256 - 256 - 128 < 128 then
      ∑ k : Fin 1024, X (ix2 ⟨r.val, by omega⟩ k) * W (ix3 0 k ⟨1920 + (128 + (j.val - 1024 - 256 - 256 - 128)), by omega⟩)
    else if h : j.val - 1024 - 256 - 256 - 128 - 128 < 16 then
      ∑ k : Fin 1024, X (ix2 ⟨r.val, by omega⟩ k) * W (ix3 0 k ⟨1920 + (512 + (j.val - 1024 - 256 - 256 - 128 - 128)), by omega⟩)
    else 0 :=
  lay_first 0 (fun n => ∑ k : Fin 1024, X (ix2 ⟨r.val, by omega⟩ k) * W (ix3 0 k n)) ⟨j.val, by omega⟩ j.isLt

/-- Planes of 128 columns from column `o` on, the rows of the eight sequences interleaved. -/
def arrP (o P : ℕ) (ho : o + 128 * P ≤ 3072) (X : Shape.Idx ⟨2, ![16896, 1024]⟩ → EReal) (W : Shape.Idx ⟨3, ![4, 1024, 2960]⟩ → EReal) :
    Shape.Idx ⟨3, ![P, 16384, 128]⟩ → EReal := fun i =>
  proj X W ⟨2048 * ((i 1).val % 8) + (i 1).val / 8, by have h1 : (i 1).val < 16384 := (i 1).isLt; omega⟩
    ⟨o + 128 * (i 0).val + (i 2).val, by have h0 : (i 0).val < P := (i 0).isLt; have h2 : (i 2).val < 128 := (i 2).isLt; omega⟩

theorem arrP_mid (X : Shape.Idx ⟨2, ![16896, 1024]⟩ → EReal) (W : Shape.Idx ⟨3, ![4, 1024, 2960]⟩ → EReal) (p : Fin 7) (r : Fin 16384) (l : Fin 128) :
    arrP 1920 7 (by decide) X W (ix3 p r l)
      = ∑ k : Fin 1024, X (ix2 ⟨2048 * (r.val % 8) + r.val / 8, by omega⟩ k) * W (ix3 0 k ⟨128 * p.val + l.val, by omega⟩) := by
  refine (lay_mid 0 (fun n => ∑ k : Fin 1024, X (ix2 ⟨2048 * (r.val % 8) + r.val / 8, by omega⟩ k) * W (ix3 0 k n))
    ⟨1920 + 128 * p.val + l.val, by omega⟩ (by show 1920 ≤ 1920 + 128 * p.val + l.val; omega)
    (by show 1920 + 128 * p.val + l.val < 2816; omega)).trans ?_
  refine congrArg (fun n => ∑ k : Fin 1024, X (ix2 ⟨2048 * (r.val % 8) + r.val / 8, by omega⟩ k) * W (ix3 0 k n)) (Fin.ext ?_)
  show 1920 + 128 * p.val + l.val - 1920 = 128 * p.val + l.val
  omega
theorem arrP_last (X : Shape.Idx ⟨2, ![16896, 1024]⟩ → EReal) (W : Shape.Idx ⟨3, ![4, 1024, 2960]⟩ → EReal) (p : Fin 2) (r : Fin 16384) (l : Fin 128) :
    arrP 2816 2 (by decide) X W (ix3 p r l)
      = ∑ k : Fin 1024, X (ix2 ⟨2048 * (r.val % 8) + r.val / 8, by omega⟩ k) * W (ix3 0 k ⟨2704 + (128 * p.val + l.val), by omega⟩) := by
  refine (lay_last 0 (fun n => ∑ k : Fin 1024, X (ix2 ⟨2048 * (r.val % 8) + r.val / 8, by omega⟩ k) * W (ix3 0 k n))
    ⟨2816 + 128 * p.val + l.val, by omega⟩ (by show 2816 ≤ 2816 + 128 * p.val + l.val; omega)).trans ?_
  refine congrArg (fun n => ∑ k : Fin 1024, X (ix2 ⟨2048 * (r.val % 8) + r.val / 8, by omega⟩ k) * W (ix3 0 k n)) (Fin.ext ?_)
  show 2704 + (2816 + 128 * p.val + l.val - 2816) = 2704 + (128 * p.val + l.val)
  omega

end Cert.PromptSpec

namespace Cert.Reference6Ideal.Prompt

open Idealize.ShloMosaic Idealize.ShloMosaic.TcCoe Idealize.ShloMosaic.Tactic
open Idealize.SL.Sem
open Cert.RowsSpec Cert.PromptSpec

variable (m : (ℓ : Loc nD τ sig) → Buf (Elt Ideal) ℓ) (ρ : Dev nD → PrngReg)

/-- The rows and the weights as launched. -/
def X (c : Dev nD) : S16896x1024.Idx → EReal := m (c, Proc.devRef .tc main_arg0)
def W (c : Dev nD) : S4x1024x2960.Idx → EReal := m (c, Proc.devRef .tc main_arg1)

set_option maxHeartbeats 1000000 in
theorem run_values : θ_run defs (onTc (τ := τ) (main (F := Ideal))) ⟨m, fun _ => 0, ρ⟩ fun r => ∀ c : Dev nD,
      r.2.mem ((c.tc : Thread nD τ).loc main_v14) = arrG (X m c) (W m c)
      ∧ r.2.mem ((c.tc : Thread nD τ).loc main_v17) = arrP 1920 7 (by decide) (X m c) (W m c)
      ∧ r.2.mem ((c.tc : Thread nD τ).loc main_v20) = arrP 2816 2 (by decide) (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r' h c => ⟨(h c).1.trans (funext fun i => ?_), (h c).2.1.trans (funext fun i => ?_),
    (h c).2.2.1.trans (funext fun i => ?_), (h c).2.2.2⟩) (Value.run (F := Ideal) m ρ)
  · obtain ⟨r, j, rfl⟩ : ∃ (r : Fin 16384) (j : Fin 1920), i = ix2 r j := ⟨i 0, i 1, by funext a; fin_cases a <;> rfl⟩
    clear h
    pointwise
    refine Eq.trans ?_ (arrG_apply (X m c) (W m c) r j).symm
    rfl
  · obtain ⟨p, r, l, rfl⟩ : ∃ (p : Fin 7) (r : Fin 16384) (l : Fin 128), i = ix3 p r l := ⟨i 0, i 1, i 2, by funext a; fin_cases a <;> rfl⟩
    clear h
    refine Eq.trans ?_ (arrP_mid (X m c) (W m c) p r l).symm
    pointwise
    refine Finset.sum_congr rfl fun k _ => congrArg₂ (· * · : EReal → EReal → EReal) ?_ ?_
    · refine congrArg (fun a => X m c (ix2 a k)) (Fin.ext ?_)
      show r.val % 8 * 2048 + r.val / 8 = 2048 * (r.val % 8) + r.val / 8
      omega
    · refine congrArg (fun a => W m c (ix3 0 k a)) (Fin.ext ?_)
      show p.val * 128 + l.val = 128 * p.val + l.val
      omega
  · obtain ⟨p, r, l, rfl⟩ : ∃ (p : Fin 2) (r : Fin 16384) (l : Fin 128), i = ix3 p r l := ⟨i 0, i 1, i 2, by funext a; fin_cases a <;> rfl⟩
    clear h
    refine Eq.trans ?_ (arrP_last (X m c) (W m c) p r l).symm
    pointwise
    refine Finset.sum_congr rfl fun k _ => congrArg₂ (· * · : EReal → EReal → EReal) ?_ ?_
    · refine congrArg (fun a => X m c (ix2 a k)) (Fin.ext ?_)
      show r.val % 8 * 2048 + r.val / 8 = 2048 * (r.val % 8) + r.val / 8
      omega
    · refine congrArg (fun a => W m c (ix3 0 k a)) (Fin.ext ?_)
      show 2704 + (p.val * 128 + l.val) = 2704 + (128 * p.val + l.val)
      omega

end Cert.Reference6Ideal.Prompt

end
-- ==== Proof.Prompt.lean ====
/- The prompt's input projection: the call's three results after its run. -/
module

public import proofs.«01_k».proof.Proof.PromptRun
public import proofs.«01_k».proof.Proof.PromptRef
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.Kernel6Ideal.Prompt

open Idealize.ShloMosaic Idealize.ShloMosaic.TcCoe Idealize.ShloMosaic.Tactic
open Idealize.SL.Sem
open Idealize.ShloMosaic.Pipeline (Dat RDat)
open Cert.Kernel6Ideal.Gen
open Cert.RowsSpec Cert.PromptSpec

variable (m : (ℓ : Loc nD τ sig) → Buf (Elt Ideal) ℓ)

/-- The rows and the weights as launched. -/
def X (c : Dev nD) : S16896x1024.Idx → EReal := m (c, Proc.devRef .tc main_arg0)
def W (c : Dev nD) : S4x1024x2960.Idx → EReal := m (c, Proc.devRef .tc main_arg1)

set_option maxHeartbeats 1000000 in
theorem V13 (c : Dev nD) (k : Fin 1024) (j : Fin 3072) :
    V m c main_v13 (ix2 k j) = (lay 0 (fun n => W m c (ix3 0 k n)) j : EReal) := by
  unfold V hostOps0
  after_reads_at
  repeat after_reads_at
  rfl

theorem hB_apply (x0 : Vec Ideal S256x1024 .f32) (x1 : Vec Ideal S1024x3072 .bf16) (r : Fin 256) (j : Fin 3072) :
    hB x0 x1 (ix2 r j) = (∑ k : Fin 1024, x0 (ix2 r k) * x1 (ix2 k j) : EReal) := by
  unfold hB
  pointwise [k0_pay6]

theorem index0 : ∀ t : Fin grid0.N, win0_0.index t = ![t.val % 8 * 8 + t.val / 8, 0] := by decide +kernel
theorem index1 : ∀ t : Fin grid0.N, win0_1.index t = ![0, 0] := by decide +kernel
theorem index2 : ∀ t : Fin grid0.N, win0_2.index t = ![t.val % 8 * 8 + t.val / 8, 0] := by decide +kernel
theorem index3 : ∀ t : Fin grid0.N, win0_3.index t = ![0, t.val / 8, 0] := by decide +kernel
theorem index4 : ∀ t : Fin grid0.N, win0_4.index t = ![0, t.val / 8, 0] := by decide +kernel
theorem coords1 : ∀ t : Fin grid0.N, (grid0.coords t 1).val = t.val % 8 := by decide +kernel
theorem flush3 : ∀ t : Fin grid0.N, win0_3.flush t = true ↔ t.val % 8 = 7 := by decide +kernel
theorem flush4 : ∀ t : Fin grid0.N, win0_4.flush t = true ↔ t.val % 8 = 7 := by decide +kernel
theorem fetch3 : ∀ t : Fin grid0.N, win0_3.fetch t = false := by decide +kernel
theorem fetch4 : ∀ t : Fin grid0.N, win0_4.fetch t = false := by decide +kernel

theorem lt64 (t : Fin grid0.N) : t.val < 64 := Nat.lt_of_lt_of_eq t.isLt N_0

theorem emb0 (t : Fin grid0.N) (r : Fin 256) (k : Fin 1024) :
    (win0_0.blk t).view.emb (ix2 r k) = ix2 ⟨2048 * (t.val % 8) + 256 * (t.val / 8) + r.val, by have := lt64 t; omega⟩ k := by
  have e0 : win0_0.index t (0 : Fin 2) = t.val % 8 * 8 + t.val / 8 := congrFun (index0 t) (0 : Fin 2)
  have e1 : win0_0.index t (1 : Fin 2) = 0 := congrFun (index0 t) (1 : Fin 2)
  blk_ext [e0, e1]
theorem emb1 (t : Fin grid0.N) (k : Fin 1024) (j : Fin 3072) : (win0_1.blk t).view.emb (ix2 k j) = ix2 k j := by
  have e0 : win0_1.index t (0 : Fin 2) = 0 := congrFun (index1 t) (0 : Fin 2)
  have e1 : win0_1.index t (1 : Fin 2) = 0 := congrFun (index1 t) (1 : Fin 2)
  blk_ext [e0, e1]
theorem emb2 (t : Fin grid0.N) (r : Fin 256) (j : Fin 1920) :
    (win0_2.blk t).view.emb (ix2 r j) = ix2 ⟨2048 * (t.val % 8) + 256 * (t.val / 8) + r.val, by have := lt64 t; omega⟩ j := by
  have e0 : win0_2.index t (0 : Fin 2) = t.val % 8 * 8 + t.val / 8 := congrFun (index2 t) (0 : Fin 2)
  have e1 : win0_2.index t (1 : Fin 2) = 0 := congrFun (index2 t) (1 : Fin 2)
  blk_ext [e0, e1]
theorem emb3 (t : Fin grid0.N) (p : Fin 7) (r : Fin 2048) (l : Fin 128) :
    (win0_3.blk t).view.emb (ix3 p r l) = ix3 p ⟨2048 * (t.val / 8) + r.val, by have := lt64 t; omega⟩ l := by
  have e0 : win0_3.index t (0 : Fin 3) = 0 := congrFun (index3 t) (0 : Fin 3)
  have e1 : win0_3.index t (1 : Fin 3) = t.val / 8 := congrFun (index3 t) (1 : Fin 3)
  have e2 : win0_3.index t (2 : Fin 3) = 0 := congrFun (index3 t) (2 : Fin 3)
  blk_ext [e0, e1, e2]
theorem emb4 (t : Fin grid0.N) (p : Fin 2) (r : Fin 2048) (l : Fin 128) :
    (win0_4.blk t).view.emb (ix3 p r l) = ix3 p ⟨2048 * (t.val / 8) + r.val, by have := lt64 t; omega⟩ l := by
  have e0 : win0_4.index t (0 : Fin 3) = 0 := congrFun (index4 t) (0 : Fin 3)
  have e1 : win0_4.index t (1 : Fin 3) = t.val / 8 := congrFun (index4 t) (1 : Fin 3)
  have e2 : win0_4.index t (2 : Fin 3) = 0 := congrFun (index4 t) (2 : Fin 3)
  blk_ext [e0, e1, e2]

theorem block (c : Dev nD) (t : Fin grid0.N) (r : Fin 256) (j : Fin 3072) : hB (b0 m c t) (b1 m c t) (ix2 r j)
    = proj (X m c) (W m c) ⟨2048 * (t.val % 8) + 256 * (t.val / 8) + r.val, by have := lt64 t; omega⟩ j := by
  refine (hB_apply _ _ r j).trans (Eq.trans (Finset.sum_congr rfl fun k _ => ?_) (sum_lay _ _ j))
  refine congrArg₂ (· * · : EReal → EReal → EReal) ?_ ?_
  · exact (congrArg (V m c main_arg0) (emb0 t r k)).trans (congrFun (V_main_arg0 m c) _)
  · exact (congrArg (V m c main_v13) (emb1 t k j)).trans (V13 m c k j)

/-- What a block of planes holds in the rows written so far. -/
theorem leaves3 (c : Dev nD) : ∀ (n : ℕ) (hn : n < grid0.N) (Z : Vec Ideal S7x2048x128 .f32), (rdat m c).Leaves 3 ⟨n, hn⟩ Z →
    ∀ y : S7x2048x128.Idx, (y 1).val % 8 ≤ n % 8 → Z y = arrP 1920 7 (by decide) (X m c) (W m c)
      (ix3 (y 0) ⟨2048 * (n / 8) + (y 1).val, by have h2 : n < 64 := lt64 ⟨n, hn⟩; have h1 : (y 1).val < 2048 := (y 1).isLt; omega⟩ (y 2)) := by
  intro n
  induction n using Nat.strong_induction_on with
  | _ n ih =>
  intro hn Z hZ y hy
  have h2 : n < 64 := lt64 ⟨n, hn⟩
  have h1 : (y 1).val < 2048 := (y 1).isLt
  obtain ⟨Y, hY, hR⟩ := hZ
  have hR' : Z = rows7 (grid0.coords ⟨n, hn⟩ 1).val (hB (b0 m c ⟨n, hn⟩) (b1 m c ⟨n, hn⟩)) Y := hR
  rw [hR', coords1]
  unfold rows7
  by_cases hb : (y 1).val % 8 = n % 8
  · rw [if_pos hb]
    refine (block m c ⟨n, hn⟩ _ _).trans ?_
    refine congrArg₂ (proj (X m c) (W m c)) (Fin.ext ?_) (Fin.ext ?_)
    · show 2048 * (n % 8) + 256 * (n / 8) + (y 1).val / 8 = 2048 * ((2048 * (n / 8) + (y 1).val) % 8) + (2048 * (n / 8) + (y 1).val) / 8
      omega
    · rfl
  · rw [if_neg hb]
    have hp : n ≠ 0 := fun h => by omega
    rcases ((rdat m c).finds_of_pos (show (cfg0.win 3).fetch ⟨n, hn⟩ = false from fetch3 ⟨n, hn⟩) hp Y).mp hY with hf | hl
    · have hf' := (flush3 ⟨n - 1, by omega⟩).mp hf
      simp only at hf'
      omega
    · refine (ih (n - 1) (by omega) (by omega) Y hl y (by omega)).trans ?_
      refine congrArg (arrP 1920 7 _ (X m c) (W m c)) (congrArg (fun r => ix3 (y 0) r (y 2)) (Fin.ext ?_))
      show 2048 * ((n - 1) / 8) + (y 1).val = 2048 * (n / 8) + (y 1).val
      omega

theorem covers3 : (cfg0.win 3).Covers := by
  refine (cfg0.win 3).covers_of_index_surj rfl (show ∀ x : Fin 3, 0 < ![7, 2048, 128] x by decide) fun β => ?_
  have h0 : (β (0 : Fin 3)).val < 1 := Nat.lt_of_lt_of_eq (β (0 : Fin 3)).isLt (show (7 + 7 - 1) / 7 = 1 by norm_num)
  have h1 : (β (1 : Fin 3)).val < 8 := Nat.lt_of_lt_of_eq (β (1 : Fin 3)).isLt (show (16384 + 2048 - 1) / 2048 = 8 by norm_num)
  have h2 : (β (2 : Fin 3)).val < 1 := Nat.lt_of_lt_of_eq (β (2 : Fin 3)).isLt (show (128 + 128 - 1) / 128 = 1 by norm_num)
  have hN : grid0.N = 64 := N_0
  refine ⟨⟨8 * (β (1 : Fin 3)).val, by show _ < grid0.N; omega⟩, fun x => ?_⟩
  have e := index3 ⟨8 * (β (1 : Fin 3)).val, by omega⟩
  obtain rfl | rfl | rfl : x = (0 : Fin 3) ∨ x = (1 : Fin 3) ∨ x = (2 : Fin 3) := (by decide : ∀ x : Fin 3, x = 0 ∨ x = 1 ∨ x = 2) x
  · exact (congrFun e (0 : Fin 3)).trans (show 0 = (β (0 : Fin 3)).val by omega)
  · exact (congrFun e (1 : Fin 3)).trans (show 8 * (β (1 : Fin 3)).val / 8 = (β (1 : Fin 3)).val by omega)
  · exact (congrFun e (2 : Fin 3)).trans (show 0 = (β (2 : Fin 3)).val by omega)

theorem final3 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 3 cfg0.N = arrP 1920 7 (by decide) (X m c) (W m c) := by
  refine ((rdat m c).withAfter after).arrAt_eq_of_covers 3 (arrP 1920 7 (by decide) (X m c) (W m c)) covers3 fun t hf y => ?_
  have h7 := (flush3 t).mp hf
  blk_simp
  rw [RDat.withAfter_after]
  obtain ⟨p, r, l, rfl⟩ : ∃ (p : Fin 7) (r : Fin 2048) (l : Fin 128), y = ix3 p r l := ⟨y 0, y 1, y 2, by funext a; fin_cases a <;> rfl⟩
  refine (leaves3 m c t.val t.isLt (after 3 t) (hL 3 t hf) (ix3 p r l) (by omega)).trans ?_
  exact (congrArg (arrP 1920 7 (by decide) (X m c) (W m c)) (emb3 t p r l)).symm

/-- What a block of planes holds in the rows written so far. -/
theorem leaves4 (c : Dev nD) : ∀ (n : ℕ) (hn : n < grid0.N) (Z : Vec Ideal S2x2048x128 .f32), (rdat m c).Leaves 4 ⟨n, hn⟩ Z →
    ∀ y : S2x2048x128.Idx, (y 1).val % 8 ≤ n % 8 → Z y = arrP 2816 2 (by decide) (X m c) (W m c)
      (ix3 (y 0) ⟨2048 * (n / 8) + (y 1).val, by have h2 : n < 64 := lt64 ⟨n, hn⟩; have h1 : (y 1).val < 2048 := (y 1).isLt; omega⟩ (y 2)) := by
  intro n
  induction n using Nat.strong_induction_on with
  | _ n ih =>
  intro hn Z hZ y hy
  have h2 : n < 64 := lt64 ⟨n, hn⟩
  have h1 : (y 1).val < 2048 := (y 1).isLt
  obtain ⟨Y, hY, hR⟩ := hZ
  have hR' : Z = rows2 (grid0.coords ⟨n, hn⟩ 1).val (hB (b0 m c ⟨n, hn⟩) (b1 m c ⟨n, hn⟩)) Y := hR
  rw [hR', coords1]
  unfold rows2
  by_cases hb : (y 1).val % 8 = n % 8
  · rw [if_pos hb]
    refine (block m c ⟨n, hn⟩ _ _).trans ?_
    refine congrArg₂ (proj (X m c) (W m c)) (Fin.ext ?_) (Fin.ext ?_)
    · show 2048 * (n % 8) + 256 * (n / 8) + (y 1).val / 8 = 2048 * ((2048 * (n / 8) + (y 1).val) % 8) + (2048 * (n / 8) + (y 1).val) / 8
      omega
    · rfl
  · rw [if_neg hb]
    have hp : n ≠ 0 := fun h => by omega
    rcases ((rdat m c).finds_of_pos (show (cfg0.win 4).fetch ⟨n, hn⟩ = false from fetch4 ⟨n, hn⟩) hp Y).mp hY with hf | hl
    · have hf' := (flush4 ⟨n - 1, by omega⟩).mp hf
      simp only at hf'
      omega
    · refine (ih (n - 1) (by omega) (by omega) Y hl y (by omega)).trans ?_
      refine congrArg (arrP 2816 2 _ (X m c) (W m c)) (congrArg (fun r => ix3 (y 0) r (y 2)) (Fin.ext ?_))
      show 2048 * ((n - 1) / 8) + (y 1).val = 2048 * (n / 8) + (y 1).val
      omega

theorem covers4 : (cfg0.win 4).Covers := by
  refine (cfg0.win 4).covers_of_index_surj rfl (show ∀ x : Fin 3, 0 < ![2, 2048, 128] x by decide) fun β => ?_
  have h0 : (β (0 : Fin 3)).val < 1 := Nat.lt_of_lt_of_eq (β (0 : Fin 3)).isLt (show (2 + 2 - 1) / 2 = 1 by norm_num)
  have h1 : (β (1 : Fin 3)).val < 8 := Nat.lt_of_lt_of_eq (β (1 : Fin 3)).isLt (show (16384 + 2048 - 1) / 2048 = 8 by norm_num)
  have h2 : (β (2 : Fin 3)).val < 1 := Nat.lt_of_lt_of_eq (β (2 : Fin 3)).isLt (show (128 + 128 - 1) / 128 = 1 by norm_num)
  have hN : grid0.N = 64 := N_0
  refine ⟨⟨8 * (β (1 : Fin 3)).val, by show _ < grid0.N; omega⟩, fun x => ?_⟩
  have e := index4 ⟨8 * (β (1 : Fin 3)).val, by omega⟩
  obtain rfl | rfl | rfl : x = (0 : Fin 3) ∨ x = (1 : Fin 3) ∨ x = (2 : Fin 3) := (by decide : ∀ x : Fin 3, x = 0 ∨ x = 1 ∨ x = 2) x
  · exact (congrFun e (0 : Fin 3)).trans (show 0 = (β (0 : Fin 3)).val by omega)
  · exact (congrFun e (1 : Fin 3)).trans (show 8 * (β (1 : Fin 3)).val / 8 = (β (1 : Fin 3)).val by omega)
  · exact (congrFun e (2 : Fin 3)).trans (show 0 = (β (2 : Fin 3)).val by omega)

theorem final4 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 4 cfg0.N = arrP 2816 2 (by decide) (X m c) (W m c) := by
  refine ((rdat m c).withAfter after).arrAt_eq_of_covers 4 (arrP 2816 2 (by decide) (X m c) (W m c)) covers4 fun t hf y => ?_
  have h7 := (flush4 t).mp hf
  blk_simp
  rw [RDat.withAfter_after]
  obtain ⟨p, r, l, rfl⟩ : ∃ (p : Fin 2) (r : Fin 2048) (l : Fin 128), y = ix3 p r l := ⟨y 0, y 1, y 2, by funext a; fin_cases a <;> rfl⟩
  refine (leaves4 m c t.val t.isLt (after 4 t) (hL 4 t hf) (ix3 p r l) (by omega)).trans ?_
  exact (congrArg (arrP 2816 2 (by decide) (X m c) (W m c)) (emb4 t p r l)).symm

theorem leaves2 (c : Dev nD) (t : Fin cfg0.N) (Z : Vec Ideal S256x1920 .f32) (h : (rdat m c).Leaves 2 t Z) :
    Z = outG (b0 m c t) (b1 m c t) := by
  obtain ⟨Y, hY, hR⟩ := h
  exact hR

theorem covers2 : (cfg0.win 2).Covers := by
  refine (cfg0.win 2).covers_of_index_surj rfl (show ∀ x : Fin 2, 0 < ![256, 1920] x by decide) fun β => ?_
  have h0 : (β (0 : Fin 2)).val < 64 := Nat.lt_of_lt_of_eq (β (0 : Fin 2)).isLt (show (16384 + 256 - 1) / 256 = 64 by norm_num)
  have h1 : (β (1 : Fin 2)).val < 1 := Nat.lt_of_lt_of_eq (β (1 : Fin 2)).isLt (show (1920 + 1920 - 1) / 1920 = 1 by norm_num)
  have hN : grid0.N = 64 := N_0
  refine ⟨⟨8 * ((β (0 : Fin 2)).val % 8) + (β (0 : Fin 2)).val / 8, by show _ < grid0.N; omega⟩, fun x => ?_⟩
  have e := index2 ⟨8 * ((β (0 : Fin 2)).val % 8) + (β (0 : Fin 2)).val / 8, by omega⟩
  obtain rfl | rfl : x = (0 : Fin 2) ∨ x = (1 : Fin 2) := (by decide : ∀ x : Fin 2, x = 0 ∨ x = 1) x
  · refine (congrFun e (0 : Fin 2)).trans ?_
    show (8 * ((β (0 : Fin 2)).val % 8) + (β (0 : Fin 2)).val / 8) % 8 * 8 + (8 * ((β (0 : Fin 2)).val % 8) + (β (0 : Fin 2)).val / 8) / 8 = (β (0 : Fin 2)).val
    omega
  · exact (congrFun e (1 : Fin 2)).trans (show 0 = (β (1 : Fin 2)).val by omega)

theorem final2 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 2 cfg0.N = arrG (X m c) (W m c) := by
  refine ((rdat m c).withAfter after).arrAt_eq_of_covers 2 (arrG (X m c) (W m c)) covers2 fun t hf y => ?_
  blk_simp
  rw [RDat.withAfter_after]
  obtain ⟨r, j, rfl⟩ : ∃ (r : Fin 256) (j : Fin 1920), y = ix2 r j := ⟨y 0, y 1, by funext a; fin_cases a <;> rfl⟩
  refine (congrFun (leaves2 m c t (after 2 t) (hL 2 t hf)) (ix2 r j)).trans ?_
  refine ((outG_apply _ _ r j).trans (block m c t r ⟨j.val, by omega⟩)).trans ?_
  exact (congrArg (arrG (X m c) (W m c)) (emb2 t r j)).symm

/-- The launch's results. -/
theorem run_values (ρ : Dev nD → PrngReg) : θ_run defs (onTc (τ := τ) (main (F := Ideal))) ⟨m, fun _ => 0, ρ⟩ fun r => ∀ c : Dev nD,
      r.2.mem ((c.tc : Thread nD τ).loc main_v14_0) = arrG (X m c) (W m c)
      ∧ r.2.mem ((c.tc : Thread nD τ).loc main_v14_1) = arrP 1920 7 (by decide) (X m c) (W m c)
      ∧ r.2.mem ((c.tc : Thread nD τ).loc main_v14_2) = arrP 2816 2 (by decide) (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  obtain ⟨after, hL, hA⟩ := RDat.FramePost.exists_exact h.1 c
  exact ⟨(hA 2).trans (final2 m c after hL), (hA 3).trans (final3 m c after hL), (hA 4).trans (final4 m c after hL),
    (RDat.FramePost.arr_in h.1 c 0 rfl).trans ((A_eq m c 0).trans (V_main_arg0 m c)),
    ((h.1 c).2 main_arg1 (Pipeline.mem_restRefs_of main_arg1 (by decide) (by decide))).trans (V_main_arg1 m c)⟩

end Cert.Kernel6Ideal.Prompt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_routed
public import proofs.«01_k».proof.Proof.S5Run
public import proofs.«01_k».proof.Proof.S5Kernel
public import proofs.«01_k».proof.Proof.S5Ref
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal.Run
public import proofs.«01_k».proof.Proof.Disc
public import proofs.«01_k».proof.Proof.Prep
public import proofs.«01_k».proof.Proof.Rows
public import proofs.«01_k».proof.Proof.MoePre
public import proofs.«01_k».proof.Proof.MoeKernel
public import proofs.«01_k».proof.Proof.MoeRef
public import proofs.«01_k».proof.Proof.Prompt
public import Idealize.ShloMosaic.Adequacy
public import Idealize.ShloMosaic.Init

@[expose] public section

noncomputable section

namespace Cert.Proof

open Idealize.ShloMosaic Idealize.SL.Sem Cert.Kernel

set_option maxHeartbeats 4000000 in
/-- The kernel's frame: the run, at bit patterns. -/
theorem frame_kernel : Cert.quiescent_Kernel := fun m ρ _ =>
  Eq.mp (by sl_kernel_rfl) (Cert.KernelIdeal.S5.frame (F := Bits) m ρ)

theorem frame_ideal : Cert.quiescent_KernelIdeal := fun m ρ _ => Cert.KernelIdeal.S5.frame (F := Ideal) m ρ

/-- The reference's frame: its run, and it has no semaphore. -/
theorem frame_reference : Cert.quiescent_ReferenceIdeal := fun m ρ _ =>
  (θ_run Cert.ReferenceIdeal.defs _ _).mono (fun _ h => ⟨fun c => (h c).2.2, Idealize.ShloMosaic.sem_eq_zero_of_no_sems (by decide) _⟩)
    (Cert.ReferenceIdeal.Value.run (F := Ideal) m ρ)

/-- The kernel's two results after its run, and its arguments. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v57_0) = Cert.KernelIdeal.S5.outArr m c
        ∧ r.2.mem ((c.tc : Thread Cert.KernelIdeal.nD Cert.KernelIdeal.τ).loc Cert.KernelIdeal.main_v57_1) = Cert.KernelIdeal.S5.lastArr m c) :=
  (θ_run Cert.KernelIdeal.defs _ _).mono (fun _ h c => ⟨((h.1 c).1 7).trans (Cert.KernelIdeal.S5.final7 m c), ((h.1 c).1 8).trans (Cert.KernelIdeal.S5.final8 m c)⟩)
    (Cert.KernelIdeal.S5.run_main (F := Ideal) m g)

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (Cert.ReferenceIdeal.S5.args m' c).u = (Cert.KernelIdeal.S5.args m c).u)
    (h1 : (Cert.ReferenceIdeal.S5.args m' c).xr = (Cert.KernelIdeal.S5.args m c).xr)
    (h2 : (Cert.ReferenceIdeal.S5.args m' c).xi = (Cert.KernelIdeal.S5.args m c).xi)
    (h3 : (Cert.ReferenceIdeal.S5.args m' c).ar = (Cert.KernelIdeal.S5.args m c).ar)
    (h4 : (Cert.ReferenceIdeal.S5.args m' c).ai = (Cert.KernelIdeal.S5.args m c).ai)
    (h5 : (Cert.ReferenceIdeal.S5.args m' c).br = (Cert.KernelIdeal.S5.args m c).br)
    (h6 : (Cert.ReferenceIdeal.S5.args m' c).bi = (Cert.KernelIdeal.S5.args m c).bi)
    (h7 : (Cert.ReferenceIdeal.S5.args m' c).cr = (Cert.KernelIdeal.S5.args m c).cr)
    (h8 : (Cert.ReferenceIdeal.S5.args m' c).ci = (Cert.KernelIdeal.S5.args m c).ci)
    (h9 : (Cert.ReferenceIdeal.S5.args m' c).d = (Cert.KernelIdeal.S5.args m c).d)
    (h10 : (Cert.ReferenceIdeal.S5.args m' c).w = (Cert.KernelIdeal.S5.args m c).w) :
    Cert.ReferenceIdeal.S5.args m' c = Cert.KernelIdeal.S5.args m c := by
  generalize Cert.ReferenceIdeal.S5.args m' c = A at *
  generalize Cert.KernelIdeal.S5.args m c = B at *
  cases A
  cases B
  simp only at h0 h1 h2 h3 h4 h5 h6 h7 h8 h9 h10
  subst h0 h1 h2 h3 h4 h5 h6 h7 h8 h9 h10
  rfl

theorem ref_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hA : Cert.ReferenceIdeal.S5.args m' c = Cert.KernelIdeal.S5.args m c) (i : Cert.KernelIdeal.S1x2x16384x128.Idx) :
    Cert.ReferenceIdeal.Value.out_main_v46 (F := Ideal) (Cert.ReferenceIdeal.Value.STEP^[2048] (StableHlo.entryContents Cert.ReferenceIdeal.Value.preI m' c)) i
      = Cert.KernelIdeal.S5.outArr m c i := by
  obtain ⟨a, s, r, l, rfl⟩ : ∃ (a : Fin 1) (s : Fin 2) (r : Fin 16384) (l : Fin 128), i = ix4 a s r l :=
    ⟨i 0, i 1, i 2, i 3, by funext a; fin_cases a <;> rfl⟩
  obtain rfl : a = 0 := Subsingleton.elim _ _
  refine (Cert.ReferenceIdeal.S5.out46 m' c s r l).trans ?_
  rw [hA]
  rfl

theorem ref_last (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hA : Cert.ReferenceIdeal.S5.args m' c = Cert.KernelIdeal.S5.args m c) (i : Cert.KernelIdeal.S1x8x2048.Idx) :
    Cert.ReferenceIdeal.Value.out_main_v49 (F := Ideal) (Cert.ReferenceIdeal.Value.STEP^[2048] (StableHlo.entryContents Cert.ReferenceIdeal.Value.preI m' c)) i
      = Cert.KernelIdeal.S5.lastArr m c i := by
  obtain ⟨a, b, k, rfl⟩ : ∃ (a : Fin 1) (b : Fin 8) (k : Fin 2048), i = ix3 a b k :=
    ⟨i 0, i 1, i 2, by funext a; fin_cases a <;> rfl⟩
  obtain rfl : a = 0 := Subsingleton.elim _ _
  refine (Cert.ReferenceIdeal.S5.out49 m' c b k).trans ?_
  rw [hA]
  rfl

set_option maxHeartbeats 4000000 in
theorem algebraic : Cert.algebraic_KernelIdeal_ReferenceIdeal := fun m g m' g' _ hargs => by
  refine ⟨Cert.KernelIdeal.S5.outArr m, Cert.KernelIdeal.S5.lastArr m, ?_, ?_⟩
  · refine (θ_run Cert.KernelIdeal.defs _ _).mono (fun r h c => ?_) (θ_run_and (run_kernel m g) (Cert.KernelIdeal.S5.frame (F := Ideal) m g))
    exact ⟨(h.1 c).1, (h.1 c).2, h.2.1 c⟩
  · refine (θ_run Cert.ReferenceIdeal.defs _ _).mono (fun r h c => ?_) (Cert.ReferenceIdeal.Value.run (F := Ideal) m' g')
    obtain ⟨a0, a1, a2, a3, a4, a5, a6, a7, a8, a9, a10⟩ := hargs c
    have hA := args_eq m m' c a0 a1 a2 a3 a4 a5 a6 a7 a8 a9 a10
    exact ⟨(h c).1.trans (funext fun i => ref_out m m' c hA i), (h c).2.1.trans (funext fun i => ref_last m m' c hA i), (h c).2.2⟩

/-! ## The experts -/

/-- The experts' reference's frame, with and without the precondition. -/
theorem frame_reference2 : Cert.quiescent_Reference2Ideal := fun m ρ _ =>
  (θ_run Cert.Reference2Ideal.defs _ _).mono (fun _ h => ⟨fun c => (h c).2, Idealize.ShloMosaic.sem_eq_zero_of_no_sems (by decide) _⟩)
    (Cert.Reference2Ideal.Value.run (F := Ideal) m ρ)
theorem frame_reference2_pre : Cert.quiescent_Reference2Ideal_pre_routed := fun m ρ _ =>
  (θ_run Cert.Reference2Ideal.defs _ _).mono (fun _ h => ⟨fun c => (h c).2, Idealize.ShloMosaic.sem_eq_zero_of_no_sems (by decide) _⟩)
    (Cert.Reference2Ideal.Value.run (F := Ideal) m ρ)

/-- The experts kernel's result after its run. -/
theorem run_kernel2 (m : (ℓ : Loc Cert.Kernel2Ideal.nD Cert.Kernel2Ideal.τ Cert.Kernel2Ideal.sig) → Buf (Elt Ideal) ℓ) (g : Dev Cert.Kernel2Ideal.nD → PrngReg)
    (h : Cert.Kernel2Ideal.Moe.Pre m) :
    θ_run (Cert.Kernel2Ideal.defs (F := Ideal)) (onTc (τ := Cert.Kernel2Ideal.τ) (Cert.Kernel2Ideal.main (F := Ideal))) ⟨m, fun _ => 0, g⟩
      (fun r => ∀ c : Dev Cert.Kernel2Ideal.nD,
        r.2.mem ((c.tc : Thread Cert.Kernel2Ideal.nD Cert.Kernel2Ideal.τ).loc Cert.Kernel2Ideal.main_v5) = Cert.Kernel2Ideal.Moe.outArr m c) :=
  (θ_run Cert.Kernel2Ideal.defs _ _).mono
    (fun _ h' c => ((h'.1 c).1 5).trans (Cert.Kernel2Ideal.Moe.final5 m (a := Cert.Kernel2Ideal.Moe.tabA m h)
      (Cert.Kernel2Ideal.Moe.routed_of_pre m h) (Cert.Kernel2Ideal.Moe.tab_all m) c))
    (Cert.Kernel2Ideal.Moe.run_main (F := Ideal) m g (a := Cert.Kernel2Ideal.Moe.tabA m h)
      (Cert.Kernel2Ideal.Moe.routed_of_pre m h) (Cert.Kernel2Ideal.Moe.tab_all m))

theorem args2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : (Cert.Reference2Ideal.Moe.args m' c).te = (Cert.Kernel2Ideal.Moe.args m c).te)
    (h1 : (Cert.Reference2Ideal.Moe.args m' c).nr = (Cert.Kernel2Ideal.Moe.args m c).nr)
    (h2 : (Cert.Reference2Ideal.Moe.args m' c).xs = (Cert.Kernel2Ideal.Moe.args m c).xs)
    (h3 : (Cert.Reference2Ideal.Moe.args m' c).w1 = (Cert.Kernel2Ideal.Moe.args m c).w1)
    (h4 : (Cert.Reference2Ideal.Moe.args m' c).b1 = (Cert.Kernel2Ideal.Moe.args m c).b1)
    (h5 : (Cert.Reference2Ideal.Moe.args m' c).w2 = (Cert.Kernel2Ideal.Moe.args m c).w2)
    (h6 : (Cert.Reference2Ideal.Moe.args m' c).b2 = (Cert.Kernel2Ideal.Moe.args m c).b2) :
    Cert.Reference2Ideal.Moe.args m' c = Cert.Kernel2Ideal.Moe.args m c := by
  generalize Cert.Reference2Ideal.Moe.args m' c = A at *
  generalize Cert.Kernel2Ideal.Moe.args m c = B at *
  cases A
  cases B
  simp only at h0 h1 h2 h3 h4 h5 h6
  subst h0 h1 h2 h3 h4 h5 h6
  rfl

theorem ref2_out (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hA : Cert.Reference2Ideal.Moe.args m' c = Cert.Kernel2Ideal.Moe.args m c)
    (hw : ∀ t : Fin 164, ((Cert.Kernel2Ideal.Moe.args m c).te (ix1 t)).toNat < 32) (hn : ((Cert.Kernel2Ideal.Moe.args m c).nr (ix1 0)).toNat ≤ 164)
    (i : Cert.Kernel2Ideal.S671744x128.Idx) :
    Cert.Reference2Ideal.Value.res_main_v71 (F := Ideal) m' c i = Cert.Kernel2Ideal.Moe.outArr m c i := by
  obtain ⟨r, l, rfl⟩ : ∃ (r : Fin 671744) (l : Fin 128), i = ix2 r l := ⟨i 0, i 1, by funext a; fin_cases a <;> rfl⟩
  rw [← hA] at hw hn
  refine (Cert.Reference2Ideal.Moe.out71 m' c hw hn r l).trans ?_
  rw [hA]
  rfl

set_option maxHeartbeats 4000000 in
theorem algebraic2 : Cert.algebraic_Kernel2Ideal_Reference2Ideal := fun m g m' g' hpre hargs => by
  have hP : Cert.Kernel2Ideal.Moe.Pre m := hpre
  refine ⟨Cert.Kernel2Ideal.Moe.outArr m, ?_, ?_⟩
  · refine (θ_run Cert.Kernel2Ideal.defs _ _).mono (fun r h c => ?_) (θ_run_and (run_kernel2 m g hP) (frame_ideal2 m g hpre))
    exact ⟨h.1 c, h.2.1 c⟩
  · refine (θ_run Cert.Reference2Ideal.defs _ _).mono (fun r h c => ?_) (Cert.Reference2Ideal.Value.run (F := Ideal) m' g')
    obtain ⟨a0, a1, a2, a3, a4, a5, a6⟩ := hargs c
    have hA := args2_eq m m' c a0 a1 a2 a3 a4 a5 a6
    obtain ⟨n0, _, n2⟩ := Cert.Kernel2Ideal.Moe.routed_numbers _ _ _ _ _ _ _ (hP c)
    exact ⟨(h c).1.trans (funext fun i => ref2_out m m' c hA n0 n2 i), (h c).2⟩

/-! ## The preparation of the experts' weights -/

set_option maxHeartbeats 4000000 in
theorem frame_kernel3 : Cert.quiescent_Kernel3 := fun m ρ _ =>
  Eq.mp (by sl_kernel_rfl) (Cert.Kernel3Ideal.Gen.frame (F := Bits) m ρ)
theorem frame_ideal3 : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun _ h => ⟨fun c => (h c).2.2, Idealize.ShloMosaic.sem_eq_zero_of_no_sems (by decide) _⟩)
    (Cert.Reference3Ideal.Value.run (F := Ideal) m ρ)

set_option maxHeartbeats 4000000 in
theorem algebraic3 : Cert.algebraic_Kernel3Ideal_Reference3Ideal := fun m g m' g' _ hargs => by
  refine ⟨Cert.Kernel3Ideal.Prep.out1 m, Cert.Kernel3Ideal.Prep.A2 m, ?_, ?_⟩
  · refine (θ_run Cert.Kernel3Ideal.defs _ _).mono (fun r h c => ?_) (Cert.Kernel3Ideal.Value.run_blocks (F := Ideal) m g)
    exact ⟨(h c).1.trans (Cert.Kernel3Ideal.Prep.final2 m c), (h c).2.1.trans (Cert.Kernel3Ideal.Prep.final3 m c), (h c).2.2⟩
  · refine (θ_run Cert.Reference3Ideal.defs _ _).mono (fun r h c => ?_) (Cert.Reference3Ideal.Value.run (F := Ideal) m' g')
    refine ⟨(h c).1.trans (funext fun i => ?_), (h c).2.1.trans (funext fun i => ?_), (h c).2.2⟩
    · exact (Cert.Reference3Ideal.Prep.out3 _ i).trans (congrFun (hargs c).1 _)
    · exact congrFun (hargs c).2 i

/-! ## The sample rows' product with the input projection -/

set_option maxHeartbeats 4000000 in
theorem frame_kernel4 : Cert.quiescent_Kernel4 := fun m ρ _ =>
  Eq.mp (by sl_kernel_rfl) (Cert.Kernel4Ideal.Gen.frame (F := Bits) m ρ)
theorem frame_ideal4 : Cert.quiescent_Kernel4Ideal := fun m ρ _ => Cert.Kernel4Ideal.Gen.frame (F := Ideal) m ρ
theorem frame_reference4 : Cert.quiescent_Reference4Ideal := fun m ρ _ =>
  (θ_run Cert.Reference4Ideal.defs _ _).mono (fun _ h => ⟨fun c => (h c).2, Idealize.ShloMosaic.sem_eq_zero_of_no_sems (by decide) _⟩)
    (Cert.Reference4Ideal.Value.run (F := Ideal) m ρ)

theorem ref4_out (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : Cert.Reference4Ideal.Rows.X m' c = Cert.Kernel4Ideal.Rows.X m c) (h1 : Cert.Reference4Ideal.Rows.W m' c = Cert.Kernel4Ideal.Rows.W m c)
    (i : Cert.Kernel4Ideal.S512x3072.Idx) :
    Cert.Reference4Ideal.Value.res_main_v14 (F := Ideal) m' c i = Cert.Kernel4Ideal.Rows.outArr m c i := by
  obtain ⟨r, j, rfl⟩ : ∃ (r : Fin 512) (j : Fin 3072), i = ix2 r j := ⟨i 0, i 1, by funext a; fin_cases a <;> rfl⟩
  refine (Cert.Reference4Ideal.Rows.out14 m' c r j).trans ?_
  rw [h0, h1]
  rfl

set_option maxHeartbeats 4000000 in
theorem algebraic4 : Cert.algebraic_Kernel4Ideal_Reference4Ideal := fun m g m' g' _ hargs => by
  refine ⟨Cert.Kernel4Ideal.Rows.outArr m, ?_, ?_⟩
  · refine (θ_run Cert.Kernel4Ideal.defs _ _).mono (fun r h c => ?_) (Cert.Kernel4Ideal.Value.run_blocks (F := Ideal) m g)
    exact ⟨(h c).1.trans (Cert.Kernel4Ideal.Rows.final2 m c), (h c).2⟩
  · refine (θ_run Cert.Reference4Ideal.defs _ _).mono (fun r h c => ?_) (Cert.Reference4Ideal.Value.run (F := Ideal) m' g')
    exact ⟨(h c).1.trans (funext fun i => ref4_out m m' c (hargs c).1 (hargs c).2 i), (h c).2⟩

/-! ## The discretisation of the S5 mixer -/

set_option maxHeartbeats 4000000 in
theorem frame_kernel5 : Cert.quiescent_Kernel5 := fun m ρ _ =>
  Eq.mp (by sl_kernel_rfl) (Cert.Kernel5Ideal.Gen.frame (F := Bits) m ρ)
theorem frame_ideal5 : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun _ h => ⟨fun c => (h c).2.2.2.2, Idealize.ShloMosaic.sem_eq_zero_of_no_sems (by decide) _⟩)
    (Cert.Reference5Ideal.Value.run (F := Ideal) m ρ)

set_option maxHeartbeats 4000000 in
theorem algebraic5 : Cert.algebraic_Kernel5Ideal_Reference5Ideal := fun m g m' g' _ hargs => by
  refine ⟨Cert.Kernel5Ideal.Disc.arr5 m, Cert.Kernel5Ideal.Disc.arr6 m, Cert.Kernel5Ideal.Disc.arr7 m, Cert.Kernel5Ideal.Disc.arr8 m, ?_, ?_⟩
  · refine (θ_run Cert.Kernel5Ideal.defs _ _).mono (fun r h c => ?_) (Cert.Kernel5Ideal.Value.run_blocks (F := Ideal) m g)
    obtain ⟨r5, r6, r7, r8, rest⟩ := h c
    exact ⟨r5.trans (Cert.Kernel5Ideal.Disc.final5 m c), r6.trans (Cert.Kernel5Ideal.Disc.final6 m c),
      r7.trans (Cert.Kernel5Ideal.Disc.final7 m c), r8.trans (Cert.Kernel5Ideal.Disc.final8 m c), rest⟩
  · refine (θ_run Cert.Reference5Ideal.defs _ _).mono (fun r h c => ?_) (Cert.Reference5Ideal.Value.run (F := Ideal) m' g')
    obtain ⟨a0, a1, a2, a3, a4⟩ := hargs c
    obtain ⟨r5, r6, r7, r8, rest⟩ := h c
    refine ⟨r5.trans (funext fun i => ?_), r6.trans (funext fun i => ?_), r7.trans (funext fun i => ?_), r8.trans (funext fun i => ?_), rest⟩
    · obtain ⟨r, k, rfl⟩ : ∃ (r : Fin 64) (k : Fin 1024), i = ix2 r k := ⟨i 0, i 1, by funext a; fin_cases a <;> rfl⟩
      exact (Cert.Reference5Ideal.Disc.out5 _ _ _ r k).trans (congr (congr (congrArg Cert.DiscSpec.abr (congrFun a0 _)) (congrFun a1 _)) (congrFun a2 _))
    · obtain ⟨r, k, rfl⟩ : ∃ (r : Fin 64) (k : Fin 1024), i = ix2 r k := ⟨i 0, i 1, by funext a; fin_cases a <;> rfl⟩
      exact (Cert.Reference5Ideal.Disc.out6 _ _ _ r k).trans (congr (congr (congrArg Cert.DiscSpec.abi (congrFun a0 _)) (congrFun a1 _)) (congrFun a2 _))
    · obtain ⟨r, k, rfl⟩ : ∃ (r : Fin 64) (k : Fin 1024), i = ix2 r k := ⟨i 0, i 1, by funext a; fin_cases a <;> rfl⟩
      exact (Cert.Reference5Ideal.Disc.out7 _ _ _ _ _ r k).trans (congr (congr (congr (congr (congrArg Cert.DiscSpec.bbr (congrFun a0 _)) (congrFun a1 _)) (congrFun a2 _)) (congrFun a3 _)) (congrFun a4 _))
    · obtain ⟨r, k, rfl⟩ : ∃ (r : Fin 64) (k : Fin 1024), i = ix2 r k := ⟨i 0, i 1, by funext a; fin_cases a <;> rfl⟩
      exact (Cert.Reference5Ideal.Disc.out8 _ _ _ _ _ r k).trans (congr (congr (congr (congr (congrArg Cert.DiscSpec.bbi (congrFun a0 _)) (congrFun a1 _)) (congrFun a2 _)) (congrFun a3 _)) (congrFun a4 _))

/-! ## The input projection of the prompt -/

set_option maxHeartbeats 4000000 in
theorem frame_kernel6 : Cert.quiescent_Kernel6 := fun m ρ _ =>
  Eq.mp (by sl_kernel_rfl) (Cert.Kernel6Ideal.Prompt.frame (F := Bits) m ρ)
theorem frame_ideal6 : Cert.quiescent_Kernel6Ideal := fun m ρ _ => Cert.Kernel6Ideal.Prompt.frame (F := Ideal) m ρ
theorem frame_reference6 : Cert.quiescent_Reference6Ideal := fun m ρ _ =>
  (θ_run Cert.Reference6Ideal.defs _ _).mono (fun _ h => ⟨fun c => (h c).2.2.2, Idealize.ShloMosaic.sem_eq_zero_of_no_sems (by decide) _⟩)
    (Cert.Reference6Ideal.Value.run (F := Ideal) m ρ)

theorem algebraic6 : Cert.algebraic_Kernel6Ideal_Reference6Ideal := fun m g m' g' _ hargs => by
  refine ⟨fun c => Cert.PromptSpec.arrG (Cert.Kernel6Ideal.Prompt.X m c) (Cert.Kernel6Ideal.Prompt.W m c),
    fun c => Cert.PromptSpec.arrP 1920 7 (by decide) (Cert.Kernel6Ideal.Prompt.X m c) (Cert.Kernel6Ideal.Prompt.W m c),
    fun c => Cert.PromptSpec.arrP 2816 2 (by decide) (Cert.Kernel6Ideal.Prompt.X m c) (Cert.Kernel6Ideal.Prompt.W m c),
    Cert.Kernel6Ideal.Prompt.run_values m g, ?_⟩
  refine (θ_run Cert.Reference6Ideal.defs _ _).mono (fun r h c => ?_) (Cert.Reference6Ideal.Prompt.run_values m' g')
  have h0 : Cert.Reference6Ideal.Prompt.X m' c = Cert.Kernel6Ideal.Prompt.X m c := (hargs c).1
  have h1 : Cert.Reference6Ideal.Prompt.W m' c = Cert.Kernel6Ideal.Prompt.W m c := (hargs c).2
  obtain ⟨r0, r1, r2, rest⟩ := h c
  rw [h0, h1] at r0 r1 r2
  exact ⟨r0, r1, r2, rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_routed.Gen.facts,
  frame_kernel, frame_ideal, frame_reference, frame_kernel2, frame_ideal2, frame_reference2, frame_reference2_pre,
  frame_kernel3, frame_ideal3, frame_reference3, frame_kernel4, frame_ideal4, frame_reference4,
  frame_kernel5, frame_ideal5, frame_reference5, frame_kernel6, frame_ideal6, frame_reference6,
  trivial, algebraic, trivial, algebraic2, trivial, algebraic3, trivial, algebraic4, trivial, algebraic5, trivial, algebraic6⟩

end Cert.Proof

end
